-- ==== Defs.lean ====
def Pre_Kernel [hPre_inputs : Cert.Pre_inputs.Facts] (m : (ℓ : Loc Cert.Kernel.nD Cert.Kernel.τ Cert.Kernel.sig) → Buf (Elt Bits) ℓ) : Prop :=
  ∀ c : Dev Cert.Kernel.nD,
    (Cert.Pre_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_inputs : Cert.Pre_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel) (hPre_inputs := hPre_inputs)
    ∧ quiescent_KernelIdeal (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal (hKernelIdeal := hKernelIdeal) (hReferenceIdeal := hReferenceIdeal) (hPre_inputs := hPre_inputs)
-- ==== Pre_inputs.lean ====
abbrev S50000x128 : Shape := ⟨2, ![50000, 128]⟩
abbrev S130816 : Shape := ⟨1, ![130816]⟩
abbrev S512 : Shape := ⟨1, ![512]⟩
abbrev S130816x128 : Shape := ⟨2, ![130816, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S130816 : S_.BroadcastsInDim S130816 (![] : Fin 0 → Fin S130816.rank)
  reducesTo_S130816_S_d0 : S130816.ReducesTo [0] S_
  h_S_ : 0 < S_.numel
  reducesTo_S512_S_d0 : S512.ReducesTo [0] S_

variable [Facts]

def fn {F : FTy → Type} [FloatOps F] (main_arg0 : FVec F S50000x128 .f32) (main_arg1 : IVec S130816 32) (main_arg2 : IVec S512 32) (main_arg3 : FVec F S130816x128 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) : IVec S_ 1 :=
  let main_c : IVec S_ 32 := constantI S_ 32 0#32
  let main_v0 : IVec S130816 32 := broadcastInDim S130816 ![] bcast_S_S130816 main_c
  let main_v1 : IVec S130816 1 := cmpi .sge main_arg1 main_v0
  let main_c_0 : IVec S_ 1 := constantI S_ 1 1#1
  let main_v2 : IVec S_ 1 := (fun x v => Host.reduce IntOp.andi x v reducesTo_S130816_S_d0 h_S_) main_v1 main_c_0
  let main_c_1 : IVec S_ 32 := constantI S_ 32 50000#32
  let main_v3 : IVec S130816 32 := broadcastInDim S130816 ![] bcast_S_S130816 main_c_1
  let main_v4 : IVec S130816 1 := cmpi .slt main_arg1 main_v3
  let main_c_2 : IVec S_ 1 := constantI S_ 1 1#1
  let main_v5 : IVec S_ 1 := (fun x v => Host.reduce IntOp.andi x v reducesTo_S130816_S_d0 h_S_) main_v4 main_c_2
  let main_v6 : IVec S_ 1 := andi main_v2 main_v5
  let main_v7 : IVec S512 32 := iotaInDim S512 32 0
  let main_v8 : IVec S512 1 := cmpi .eq main_arg2 main_v7
  let main_c_3 : IVec S_ 1 := constantI S_ 1 1#1
  let main_v9 : IVec S_ 1 := (fun x v => Host.reduce IntOp.andi x v reducesTo_S512_S_d0 h_S_) main_v8 main_c_3
  let main_v10 : IVec S_ 1 := andi main_v6 main_v9
  main_v10
-- ==== Kernel.lean ====
abbrev S50000x128 : Shape := ⟨2, ![50000, 128]⟩
abbrev S130816 : Shape := ⟨1, ![130816]⟩
abbrev S512 : Shape := ⟨1, ![512]⟩
abbrev S130816x128 : Shape := ⟨2, ![130816, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S36 : Shape := ⟨1, ![36]⟩
abbrev S73x1x128 : Shape := ⟨3, ![73, 1, 128]⟩
abbrev S37 : Shape := ⟨1, ![37]⟩
abbrev S1x256 : Shape := ⟨2, ![1, 256]⟩
abbrev S1x128 : Shape := ⟨2, ![1, 128]⟩
abbrev S64512x128 : Shape := ⟨2, ![64512, 128]⟩
abbrev S2016 : Shape := ⟨1, ![2016]⟩
abbrev S2x448x128 : Shape := ⟨3, ![2, 448, 128]⟩
abbrev S_ : Shape := ⟨0, ![]⟩
abbrev S1x448x128 : Shape := ⟨3, ![1, 448, 128]⟩
abbrev S448x128 : Shape := ⟨2, ![448, 128]⟩
abbrev S448 : Shape := ⟨1, ![448]⟩
abbrev S1x224x128 : Shape := ⟨3, ![1, 224, 128]⟩
abbrev S224x128 : Shape := ⟨2, ![224, 128]⟩
abbrev S224 : Shape := ⟨1, ![224]⟩
abbrev S66304x128 : Shape := ⟨2, ![66304, 128]⟩
abbrev S2072 : Shape := ⟨1, ![2072]⟩
abbrev S1x280x128 : Shape := ⟨3, ![1, 280, 128]⟩
abbrev S280x128 : Shape := ⟨2, ![280, 128]⟩
abbrev S280 : Shape := ⟨1, ![280]⟩
abbrev S640x256 : Shape := ⟨2, ![640, 256]⟩
abbrev S512x128 : Shape := ⟨2, ![512, 128]⟩
abbrev S1792x128 : Shape := ⟨2, ![1792, 128]⟩
abbrev S1x1x128 : Shape := ⟨3, ![1, 1, 128]⟩
abbrev S1792x256 : Shape := ⟨2, ![1792, 256]⟩
abbrev S1 : Shape := ⟨1, ![1]⟩
abbrev S512x256 : Shape := ⟨2, ![512, 256]⟩

abbrev nBuf : Table → Nat
  | .hbm => 34
  | .local .tc .vmem => 44
  | .local .tc .smem => 2
  | .local .scVector .vmem => 4
  | _ => 0

abbrev bufTy : (tb : Table) → Fin (nBuf tb) → BufTy
  | .hbm, ⟨0, _⟩ => ⟨S50000x128, .f32⟩
  | .hbm, ⟨1, _⟩ => ⟨S130816, .i32⟩
  | .hbm, ⟨2, _⟩ => ⟨S512, .i32⟩
  | .hbm, ⟨3, _⟩ => ⟨S130816x128, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S73x1x128, .i32⟩
  | .hbm, ⟨15, _⟩ => ⟨S73x1x128, .i32⟩
  | .hbm, ⟨16, _⟩ => ⟨S128x256, .f32⟩
  | .hbm, ⟨17, _⟩ => ⟨S128x256, .bf16⟩
  | .hbm, ⟨18, _⟩ => ⟨S128x256, .f32⟩
  | .hbm, ⟨19, _⟩ => ⟨S128x256, .bf16⟩
  | .hbm, ⟨20, _⟩ => ⟨S1x256, .f32⟩
  | .hbm, ⟨21, _⟩ => ⟨S256x256, .bf16⟩
  | .hbm, ⟨22, _⟩ => ⟨S1x256, .f32⟩
  | .hbm, ⟨23, _⟩ => ⟨S1x128, .f32⟩
  | .hbm, ⟨24, _⟩ => ⟨S1x256, .f32⟩
  | .hbm, ⟨25, _⟩ => ⟨S1x128, .f32⟩
  | .hbm, ⟨26, _⟩ => ⟨S64512x128, .f32⟩
  | .hbm, ⟨27, _⟩ => ⟨S66304x128, .f32⟩
  | .hbm, ⟨28, _⟩ => ⟨S_, .f32⟩
  | .hbm, ⟨29, _⟩ => ⟨S640x256, .f32⟩
  | .hbm, ⟨30, _⟩ => ⟨S512x128, .f32⟩
  | .hbm, ⟨31, _⟩ => ⟨S640x256, .f32⟩
  | .hbm, ⟨32, _⟩ => ⟨S512x128, .f32⟩
  | .hbm, ⟨33, _⟩ => ⟨S640x256, .f32⟩
  | .local .tc .vmem, ⟨0, _⟩ => ⟨S1792x128, .f32⟩
  | .local .tc .vmem, ⟨1, _⟩ => ⟨S1792x128, .f32⟩
  | .local .tc .vmem, ⟨2, _⟩ => ⟨S1792x128, .f32⟩
  | .local .tc .vmem, ⟨3, _⟩ => ⟨S1792x128, .f32⟩
  | .local .tc .vmem, ⟨4, _⟩ => ⟨S1x1x128, .i32⟩
  | .local .tc .vmem, ⟨5, _⟩ => ⟨S1x1x128, .i32⟩
  | .local .tc .vmem, ⟨6, _⟩ => ⟨S1x1x128, .i32⟩
  | .local .tc .vmem, ⟨7, _⟩ => ⟨S1x1x128, .i32⟩
  | .local .tc .vmem, ⟨8, _⟩ => ⟨S640x256, .f32⟩
  | .local .tc .vmem, ⟨9, _⟩ => ⟨S128x256, .bf16⟩
  | .local .tc .vmem, ⟨10, _⟩ => ⟨S128x256, .bf16⟩
  | .local .tc .vmem, ⟨11, _⟩ => ⟨S1x256, .f32⟩
  | .local .tc .vmem, ⟨12, _⟩ => ⟨S256x256, .bf16⟩
  | .local .tc .vmem, ⟨13, _⟩ => ⟨S1x256, .f32⟩
  | .local .tc .vmem, ⟨14, _⟩ => ⟨S256x128, .f32⟩
  | .local .tc .vmem, ⟨15, _⟩ => ⟨S1x128, .f32⟩
  | .local .tc .vmem, ⟨16, _⟩ => ⟨S128x256, .f32⟩
  | .local .tc .vmem, ⟨17, _⟩ => ⟨S1x256, .f32⟩
  | .local .tc .vmem, ⟨18, _⟩ => ⟨S256x128, .f32⟩
  | .local .tc .vmem, ⟨19, _⟩ => ⟨S1x128, .f32⟩
  | .local .tc .vmem, ⟨20, _⟩ => ⟨S512x128, .f32⟩
  | .local .tc .vmem, ⟨21, _⟩ => ⟨S640x256, .f32⟩
  | .local .tc .vmem, ⟨22, _⟩ => ⟨S1792x128, .f32⟩
  | .local .tc .vmem, ⟨23, _⟩ => ⟨S1792x128, .f32⟩
  | .local .tc .vmem, ⟨24, _⟩ => ⟨S1792x128, .f32⟩
  | .local .tc .vmem, ⟨25, _⟩ => ⟨S1792x128, .f32⟩
  | .local .tc .vmem, ⟨26, _⟩ => ⟨S1x1x128, .i32⟩
  | .local .tc .vmem, ⟨27, _⟩ => ⟨S1x1x128, .i32⟩
  | .local .tc .vmem, ⟨28, _⟩ => ⟨S1x1x128, .i32⟩
  | .local .tc .vmem, ⟨29, _⟩ => ⟨S1x1x128, .i32⟩
  | .local .tc .vmem, ⟨30, _⟩ => ⟨S640x256, .f32⟩
  | .local .tc .vmem, ⟨31, _⟩ => ⟨S128x256, .bf16⟩
  | .local .tc .vmem, ⟨32, _⟩ => ⟨S128x256, .bf16⟩
  | .local .tc .vmem, ⟨33, _⟩ => ⟨S1x256, .f32⟩
  | .local .tc .vmem, ⟨34, _⟩ => ⟨S256x256, .bf16⟩
  | .local .tc .vmem, ⟨35, _⟩ => ⟨S1x256, .f32⟩
  | .local .tc .vmem, ⟨36, _⟩ => ⟨S256x128, .f32⟩
  | .local .tc .vmem, ⟨37, _⟩ => ⟨S1x128, .f32⟩
  | .local .tc .vmem, ⟨38, _⟩ => ⟨S128x256, .f32⟩
  | .local .tc .vmem, ⟨39, _⟩ => ⟨S1x256, .f32⟩
  | .local .tc .vmem, ⟨40, _⟩ => ⟨S256x128, .f32⟩
  | .local .tc .vmem, ⟨41, _⟩ => ⟨S1x128, .f32⟩
  | .local .tc .vmem, ⟨42, _⟩ => ⟨S512x128, .f32⟩
  | .local .tc .vmem, ⟨43, _⟩ => ⟨S640x256, .f32⟩
  | .local .tc .smem, ⟨0, _⟩ => ⟨S36, .i32⟩
  | .local .tc .smem, ⟨1, _⟩ => ⟨S37, .i32⟩
  | .local .scVector .vmem, ⟨0, _⟩ => ⟨S2016, .i32⟩
  | .local .scVector .vmem, ⟨1, _⟩ => ⟨S2x448x128, .f32⟩
  | .local .scVector .vmem, ⟨2, _⟩ => ⟨S2072, .i32⟩
  | .local .scVector .vmem, ⟨3, _⟩ => ⟨S2x448x128, .f32⟩
  | _, _ => ⟨S50000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 58 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTables nBuf rfl bufTy 4 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c_0 : Ref sig .tc := ⟨.hbm, 14, rfl⟩
abbrev main_c_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14_0 : Ref sig .tc := ⟨.hbm, 32, rfl⟩
abbrev main_v14_1 : Ref sig .tc := ⟨.hbm, 33, rfl⟩
abbrev main_c : Ref sig .tc := ⟨.smem, 0, rfl⟩
abbrev main_c_2 : Ref sig .tc := ⟨.smem, 1, rfl⟩
abbrev main_arg0_scv : Ref sig .scVector := ⟨.hbm, 0, rfl⟩
abbrev main_arg1_scv : Ref sig .scVector := ⟨.hbm, 1, rfl⟩
abbrev main_v10_scv : Ref sig .scVector := ⟨.hbm, 26, rfl⟩
abbrev main_v11_scv : Ref sig .scVector := ⟨.hbm, 27, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc2_stg9_0 : Ref sig .tc := ⟨.vmem, 13, rfl⟩
abbrev cc2_stg10_0 : Ref sig .tc := ⟨.vmem, 14, rfl⟩
abbrev cc2_stg11_0 : Ref sig .tc := ⟨.vmem, 15, rfl⟩
abbrev cc2_stg12_0 : Ref sig .tc := ⟨.vmem, 16, rfl⟩
abbrev cc2_stg13_0 : Ref sig .tc := ⟨.vmem, 17, rfl⟩
abbrev cc2_stg14_0 : Ref sig .tc := ⟨.vmem, 18, rfl⟩
abbrev cc2_stg15_0 : Ref sig .tc := ⟨.vmem, 19, rfl⟩
abbrev cc2_stg16_0 : Ref sig .tc := ⟨.vmem, 20, rfl⟩
abbrev cc2_stg17_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg12_0 : Ref sig .tc := ⟨.vmem, 38, rfl⟩
abbrev cc3_stg13_0 : Ref sig .tc := ⟨.vmem, 39, rfl⟩
abbrev cc3_stg14_0 : Ref sig .tc := ⟨.vmem, 40, rfl⟩
abbrev cc3_stg15_0 : Ref sig .tc := ⟨.vmem, 41, rfl⟩
abbrev cc3_stg16_0 : Ref sig .tc := ⟨.vmem, 42, rfl⟩
abbrev cc3_stg17_0 : Ref sig .tc := ⟨.vmem, 43, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem11_0 : DmaSem sig := 51
abbrev cc3_sem12_0 : DmaSem sig := 52
abbrev cc3_sem13_0 : DmaSem sig := 53
abbrev cc3_sem14_0 : DmaSem sig := 54
abbrev cc3_sem15_0 : DmaSem sig := 55
abbrev cc3_sem16_0 : DmaSem sig := 56
abbrev cc3_sem17_0 : DmaSem sig := 57
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2016_i32 : BitVec 32 := 2016#32
  let v2 : BitVec 32 := Scalar.muli v1 c2016_i32
  let v3 : BitVec 32 := Scalar.addi c0_i32 v2
  ![v3.toNat]
def k0_off2 (i : grid0.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2016_i32 : BitVec 32 := 2016#32
  let v2 : BitVec 32 := Scalar.muli v1 c2016_i32
  let v16 : BitVec 32 := Scalar.addi v2 c0_i32_16
  let c0_i32_20 : BitVec 32 := 0#32
  ![v16.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2016_i32 : BitVec 32 := 2016#32
  let v2 : BitVec 32 := Scalar.muli v1 c2016_i32
  let c1792_i32_108 : BitVec 32 := 1792#32
  let v90 : BitVec 32 := Scalar.addi v2 c1792_i32_108
  let c0_i32_112 : BitVec 32 := 0#32
  ![v90.toNat, 0]
abbrev grid1 : Pipeline.Grid := ⟨2, ![2, 16], ![false, false]⟩

def k1_off1 (i : grid1.Coords) : Fin 1 → Nat :=
  let c64512_i32 : BitVec 32 := 64512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2072_i32 : BitVec 32 := 2072#32
  let v2 : BitVec 32 := Scalar.muli v1 c2072_i32
  let v3 : BitVec 32 := Scalar.addi c64512_i32 v2
  ![v3.toNat]
def k1_off2 (i : grid1.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2072_i32 : BitVec 32 := 2072#32
  let v2 : BitVec 32 := Scalar.muli v1 c2072_i32
  let v16 : BitVec 32 := Scalar.addi v2 c0_i32_15
  let c0_i32_19 : BitVec 32 := 0#32
  ![v16.toNat, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2072_i32 : BitVec 32 := 2072#32
  let v2 : BitVec 32 := Scalar.muli v1 c2072_i32
  let c1792_i32_107 : BitVec 32 := 1792#32
  let v90 : BitVec 32 := Scalar.addi v2 c1792_i32_107
  let c0_i32_111 : BitVec 32 := 0#32
  ![v90.toNat, 0]
abbrev grid2 : Pipeline.Grid := ⟨1, ![36], ![false]⟩

abbrev pre2 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v47 : Index := Scalar.indexCast arg0
  ![v47.toNat]
def k2_mult1 (v48 : BitVec 32) : BitVec 32 :=
  v48

def k2_off2 (v48 : BitVec 32) : Fin 2 → Nat :=
  let v49 : BitVec 32 := v48
  let v50 : Index := Scalar.indexCast v49
  let c0_27 : Index := 0#32
  ![v50.toNat, 0]

def k2_chk1 (v48 : BitVec 32) : Prop :=
  (8 ∣ (k2_mult1 v48).toNat) ∧
  (∀ a, (k2_off2 v48) a + S128x256.size a ≤ S640x256.size a)
theorem k2_mult1_dvd : ∀ (v48 : BitVec 32) (k2_hw1 : k2_chk1 v48), 8 ∣ (k2_mult1 v48).toNat := fun v48 k2_hw1 => k2_hw1.1
theorem k2_off2_inb : ∀ (v48 : BitVec 32) (k2_hw1 : k2_chk1 v48), ∀ a, (k2_off2 v48) a + S128x256.size a ≤ S640x256.size a := fun v48 k2_hw1 => k2_hw1.2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc2_transform_3 (i : grid2.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1792x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1792x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S640x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S512x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S640x256 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev grid3 : Pipeline.Grid := ⟨1, ![37], ![false]⟩

abbrev pre3 : Pipeline.Prefetch sig := ⟨1, ![main_c_2.idx], fun | 0 => main_c_2.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v47 : Index := Scalar.indexCast arg0
  ![v47.toNat]
def k3_mult1 (v48 : BitVec 32) : BitVec 32 :=
  v48

def k3_off2 (v48 : BitVec 32) : Fin 2 → Nat :=
  let v49 : BitVec 32 := v48
  let v50 : Index := Scalar.indexCast v49
  let c0_27 : Index := 0#32
  ![v50.toNat, 0]

def k3_chk1 (v48 : BitVec 32) : Prop :=
  (8 ∣ (k3_mult1 v48).toNat) ∧
  (∀ a, (k3_off2 v48) a + S128x256.size a ≤ S640x256.size a)
theorem k3_mult1_dvd : ∀ (v48 : BitVec 32) (k3_hw1 : k3_chk1 v48), 8 ∣ (k3_mult1 v48).toNat := fun v48 k3_hw1 => k3_hw1.1
theorem k3_off2_inb : ∀ (v48 : BitVec 32) (k3_hw1 : k3_chk1 v48), ∀ a, (k3_off2 v48) a + S128x256.size a ≤ S640x256.size a := fun v48 k3_hw1 => k3_hw1.2

def k3_cond2 (i : grid3.Coords) : BitVec 1 :=
  let arg0 : BitVec 32 := BitVec.ofNat 32 (i 0).val
  let c36_i32 : BitVec 32 := 36#32
  let v56 : BitVec 1 := Scalar.cmpi .eq arg0 c36_i32
  let v57 : BitVec 32 := Scalar.extui v56
  let c0_i32_29 : BitVec 32 := 0#32
  let v58 : BitVec 1 := Scalar.cmpi .ne v57 c0_i32_29
  v58

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc3_transform_2 (i : grid3.Coords) : Fin 3 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  let c0_i32_1 : BitVec 32 := 0#32
  ![v0.toNat, c0_i32.toNat, c0_i32_0.toNat]

def cc3_transform_3 (i : grid3.Coords) : Fin 3 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  let c0_i32_1 : BitVec 32 := 0#32
  ![v0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1792x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1792x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x128 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S640x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S256x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S512x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S640x256 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S50000x128 : Shape := ⟨2, ![50000, 128]⟩
abbrev S130816 : Shape := ⟨1, ![130816]⟩
abbrev S512 : Shape := ⟨1, ![512]⟩
abbrev S130816x128 : Shape := ⟨2, ![130816, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩
abbrev S130816x1 : Shape := ⟨2, ![130816, 1]⟩
abbrev S1 : Shape := ⟨1, ![1]⟩
abbrev S1x1 : Shape := ⟨2, ![1, 1]⟩
abbrev S130816x256 : Shape := ⟨2, ![130816, 256]⟩
abbrev S1x256 : Shape := ⟨2, ![1, 256]⟩
abbrev S1x128 : Shape := ⟨2, ![1, 128]⟩
abbrev S511 : Shape := ⟨1, ![511]⟩
abbrev S512x1 : Shape := ⟨2, ![512, 1]⟩
abbrev S512x128 : Shape := ⟨2, ![512, 128]⟩
abbrev S512x256 : Shape := ⟨2, ![512, 256]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S130816, .i32⟩
  | .hbm, ⟨2, _⟩ => ⟨S512, .i32⟩
  | .hbm, ⟨3, _⟩ => ⟨S130816x128, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S_, .i32⟩
  | .hbm, ⟨15, _⟩ => ⟨S130816, .i32⟩
  | .hbm, ⟨16, _⟩ => ⟨S130816, .i1⟩
  | .hbm, ⟨17, _⟩ => ⟨S_, .i32⟩
  | .hbm, ⟨18, _⟩ => ⟨S130816, .i32⟩
  | .hbm, ⟨19, _⟩ => ⟨S130816, .i32⟩
  | .hbm, ⟨20, _⟩ => ⟨S130816, .i32⟩
  | .hbm, ⟨21, _⟩ => ⟨S130816x1, .i32⟩
  | .hbm, ⟨22, _⟩ => ⟨S1, .i32⟩
  | .hbm, ⟨23, _⟩ => ⟨S_, .i32⟩
  | .hbm, ⟨24, _⟩ => ⟨S130816x1, .i32⟩
  | .hbm, ⟨25, _⟩ => ⟨S130816x1, .i1⟩
  | .hbm, ⟨26, _⟩ => ⟨S1x1, .i32⟩
  | .hbm, ⟨27, _⟩ => ⟨S130816x1, .i32⟩
  | .hbm, ⟨28, _⟩ => ⟨S130816x1, .i1⟩
  | .hbm, ⟨29, _⟩ => ⟨S130816x1, .i1⟩
  | .hbm, ⟨30, _⟩ => ⟨S_, .i1⟩
  | .hbm, ⟨31, _⟩ => ⟨S130816, .i1⟩
  | .hbm, ⟨32, _⟩ => ⟨S130816x128, .f32⟩
  | .hbm, ⟨33, _⟩ => ⟨S130816x128, .i1⟩
  | .hbm, ⟨34, _⟩ => ⟨S_, .f32⟩
  | .hbm, ⟨35, _⟩ => ⟨S130816x128, .f32⟩
  | .hbm, ⟨36, _⟩ => ⟨S130816x128, .f32⟩
  | .hbm, ⟨37, _⟩ => ⟨S130816x256, .f32⟩
  | .hbm, ⟨38, _⟩ => ⟨S130816x256, .f32⟩
  | .hbm, ⟨39, _⟩ => ⟨S1x256, .f32⟩
  | .hbm, ⟨40, _⟩ => ⟨S130816x256, .f32⟩
  | .hbm, ⟨41, _⟩ => ⟨S130816x256, .f32⟩
  | .hbm, ⟨42, _⟩ => ⟨S_, .f32⟩
  | .hbm, ⟨43, _⟩ => ⟨S130816x256, .f32⟩
  | .hbm, ⟨44, _⟩ => ⟨S130816x256, .f32⟩
  | .hbm, ⟨45, _⟩ => ⟨S130816x256, .f32⟩
  | .hbm, ⟨46, _⟩ => ⟨S1x256, .f32⟩
  | .hbm, ⟨47, _⟩ => ⟨S130816x256, .f32⟩
  | .hbm, ⟨48, _⟩ => ⟨S130816x256, .f32⟩
  | .hbm, ⟨49, _⟩ => ⟨S_, .f32⟩
  | .hbm, ⟨50, _⟩ => ⟨S130816x256, .f32⟩
  | .hbm, ⟨51, _⟩ => ⟨S130816x256, .f32⟩
  | .hbm, ⟨52, _⟩ => ⟨S130816x128, .f32⟩
  | .hbm, ⟨53, _⟩ => ⟨S1x128, .f32⟩
  | .hbm, ⟨54, _⟩ => ⟨S130816x128, .f32⟩
  | .hbm, ⟨55, _⟩ => ⟨S130816x128, .f32⟩
  | .hbm, ⟨56, _⟩ => ⟨S512, .i32⟩
  | .hbm, ⟨57, _⟩ => ⟨S1, .i32⟩
  | .hbm, ⟨58, _⟩ => ⟨S511, .i32⟩
  | .hbm, ⟨59, _⟩ => ⟨S512, .i32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S512, .i32⟩
  | .hbm, ⟨64, _⟩ => ⟨S_, .i32⟩
  | .hbm, ⟨65, _⟩ => ⟨S_, .i32⟩
  | .hbm, ⟨66, _⟩ => ⟨S512, .i32⟩
  | .hbm, ⟨67, _⟩ => ⟨S_, .i32⟩
  | .hbm, ⟨68, _⟩ => ⟨S130816, .i32⟩
  | .hbm, ⟨69, _⟩ => ⟨S_, .i32⟩
  | .hbm, ⟨70, _⟩ => ⟨S512, .i32⟩
  | .hbm, ⟨71, _⟩ => ⟨S512, .i1⟩
  | .hbm, ⟨72, _⟩ => ⟨S_, .i32⟩
  | .hbm, ⟨73, _⟩ => ⟨S512, .i32⟩
  | .hbm, ⟨74, _⟩ => ⟨S512, .i32⟩
  | .hbm, ⟨75, _⟩ => ⟨S512, .i32⟩
  | .hbm, ⟨76, _⟩ => ⟨S512x1, .i32⟩
  | .hbm, ⟨77, _⟩ => ⟨S_, .i32⟩
  | .hbm, ⟨78, _⟩ => ⟨S512, .i32⟩
  | .hbm, ⟨79, _⟩ => ⟨S130816, .i32⟩
  | .hbm, ⟨80, _⟩ => ⟨S_, .i32⟩
  | .hbm, ⟨81, _⟩ => ⟨S_, .i32⟩
  | .hbm, ⟨82, _⟩ => ⟨S130816, .i32⟩
  | .hbm, ⟨83, _⟩ => ⟨S_, .i32⟩
  | .hbm, ⟨84, _⟩ => ⟨S130816, .i32⟩
  | .hbm, ⟨85, _⟩ => ⟨S130816, .i32⟩
  | .hbm, ⟨86, _⟩ => ⟨S_, .i32⟩
  | .hbm, ⟨87, _⟩ => ⟨S130816, .i32⟩
  | .hbm, ⟨88, _⟩ => ⟨S130816, .i1⟩
  | .hbm, ⟨89, _⟩ => ⟨S_, .i32⟩
  | .hbm, ⟨90, _⟩ => ⟨S130816, .i32⟩
  | .hbm, ⟨91, _⟩ => ⟨S130816, .i32⟩
  | .hbm, ⟨92, _⟩ => ⟨S130816, .i32⟩
  | .hbm, ⟨93, _⟩ => ⟨S130816x1, .i32⟩
  | .hbm, ⟨94, _⟩ => ⟨S1, .i32⟩
  | .hbm, ⟨95, _⟩ => ⟨S_, .i32⟩
  | .hbm, ⟨96, _⟩ => ⟨S130816x1, .i32⟩
  | .hbm, ⟨97, _⟩ => ⟨S130816x1, .i1⟩
  | .hbm, ⟨98, _⟩ => ⟨S1x1, .i32⟩
  | .hbm, ⟨99, _⟩ => ⟨S130816x1, .i32⟩
  | .hbm, ⟨100, _⟩ => ⟨S130816x1, .i1⟩
  | .hbm, ⟨101, _⟩ => ⟨S130816x1, .i1⟩
  | .hbm, ⟨102, _⟩ => ⟨S_, .i1⟩
  | .hbm, ⟨103, _⟩ => ⟨S130816, .i1⟩
  | .hbm, ⟨104, _⟩ => ⟨S130816, .i32⟩
  | .hbm, ⟨105, _⟩ => ⟨S_, .i32⟩
  | .hbm, ⟨106, _⟩ => ⟨S130816, .i32⟩
  | .hbm, ⟨107, _⟩ => ⟨S130816, .i32⟩
  | .hbm, ⟨108, _⟩ => ⟨S_, .f32⟩
  | .hbm, ⟨109, _⟩ => ⟨S512x128, .f32⟩
  | .hbm, ⟨110, _⟩ => ⟨S130816x1, .i32⟩
  | .hbm, ⟨111, _⟩ => ⟨S512x128, .f32⟩
  | .hbm, ⟨112, _⟩ => ⟨S512x256, .f32⟩
  | .hbm, ⟨113, _⟩ => ⟨S1x256, .f32⟩
  | .hbm, ⟨114, _⟩ => ⟨S512x256, .f32⟩
  | .hbm, ⟨115, _⟩ => ⟨S512x256, .f32⟩
  | .hbm, ⟨116, _⟩ => ⟨S_, .f32⟩
  | .hbm, ⟨117, _⟩ => ⟨S512x256, .f32⟩
  | .hbm, ⟨118, _⟩ => ⟨S512x256, .f32⟩
  | .hbm, ⟨119, _⟩ => ⟨S512x128, .f32⟩
  | .hbm, ⟨120, _⟩ => ⟨S1x128, .f32⟩
  | .hbm, ⟨121, _⟩ => ⟨S512x128, .f32⟩
  | .hbm, ⟨122, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call1_cst : Ref sig .tc := ⟨.hbm, 42, rfl⟩
abbrev main_call1_v0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_call2_cst : Ref sig .tc := ⟨.hbm, 49, rfl⟩
abbrev main_call2_v0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_call3_v0 : Ref sig .tc := ⟨.hbm, 57, rfl⟩
abbrev main_call3_v1 : Ref sig .tc := ⟨.hbm, 58, rfl⟩
abbrev main_v17 : Ref sig .tc := ⟨.hbm, 59, rfl⟩
abbrev main_c : Ref sig .tc := ⟨.hbm, 60, rfl⟩
abbrev main_v18 : Ref sig .tc := ⟨.hbm, 61, rfl⟩
abbrev main_c_0 : Ref sig .tc := ⟨.hbm, 62, rfl⟩
abbrev main_v19 : Ref sig .tc := ⟨.hbm, 63, rfl⟩
abbrev main_call4_call0_c : Ref sig .tc := ⟨.hbm, 64, rfl⟩
abbrev main_call4_call0_v0 : Ref sig .tc := ⟨.hbm, 65, rfl⟩
abbrev main_v20 : Ref sig .tc := ⟨.hbm, 66, rfl⟩
abbrev main_c_1 : Ref sig .tc := ⟨.hbm, 67, rfl⟩
abbrev main_v21 : Ref sig .tc := ⟨.hbm, 68, rfl⟩
abbrev main_c_2 : Ref sig .tc := ⟨.hbm, 69, rfl⟩
abbrev main_v22 : Ref sig .tc := ⟨.hbm, 70, rfl⟩
abbrev main_v23 : Ref sig .tc := ⟨.hbm, 71, rfl⟩
abbrev main_c_3 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_4 : Ref sig .tc := ⟨.hbm, 77, rfl⟩
abbrev main_v28 : Ref sig .tc := ⟨.hbm, 78, rfl⟩
abbrev main_v29 : Ref sig .tc := ⟨.hbm, 79, rfl⟩
abbrev main_call5_call0_c : Ref sig .tc := ⟨.hbm, 80, rfl⟩
abbrev main_call5_call0_v0 : Ref sig .tc := ⟨.hbm, 81, rfl⟩
abbrev main_v30 : Ref sig .tc := ⟨.hbm, 82, rfl⟩
abbrev main_c_5 : Ref sig .tc := ⟨.hbm, 83, rfl⟩
abbrev main_v31 : Ref sig .tc := ⟨.hbm, 84, rfl⟩
abbrev main_v32 : Ref sig .tc := ⟨.hbm, 85, rfl⟩
abbrev main_call6_c : Ref sig .tc := ⟨.hbm, 86, rfl⟩
abbrev main_call6_v0 : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_call6_c_1 : Ref sig .tc := ⟨.hbm, 94, rfl⟩
abbrev main_call6_c_2 : Ref sig .tc := ⟨.hbm, 95, rfl⟩
abbrev main_call6_v6 : Ref sig .tc := ⟨.hbm, 96, rfl⟩
abbrev main_call6_v7 : Ref sig .tc := ⟨.hbm, 97, rfl⟩
abbrev main_call6_v8 : Ref sig .tc := ⟨.hbm, 98, rfl⟩
abbrev main_call6_v9 : Ref sig .tc := ⟨.hbm, 99, rfl⟩
abbrev main_call6_v10 : Ref sig .tc := ⟨.hbm, 100, rfl⟩
abbrev main_call6_v11 : Ref sig .tc := ⟨.hbm, 101, rfl⟩
abbrev main_call6_c_3 : Ref sig .tc := ⟨.hbm, 102, rfl⟩
abbrev main_call6_v12 : Ref sig .tc := ⟨.hbm, 103, rfl⟩
abbrev main_call6_v13 : Ref sig .tc := ⟨.hbm, 104, rfl⟩
abbrev main_call6_c_4 : Ref sig .tc := ⟨.hbm, 105, rfl⟩
abbrev main_call6_v14 : Ref sig .tc := ⟨.hbm, 106, rfl⟩
abbrev main_v33 : Ref sig .tc := ⟨.hbm, 107, rfl⟩
abbrev main_cst : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_call7_cst : Ref sig .tc := ⟨.hbm, 116, rfl⟩
abbrev main_call7_v0 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩

abbrev nD : Nat := 1
abbrev τ : Topo := Topo.v7x

variable {F : FTy → Type} [FloatOps F]
-- ==== Proof.Setup.lean ====
/-
  What the whole proof is stated over: the program's SparseCore configuration, the resource algebra (the handshakes'
  rounds, the two TensorCore pipelines' rounds, the transfers' counters), the launch memory's names, and the two
  gathered arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The labels of the program below its SparseCore launches: the kernels and the two pipelines. -/
abbrev ΛP : Labels := Pipeline.Sig Λ₀ (Fin 2) fun p => (pcfgs (F := F) p).Adm
/-- The SparseCore calls. -/
abbrev K : SparseCore.Cfg τ sig (ΛP (F := F)) 2 := sc (F := F)
/-- The body table below the SparseCore launches. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The layout facts the launch theorem asks of the SparseCore calls. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_two (q : Fin 2) : (K (F := F)).nCore q = 2 := by match q with | 0 => rfl | 1 => rfl
theorem nSub_sixteen (q : Fin 2) : (K (F := F)).nSub q = 16 := by match q with | 0 => rfl | 1 => rfl

/-! ## The resource algebra -/

/-- The launch handshakes' rounds. -/
abbrev UH : Type := URounds (GSem nD τ sig) ℕ
/-- The TensorCore pipelines' rounds. -/
abbrev UP : Type := URounds (GSem nD τ sig) Unit
abbrev UU : Type := UH × (UP × Counters)

/-- The machine's algebra at this proof's choices. -/
abbrev MM (F : FTy → Type) : Type := MT nD τ sig (HIx 2) (Elt F) ℕ UU ℕ

local notation "𝕄" => MM F

abbrev EH : Emb UH (MM F) := embL
/-- The embedding of the pair (pipelines' rounds, counters). -/
abbrev ER : Emb (UP × Counters) (MM F) := embR
def EP : Emb UP (MM F) := (Emb.inl : Emb UP (UP × Counters)).trans ER
instance EP_landsIn : (EP (F := F)).LandsIn (upEmb : UEmb _ (MM F)) := by unfold EP; infer_instance

/-! ## The launch memory and the arrays the SparseCores touch -/

abbrev reprLoc (d : Dev nD) : Loc nD τ sig := (SparseCore.T d).loc main_arg0
abbrev gdLoc (d : Dev nD) : Loc nD τ sig := (SparseCore.T d).loc main_arg1
abbrev aLoc (d : Dev nD) : Loc nD τ sig := (SparseCore.T d).loc main_v10
abbrev bLoc (d : Dev nD) : Loc nD τ sig := (SparseCore.T d).loc main_v11

abbrev reprV : Memref sig .scVector .hbm S50000x128 .f32 := Memref.whole main_arg0_scv
abbrev gdV : Memref sig .scVector .hbm S130816 .i32 := Memref.whole main_arg1_scv
abbrev aV : Memref sig .scVector .hbm S64512x128 .f32 := Memref.whole main_v10_scv
abbrev bV : Memref sig .scVector .hbm S66304x128 .f32 := Memref.whole main_v11_scv

/-- The row of `repr` number `gd[r]`, at column `j` (row 0 where the number is no row). -/
def picked (x : S50000x128.Idx → Elt F .f32) (g : S130816.Idx → Elt F .i32) (r : Fin 130816) (j : Fin 128) : Elt F .f32 :=
  x (fun | 0 => Fin.ofNat 50000 (g (fun | 0 => r)).toNat | 1 => j)

/-- The first gathered array: rows 0 … 64511 of the list. -/
def gatherA (x : S50000x128.Idx → Elt F .f32) (g : S130816.Idx → Elt F .i32) : S64512x128.Idx → Elt F .f32 :=
  fun p => picked x g ((p 0).castLE (by decide)) (p 1)
/-- The second: rows 64512 … 130815. -/
def gatherB (x : S50000x128.Idx → Elt F .f32) (g : S130816.Idx → Elt F .i32) : S66304x128.Idx → Elt F .f32 :=
  fun p => picked x g ((Fin.natAdd 64512 (p 0)).cast rfl) (p 1)

end Cert.Proof.Run

end
-- ==== Proof.GatherA.lean ====
/-
  The first SparseCore call's task: one vector subcore fetches its 2016 row numbers, then gathers the rows they name in
  five chunks (four of 448, one of 224) through the two halves of its row buffer and stores each chunk to its place of
  the gathered array. What it leaves there is `gatherA`.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

namespace A

abbrev sV : Memref sig .scVector .vmem S2016 .i32 := Memref.whole cc0_scratch0
abbrev rV : Memref sig .scVector .vmem S2x448x128 .f32 := Memref.whole cc0_scratch1

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's row numbers, as the program slices them. -/
abbrev gdK (L : grid0.Coords) : Memref sig .scVector .hbm S2016 .i32 :=
  gdV.slice (Rect.unit (s := S130816) (k0_off1 L) S2016.size (k0_off1_inb L)) (fun _ => rfl)
/-- The task's places of the gathered array: four chunks of 448 rows and the last 224. -/
abbrev oK (L : grid0.Coords) (k : Fin 4) : Memref sig .scVector .hbm S448x128 .f32 :=
  aV.slice (Rect.unit (s := S64512x128) (k0_off2 L (BitVec.ofNat 32 (448 * k.val))) S448x128.size (k0_off2_inb L k)) (fun _ => rfl)
abbrev oT (L : grid0.Coords) : Memref sig .scVector .hbm S224x128 .f32 :=
  aV.slice (Rect.unit (s := S64512x128) (k0_off3 L) S224x128.size (k0_off3_inb L)) (fun _ => rfl)
/-- The halves of the row buffer, and the first half's first 224 rows. -/
abbrev row0 : Memref sig .scVector .vmem S448x128 .f32 :=
  (rV.slice (Rect.unit (s := S2x448x128) ![0, 0, 0] S1x448x128.size inb_S2x448x128_S1x448x128_0_0_0) (fun _ => rfl)).squeeze S448x128 squeezes_S1x448x128_S448x128
abbrev row1 : Memref sig .scVector .vmem S448x128 .f32 :=
  (rV.slice (Rect.unit (s := S2x448x128) ![1, 0, 0] S1x448x128.size inb_S2x448x128_S1x448x128_1_0_0) (fun _ => rfl)).squeeze S448x128 squeezes_S1x448x128_S448x128
abbrev rowT : Memref sig .scVector .vmem S224x128 .f32 :=
  (rV.slice (Rect.unit (s := S2x448x128) ![0, 0, 0] S1x224x128.size inb_S2x448x128_S1x224x128_0_0_0) (fun _ => rfl)).squeeze S224x128 squeezes_S1x224x128_S224x128
/-- The lists the five gathers read. -/
abbrev s0 : Memref sig .scVector .vmem S448 .i32 := sV.slice (Rect.unit (s := S2016) ![0] S448.size inb_S2016_S448_0) (fun _ => rfl)
abbrev s1 : Memref sig .scVector .vmem S448 .i32 := sV.slice (Rect.unit (s := S2016) ![448] S448.size inb_S2016_S448_448) (fun _ => rfl)
abbrev s2 : Memref sig .scVector .vmem S448 .i32 := sV.slice (Rect.unit (s := S2016) ![896] S448.size inb_S2016_S448_896) (fun _ => rfl)
abbrev s3 : Memref sig .scVector .vmem S448 .i32 := sV.slice (Rect.unit (s := S2016) ![1344] S448.size inb_S2016_S448_1344) (fun _ => rfl)
abbrev s4 : Memref sig .scVector .vmem S224 .i32 := sV.slice (Rect.unit (s := S2016) ![1792] S224.size inb_S2016_S224_1792) (fun _ => rfl)
/-- The table of rows, as the program slices it (all of it). -/
abbrev xAll : Memref sig .scVector .hbm S50000x128 .f32 :=
  reprV.slice (Rect.unit (s := S50000x128) ![0, 0] S50000x128.size inb_S50000x128_S50000x128_0_0) (fun _ => rfl)

/-! ## The task's own semaphores and scratch -/

/-- The task's DMA semaphores. -/
abbrev sems : List (SemLoc sig) :=
  [.dma cc0_scratch2.sem, .dma cc0_scratch3.sem, .dma cc0_scratch4.sem, .dma cc0_scratch5.sem, .dma cc0_scratch6.sem, .dma cc0_scratch7.sem, .dma cc0_scoped0.sem]

theorem ownSems0_cut :
    (ownSems0 (thr d L) : sProp 𝕄)
      = iprop((semVal (thr d L, .dma cc0_scratch2.sem) 0 ∗ semVal (thr d L, .dma cc0_scratch3.sem) 0 ∗ semVal (thr d L, .dma cc0_scratch4.sem) 0
            ∗ semVal (thr d L, .dma cc0_scratch5.sem) 0 ∗ semVal (thr d L, .dma cc0_scratch6.sem) 0 ∗ semVal (thr d L, .dma cc0_scratch7.sem) 0
            ∗ semVal (thr d L, .dma cc0_scoped0.sem) 0)
          ∗ bigSep (ownCells (thr d L) \ (sems.map fun s => ((thr d L, s) : GSem nD τ sig)).toFinset) fun g => semVal g 0) := by
  have hsub : (sems.map fun s => ((thr d L, s) : GSem nD τ sig)).toFinset ⊆ ownCells (thr d L) := by
    intro g hg
    obtain ⟨s, hs, rfl⟩ := List.mem_map.mp (List.mem_toFinset.mp hg)
    refine mem_ownCells.mpr ⟨rfl, ?_⟩
    have h : ∀ s ∈ sems, s.isScoped .scVector = true := by decide
    exact h s hs
  have hnd : (sems.map fun s => ((thr d L, s) : GSem nD τ sig)).Nodup :=
    List.Nodup.map (fun _ _ e => (Prod.mk.inj e).2) (by decide)
  unfold SparseCore.Cfg.ownSems0
  rw [SparseCore.bigSep_sdiff_split' hsub, bigSep_eq_bigSepL _ hnd]
  rfl

/-- The task's two scratch buffers, and the subcore's other buffers. -/
theorem ownBufs_cut :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The sets of rows -/

/-- The task's first row. -/
abbrev base (L : grid0.Coords) : ℕ := 4032 * (L 1).val + 2016 * (L 0).val

/-- Chunk `k` of the task's rows of the gathered array. -/
def chunk (L : grid0.Coords) (k : Fin 5) : Finset S64512x128.Idx :=
  Finset.univ.filter fun p => base L + 448 * k.val ≤ (p 0).val ∧ (p 0).val < base L + 448 * k.val + (if k = 4 then 224 else 448)

theorem set_oK (k : Fin 4) : (oK L k).view.set = chunk L k.castSucc := by
  ext p
  rw [show (oK L k).view.set = (Rect.unit (s := S64512x128) (k0_off2 L (BitVec.ofNat 32 (448 * k.val))) S448x128.size (k0_off2_inb L k)).set from
    (View.set_slice _ _).trans Finset.map_refl, Rect.mem_set_unit, k0_off2_eq, Fin.forall_fin_two, chunk, Finset.mem_filter, if_neg (fun h => absurd (congrArg Fin.val h) (by have := k.isLt; simp; omega))]
  have h1 := (p 1).isLt
  simp at h1 ⊢
  omega
theorem set_oT : (oT L).view.set = chunk L 4 := by
  ext p
  rw [show (oT L).view.set = (Rect.unit (s := S64512x128) (k0_off3 L) S224x128.size (k0_off3_inb L)).set from
    (View.set_slice _ _).trans Finset.map_refl, Rect.mem_set_unit, k0_off3_eq, Fin.forall_fin_two, chunk, Finset.mem_filter, if_pos rfl]
  have h1 := (p 1).isLt
  simp at h1 ⊢
  omega

/-- Piece `k` of the task's list. -/
def piece (k : Fin 5) : Finset S2016.Idx :=
  Finset.univ.filter fun p => 448 * k.val ≤ (p 0).val ∧ (p 0).val < 448 * k.val + (if k = 4 then 224 else 448)

theorem set_s0 : (s0).view.set = piece 0 := by
  ext p
  rw [show (s0).view.set = (Rect.unit (s := S2016) ![0] S448.size inb_S2016_S448_0).set from (View.set_slice _ _).trans Finset.map_refl,
    Rect.mem_set_unit, Fin.forall_fin_one, piece, Finset.mem_filter]
  simp
theorem set_s1 : (s1).view.set = piece 1 := by
  ext p
  rw [show (s1).view.set = (Rect.unit (s := S2016) ![448] S448.size inb_S2016_S448_448).set from (View.set_slice _ _).trans Finset.map_refl,
    Rect.mem_set_unit, Fin.forall_fin_one, piece, Finset.mem_filter]
  simp
theorem set_s2 : (s2).view.set = piece 2 := by
  ext p
  rw [show (s2).view.set = (Rect.unit (s := S2016) ![896] S448.size inb_S2016_S448_896).set from (View.set_slice _ _).trans Finset.map_refl,
    Rect.mem_set_unit, Fin.forall_fin_one, piece, Finset.mem_filter]
  simp
theorem set_s3 : (s3).view.set = piece 3 := by
  ext p
  rw [show (s3).view.set = (Rect.unit (s := S2016) ![1344] S448.size inb_S2016_S448_1344).set from (View.set_slice _ _).trans Finset.map_refl,
    Rect.mem_set_unit, Fin.forall_fin_one, piece, Finset.mem_filter]
  simp
theorem set_s4 : (s4).view.set = piece 4 := by
  ext p
  rw [show (s4).view.set = (Rect.unit (s := S2016) ![1792] S224.size inb_S2016_S224_1792).set from (View.set_slice _ _).trans Finset.map_refl,
    Rect.mem_set_unit, Fin.forall_fin_one, piece, Finset.mem_filter]
  simp

/-- The list held whole is its five pieces, each as the gather that reads it slices it. -/
theorem list_cut (u : Buf (Elt F) (sV.view.loc (thr d L))) :
    (sV.view.loc (thr d L) ↦{fullShare} u : sProp 𝕄)
      = iprop(((s0).view.loc (thr d L) ↦[(s0).view.set]{fullShare} u) ∗ ((s1).view.loc (thr d L) ↦[(s1).view.set]{fullShare} u)
          ∗ ((s2).view.loc (thr d L) ↦[(s2).view.set]{fullShare} u) ∗ ((s3).view.loc (thr d L) ↦[(s3).view.set]{fullShare} u)
          ∗ (s4).view.loc (thr d L) ↦[(s4).view.set]{fullShare} u) := by
  rw [set_s0, set_s1, set_s2, set_s3, set_s4]
  have hd : ∀ t ∈ (Finset.univ : Finset (Fin 5)), ∀ t' ∈ (Finset.univ : Finset (Fin 5)), t ≠ t' → Disjoint (piece t) (piece t') := by
    intro t _ t' _ h
    refine Finset.disjoint_left.mpr fun p hp hp' => h (Fin.ext ?_)
    have h1 := (Finset.mem_filter.mp hp).2
    have h2 := (Finset.mem_filter.mp hp').2
    split at h1 <;> split at h2 <;> omega
  have hc : (Finset.univ : Finset (Fin 5)).biUnion piece = Finset.univ := by
    refine Finset.eq_univ_of_forall fun p => Finset.mem_biUnion.mpr ?_
    have hp : (p 0).val < 2016 := (p 0).isLt
    refine ⟨⟨(p 0).val / 448, by omega⟩, Finset.mem_univ _, Finset.mem_filter.mpr ⟨Finset.mem_univ _, ?_⟩⟩
    have : ((⟨(p 0).val / 448, by omega⟩ : Fin 5) = 4) ↔ (p 0).val / 448 = 4 := Fin.ext_iff
    simp only [this]
    split <;> constructor <;> omega
  have e := pointsTo_biUnion (Ix := HIx 2) (Name := ℕ) (U := UU) (Lvl := ℕ) (q := fullShare) (f := u) Finset.univ (ℓ := sV.view.loc (thr d L)) piece hd
  rw [hc] at e
  rw [e, bigSep_univ_eq_bigSepL [(0 : Fin 5), 1, 2, 3, 4] (by decide) (by decide)]
  rfl

theorem set_row0 : (row0).view.set = Finset.univ.filter fun p : S2x448x128.Idx => (p 0).val = 0 := by
  ext p
  rw [show (row0).view.set = (Rect.unit (s := S2x448x128) ![0, 0, 0] S1x448x128.size inb_S2x448x128_S1x448x128_0_0_0).set from
    (View.set_reshape _ _).trans ((View.set_slice _ _).trans Finset.map_refl), Rect.mem_set_unit, Fin.forall_fin_succ, Fin.forall_fin_two, Finset.mem_filter]
  have h0 : (p 0).val < 2 := (p 0).isLt
  have h1 : (p 1).val < 448 := (p 1).isLt
  have h2 : (p 2).val < 128 := (p 2).isLt
  simp
  omega
theorem set_row1 : (row1).view.set = Finset.univ.filter fun p : S2x448x128.Idx => (p 0).val = 1 := by
  ext p
  rw [show (row1).view.set = (Rect.unit (s := S2x448x128) ![1, 0, 0] S1x448x128.size inb_S2x448x128_S1x448x128_1_0_0).set from
    (View.set_reshape _ _).trans ((View.set_slice _ _).trans Finset.map_refl), Rect.mem_set_unit, Fin.forall_fin_succ, Fin.forall_fin_two, Finset.mem_filter]
  have h0 : (p 0).val < 2 := (p 0).isLt
  have h1 : (p 1).val < 448 := (p 1).isLt
  have h2 : (p 2).val < 128 := (p 2).isLt
  simp
  omega
theorem set_rowT : (rowT).view.set ⊆ (row0).view.set := by
  intro p hp
  rw [show (rowT).view.set = (Rect.unit (s := S2x448x128) ![0, 0, 0] S1x224x128.size inb_S2x448x128_S1x224x128_0_0_0).set from
    (View.set_reshape _ _).trans ((View.set_slice _ _).trans Finset.map_refl), Rect.mem_set_unit, Fin.forall_fin_succ] at hp
  rw [set_row0, Finset.mem_filter]
  refine ⟨Finset.mem_univ _, ?_⟩
  have := hp.1
  simp at this
  omega
theorem rows_disjoint : Disjoint (row0).view.set (row1).view.set := by
  rw [set_row0, set_row1]
  refine Finset.disjoint_left.mpr fun p hp hp' => ?_
  have h1 := (Finset.mem_filter.mp hp).2
  have h2 := (Finset.mem_filter.mp hp').2
  omega
theorem rows_cover : (row0).view.set ∪ (row1).view.set = Finset.univ := by
  rw [set_row0, set_row1]
  refine Finset.eq_univ_of_forall fun p => Finset.mem_union.mpr ?_
  have h0 : (p 0).val < 2 := (p 0).isLt
  simp only [Finset.mem_filter, Finset.mem_univ, true_and]
  omega

/-- The row buffer held whole is its two halves. -/
theorem rows_cut (u : Buf (Elt F) (rV.view.loc (thr d L))) :
    ((thr d L).loc cc0_scratch1 ↦{fullShare} u : sProp 𝕄)
      ⊢ iprop(((row0).view.loc (thr d L) ↦[(row0).view.set]{fullShare} u) ∗ (row1).view.loc (thr d L) ↦[(row1).view.set]{fullShare} u) := by
  have e := pointsTo_union (Ix := HIx 2) (Name := ℕ) (U := UU) (Lvl := ℕ) (ℓ := (thr d L).loc cc0_scratch1) (q := fullShare) (f := u) rows_disjoint
  rw [rows_cover] at e
  exact e.1

/-- The halves, at whatever they hold, are the whole at something. -/
theorem rows_join (u v : Buf (Elt F) (rV.view.loc (thr d L))) :
    iprop(((row0).view.loc (thr d L) ↦[(row0).view.set]{fullShare} u) ∗ (row1).view.loc (thr d L) ↦[(row1).view.set]{fullShare} v)
      ⊢ (iprop(∃ w, (thr d L).loc cc0_scratch1 ↦{fullShare} w) : sProp 𝕄) := by
  have e := pointsTo_join (Ix := HIx 2) (Name := ℕ) (U := UU) (Lvl := ℕ) (ℓ := (thr d L).loc cc0_scratch1) (q := fullShare) (f := u) (g := v) rows_disjoint
  rw [rows_cover] at e
  refine e.trans ?_
  iintro H
  iexists _
  iexact H

/-! ## What the gathers carry -/

/-- A gathered chunk is the rows its list names. -/
theorem payload_row (x : S50000x128.Idx → Elt F .f32) (idx : S448.Idx → Elt F .i32) (hn) (h) (p : S448x128.Idx) :
    SparseCore.gatherPayload gathers_S50000x128_S448x128 (xAll.view.read (Elt F) x) (SparseCore.rows (si := S448) idx hn h) p
      = x (fun | 0 => ⟨(idx (fun | 0 => p 0) : BitVec 32).toNat, h _⟩ | 1 => p 1) := by
  have hr : S448.rowMajor.symm ((p 0).cast hn.symm) = (fun | 0 => p 0 : S448.Idx) := by
    rw [Equiv.symm_apply_eq]; exact Fin.ext (Shape.rowMajor_val_one (d := ![448]) (fun | 0 => p 0)).symm
  refine congrArg x (funext fun a => ?_)
  match a with
  | 0 =>
    refine Fin.ext ?_
    show 0 + 1 * (idx (S448.rowMajor.symm ((p 0).cast hn.symm)) : BitVec 32).toNat = (idx (fun | 0 => p 0) : BitVec 32).toNat
    rw [hr, Nat.zero_add, Nat.one_mul]
  | 1 => exact Fin.ext (show 0 + 1 * (p 1).val = (p 1).val by omega)
theorem payload_rowT (x : S50000x128.Idx → Elt F .f32) (idx : S224.Idx → Elt F .i32) (hn) (h) (p : S224x128.Idx) :
    SparseCore.gatherPayload gathers_S50000x128_S224x128 (xAll.view.read (Elt F) x) (SparseCore.rows (si := S224) idx hn h) p
      = x (fun | 0 => ⟨(idx (fun | 0 => p 0) : BitVec 32).toNat, h _⟩ | 1 => p 1) := by
  have hr : S224.rowMajor.symm ((p 0).cast hn.symm) = (fun | 0 => p 0 : S224.Idx) := by
    rw [Equiv.symm_apply_eq]; exact Fin.ext (Shape.rowMajor_val_one (d := ![224]) (fun | 0 => p 0)).symm
  refine congrArg x (funext fun a => ?_)
  match a with
  | 0 =>
    refine Fin.ext ?_
    show 0 + 1 * (idx (S224.rowMajor.symm ((p 0).cast hn.symm)) : BitVec 32).toNat = (idx (fun | 0 => p 0) : BitVec 32).toNat
    rw [hr, Nat.zero_add, Nat.one_mul]
  | 1 => exact Fin.ext (show 0 + 1 * (p 1).val = (p 1).val by omega)

/-- What the task's list of row numbers holds once fetched. -/
abbrev fetched (g : S130816.Idx → Elt F .i32) (L : grid0.Coords) : S2016.Idx → Elt F .i32 := (gdK L).view.read (Elt F) g

/-- The place's own reading of the gathered array. -/
theorem place_row (x : S50000x128.Idx → Elt F .f32) (g : S130816.Idx → Elt F .i32) (k : Fin 4) (p : S448x128.Idx) (w : S2016.Idx)
    (hw : (w 0).val = 448 * k.val + (p 0).val) (hlt : (fetched g L w : BitVec 32).toNat < 50000) :
    x (fun | 0 => ⟨(fetched g L w : BitVec 32).toNat, hlt⟩ | 1 => p 1) = (oK L k).view.read (Elt F) (gatherA x g) p := by
  have e0 : (k0_off2 L (BitVec.ofNat 32 (448 * k.val))) = _ := k0_off2_eq L k
  have e1 := k0_off1_eq L
  show _ = picked x g ((((oK L k).view.emb p) 0).castLE _) (((oK L k).view.emb p) 1)
  have hg : fetched g L w = g (fun | 0 => (((oK L k).view.emb p) 0).castLE (show 64512 ≤ 130816 by decide)) := by
    refine congrArg g (funext fun a => ?_)
    match a with
    | 0 =>
      refine Fin.ext ?_
      show k0_off1 L 0 + 1 * (w 0).val = k0_off2 L (BitVec.ofNat 32 (448 * k.val)) 0 + 1 * (p 0).val
      rw [e0, e1, hw]
      simp
      omega
  unfold picked
  refine congrArg x (funext fun a => ?_)
  match a with
  | 0 =>
    refine Fin.ext ?_
    show (fetched g L w : BitVec 32).toNat = (g _ : BitVec 32).toNat % 50000
    exact ((congrArg (fun z : BitVec 32 => z.toNat % 50000) hg).symm.trans (Nat.mod_eq_of_lt hlt)).symm
  | 1 =>
    refine Fin.ext ?_
    show (p 1).val = k0_off2 L (BitVec.ofNat 32 (448 * k.val)) 1 + 1 * (p 1).val
    rw [e0]
    simp
theorem place_rowT (x : S50000x128.Idx → Elt F .f32) (g : S130816.Idx → Elt F .i32) (p : S224x128.Idx) (w : S2016.Idx)
    (hw : (w 0).val = 1792 + (p 0).val) (hlt : (fetched g L w : BitVec 32).toNat < 50000) :
    x (fun | 0 => ⟨(fetched g L w : BitVec 32).toNat, hlt⟩ | 1 => p 1) = (oT L).view.read (Elt F) (gatherA x g) p := by
  have e0 : k0_off3 L = _ := k0_off3_eq L
  have e1 := k0_off1_eq L
  show _ = picked x g ((((oT L).view.emb p) 0).castLE _) (((oT L).view.emb p) 1)
  have hg : fetched g L w = g (fun | 0 => (((oT L).view.emb p) 0).castLE (show 64512 ≤ 130816 by decide)) := by
    refine congrArg g (funext fun a => ?_)
    match a with
    | 0 =>
      refine Fin.ext ?_
      show k0_off1 L 0 + 1 * (w 0).val = k0_off3 L 0 + 1 * (p 0).val
      rw [e0, e1, hw]
      simp
      omega
  unfold picked
  refine congrArg x (funext fun a => ?_)
  match a with
  | 0 =>
    refine Fin.ext ?_
    show (fetched g L w : BitVec 32).toNat = (g _ : BitVec 32).toNat % 50000
    exact ((congrArg (fun z : BitVec 32 => z.toNat % 50000) hg).symm.trans (Nat.mod_eq_of_lt hlt)).symm
  | 1 =>
    refine Fin.ext ?_
    show (p 1).val = k0_off3 L 1 + 1 * (p 1).val
    rw [e0]
    simp

/-- A place stored whole from a buffer just gathered into holds the gathered rows. -/
theorem stored_agree {κ κ' : Kind} {sp sp' : Space} {s : Shape} (o : View sig κ sp s .f32) (src : View sig κ' sp' s .f32) (f G : o.ty.Contents (Elt F))
    (fr : src.ty.Contents (Elt F)) (pl : s.Idx → Elt F .f32) (ls) (h : ∀ p, pl p = o.read (Elt F) G p) :
    ∀ i ∈ o.set, o.writes (Elt F) f [⟨Rect.whole s, ReadAs.same.apply (src.read (Elt F) (src.writes (Elt F) fr (⟨Rect.whole s, pl⟩ :: ls)))⟩] i = G i := by
  intro i hi
  obtain ⟨p, -, rfl⟩ := Finset.mem_map.mp hi
  suffices e : o.read (Elt F) (o.writes (Elt F) f [⟨Rect.whole s, ReadAs.same.apply (src.read (Elt F) (src.writes (Elt F) fr (⟨Rect.whole s, pl⟩ :: ls)))⟩]) p = o.read (Elt F) G p from
    (cast_bijective (congrArg (Elt F) o.elt_eq)).injective e
  rw [View.read_writes_whole, ← h p]
  have e := View.read_writes_cons_emb src fr (Rect.whole s) pl ls p
  rw [Rect.emb_whole_apply] at e
  exact e

/-! ## The task's run -/

/-- The chunks of the gathered array that are the task's, at contents `f`. -/
abbrev outPts (d : Dev nD) (L : grid0.Coords) (f : Buf (Elt F) (aLoc d)) : sProp 𝕄 :=
  iprop((aLoc d ↦[chunk L 0]{fullShare} f) ∗ (aLoc d ↦[chunk L 1]{fullShare} f) ∗ (aLoc d ↦[chunk L 2]{fullShare} f)
    ∗ (aLoc d ↦[chunk L 3]{fullShare} f) ∗ (aLoc d ↦[chunk L 4]{fullShare} f))

set_option maxHeartbeats 4000000 in
theorem tile_body (x : Buf (Elt F) (reprLoc d)) (g : Buf (Elt F) (gdLoc d)) (f : Buf (Elt F) (aLoc d)) (q : PosShare TreeShare)
    (hpre : ∀ j : S130816.Idx, (g j : BitVec 32).toNat < 50000)
    (O : CellTallies nD τ sig (HIx 2)) (W : Waits sig (HIx 2)) (hO : ∀ g, O g none = 0) :
    iprop(levAts (K (F := F)).L (K (F := F)).lev
        ∗ ((reprLoc d ↦{q} x) ∗ (gdLoc d ↦{q} g) ∗ outPts d L f)
        ∗ scopedBufs (thr d L) ∗ scopedSems0 (thr d L) ∗ owes (thr d L) O W)
      ⊢ wp frame (wpE (defs₀ (F := F)) 𝒱₀ (thr d L) none) Set.univ
          (cc0_gather_k L reprV (Memref.isWhole_whole _) gdV (Memref.isWhole_whole _) aV (Memref.isWhole_whole _)
            sV (Memref.isWhole_whole _) rV (Memref.isWhole_whole _)
            cc0_scratch2 cc0_scratch3 cc0_scratch4 cc0_scratch5 cc0_scratch6 cc0_scratch7 cc0_scoped0)
          fun _ => iprop(((reprLoc d ↦{q} x) ∗ (gdLoc d ↦{q} g) ∗ outPts d L (gatherA x g))
            ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V scFacts d (cV L) (jV L), SparseCore.Cfg.scopedSems0_V (Val := Elt F) d (cV L) (jV L), ownSems0_cut, ownBufs_cut]
  iintro ⟨#Hlv, ⟨Hx, Hg, Ho0, Ho1, Ho2, Ho3, Ho4⟩, ⟨⟨%fs, Hs⟩, ⟨%fr, Hr⟩, Hbufs⟩, ⟨⟨HA, HB, HC, HD, HE, HF, HG⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hg := (show (gdLoc d ↦{q} g : sProp 𝕄) ⊢ gdV.view.loc (thr d L) ↦{q} g from .rfl) $$ Hg
  ihave Hs := (show ((thr d L).loc cc0_scratch0 ↦{fullShare} fs : sProp 𝕄) ⊢ sV.view.loc (thr d L) ↦{fullShare} fs from .rfl) $$ Hs
  sl_exec
  ihave Hs := (Entails.of_eq (show (sV.view.loc (thr d L) ↦{fullShare} View.write (Elt F) sV.view fs (tile_body.sl.dma0 d L g) Finset.univ : sProp 𝕄)
      = sV.view.loc (thr d L) ↦{fullShare} fetched g L by rw [View.write_whole_univ]; rfl)) $$ Hs
  ihave Hs := (Entails.of_eq (list_cut d L (fetched g L))) $$ Hs
  icases Hs with ⟨Hs0, Hs1, Hs2, Hs3, Hs4⟩
  ihave Hr := (rows_cut d L fr) $$ Hr
  icases Hr with ⟨Hr0, Hr1⟩
  have hin : ∀ j, (fetched g L j : BitVec 32).toNat < 50000 := fun j => hpre _
  have hin0 : ∀ y, ((s0).view.read (Elt F) (fetched g L) y).toNat < S50000x128.size gathers_S50000x128_S448x128.axis := fun y => hin _
  have hin1 : ∀ y, ((s1).view.read (Elt F) (fetched g L) y).toNat < S50000x128.size gathers_S50000x128_S448x128.axis := fun y => hin _
  have hin2 : ∀ y, ((s2).view.read (Elt F) (fetched g L) y).toNat < S50000x128.size gathers_S50000x128_S448x128.axis := fun y => hin _
  have hin3 : ∀ y, ((s3).view.read (Elt F) (fetched g L) y).toNat < S50000x128.size gathers_S50000x128_S448x128.axis := fun y => hin _
  have hin4 : ∀ y, ((s4).view.read (Elt F) (fetched g L) y).toNat < S50000x128.size gathers_S50000x128_S224x128.axis := fun y => hin _
  ihave Hx := (pointsTo_share (PosShare.mem_left_op_right q)).1 $$ Hx
  icases Hx with ⟨HxL, HxR⟩
  ihave HxL := (show (reprLoc d ↦{q.left} x : sProp 𝕄) ⊢ reprV.view.loc (thr d L) ↦{q.left} x from .rfl) $$ HxL
  ihave HxR := (show (reprLoc d ↦{q.right} x : sProp 𝕄) ⊢ reprV.view.loc (thr d L) ↦{q.right} x from .rfl) $$ HxR
  ihave Ho0 := (Entails.of_eq (show (aLoc d ↦[chunk L 0]{fullShare} f : sProp 𝕄) = (oK L 0).view.loc (thr d L) ↦[(oK L 0).view.set]{fullShare} f by rw [set_oK]; rfl)) $$ Ho0
  ihave Ho1 := (Entails.of_eq (show (aLoc d ↦[chunk L 1]{fullShare} f : sProp 𝕄) = (oK L 1).view.loc (thr d L) ↦[(oK L 1).view.set]{fullShare} f by rw [set_oK]; rfl)) $$ Ho1
  ihave Ho2 := (Entails.of_eq (show (aLoc d ↦[chunk L 2]{fullShare} f : sProp 𝕄) = (oK L 2).view.loc (thr d L) ↦[(oK L 2).view.set]{fullShare} f by rw [set_oK]; rfl)) $$ Ho2
  ihave Ho3 := (Entails.of_eq (show (aLoc d ↦[chunk L 3]{fullShare} f : sProp 𝕄) = (oK L 3).view.loc (thr d L) ↦[(oK L 3).view.set]{fullShare} f by rw [set_oK]; rfl)) $$ Ho3
  ihave Ho4 := (Entails.of_eq (show (aLoc d ↦[chunk L 4]{fullShare} f : sProp 𝕄) = (oT L).view.loc (thr d L) ↦[(oT L).view.set]{fullShare} f by rw [set_oT])) $$ Ho4
  sl_exec
  ihave Hr0 := (pointsTo_split_subset (ℓ := rV.view.loc (thr d L)) set_rowT).1 $$ Hr0
  icases Hr0 with ⟨HrT, HrR⟩
  ihave HrT := (show ((rV.view.loc (thr d L) ↦[(rowT).view.set]{fullShare} _ : sProp 𝕄)) ⊢ (rowT).view.loc (thr d L) ↦[(rowT).view.set]{fullShare} _ from .rfl) $$ HrT
  sl_exec
  ihave Ho0 := (show ((oK L 0).view.loc (thr d L) ↦[(oK L 0).view.set]{fullShare} (oK L 0).view.writes (Elt F) f [⟨Rect.whole S448x128, tile_body.sl.dma0_1 d L x g fr hin0⟩] : sProp 𝕄)
      ⊢ aLoc d ↦[chunk L 0]{fullShare} gatherA x g from by
    rw [show chunk L 0 = (oK L 0).view.set from (set_oK L 0).symm]
    refine Entails.of_eq (pointsTo_congr (stored_agree (oK L 0).view (row0).view f (gatherA x g) _ _ _ fun p => ?_))
    refine (payload_row x _ _ _ p).trans ?_
    exact place_row L x g 0 p _ (show 0 + 1 * (p 0).val = 448 * 0 + (p 0).val by omega) (hin _)) $$ Ho0
  ihave Ho1 := (show ((oK L 1).view.loc (thr d L) ↦[(oK L 1).view.set]{fullShare} (oK L 1).view.writes (Elt F) f [⟨Rect.whole S448x128, tile_body.sl.dma0_2 d L x g fr hin1⟩] : sProp 𝕄)
      ⊢ aLoc d ↦[chunk L 1]{fullShare} gatherA x g from by
    rw [show chunk L 1 = (oK L 1).view.set from (set_oK L 1).symm]
    refine Entails.of_eq (pointsTo_congr (stored_agree (oK L 1).view (row1).view f (gatherA x g) _ _ _ fun p => ?_))
    refine (payload_row x _ _ _ p).trans ?_
    exact place_row L x g 1 p _ (show 448 + 1 * (p 0).val = 448 * 1 + (p 0).val by omega) (hin _)) $$ Ho1
  ihave Ho2 := (show ((oK L 2).view.loc (thr d L) ↦[(oK L 2).view.set]{fullShare} (oK L 2).view.writes (Elt F) f [⟨Rect.whole S448x128, tile_body.sl.dma0_3 d L x g fr hin0 hin2⟩] : sProp 𝕄)
      ⊢ aLoc d ↦[chunk L 2]{fullShare} gatherA x g from by
    rw [show chunk L 2 = (oK L 2).view.set from (set_oK L 2).symm]
    refine Entails.of_eq (pointsTo_congr (stored_agree (oK L 2).view (row0).view f (gatherA x g) _ _ _ fun p => ?_))
    refine (payload_row x _ _ _ p).trans ?_
    exact place_row L x g 2 p _ (show 896 + 1 * (p 0).val = 448 * 2 + (p 0).val by omega) (hin _)) $$ Ho2
  ihave Ho3 := (show ((oK L 3).view.loc (thr d L) ↦[(oK L 3).view.set]{fullShare} (oK L 3).view.writes (Elt F) f [⟨Rect.whole S448x128, tile_body.sl.dma0_4 d L x g fr hin1 hin3⟩] : sProp 𝕄)
      ⊢ aLoc d ↦[chunk L 3]{fullShare} gatherA x g from by
    rw [show chunk L 3 = (oK L 3).view.set from (set_oK L 3).symm]
    refine Entails.of_eq (pointsTo_congr (stored_agree (oK L 3).view (row1).view f (gatherA x g) _ _ _ fun p => ?_))
    refine (payload_row x _ _ _ p).trans ?_
    exact place_row L x g 3 p _ (show 1344 + 1 * (p 0).val = 448 * 3 + (p 0).val by omega) (hin _)) $$ Ho3
  ihave Ho4 := (show ((oT L).view.loc (thr d L) ↦[(oT L).view.set]{fullShare} (oT L).view.writes (Elt F) f [⟨Rect.whole S224x128, tile_body.sl.dma0_5 d L x g fr hin0 hin2 hin4⟩] : sProp 𝕄)
      ⊢ aLoc d ↦[chunk L 4]{fullShare} gatherA x g from by
    rw [show chunk L 4 = (oT L).view.set from (set_oT L).symm]
    refine Entails.of_eq (pointsTo_congr (stored_agree (oT L).view (rowT).view f (gatherA x g) _ _ _ fun p => ?_))
    refine (payload_rowT x _ _ _ p).trans ?_
    exact place_rowT L x g p _ (show 1792 + 1 * (p 0).val = 1792 + (p 0).val by omega) (hin _)) $$ Ho4
  ihave Hs := (Entails.of_eq (list_cut d L (fetched g L)).symm) $$ [Hs0 Hs1 Hs2 Hs3 Hs4]
  · isplitl [Hs0]; iexact Hs0
    isplitl [Hs1]; iexact Hs1
    isplitl [Hs2]; iexact Hs2
    isplitl [Hs3]; iexact Hs3
    iexact Hs4
  ihave Hr0 := (pointsTo_join_subset (ℓ := rV.view.loc (thr d L)) set_rowT) $$ [HrT HrR]
  · isplitl [HrT]; iexact HrT
    iexact HrR
  ihave Hr := (rows_join d L _ _) $$ [Hr0 Hr1]
  · isplitl [Hr0]; iexact Hr0
    iexact Hr1
  ihave Hx := (pointsTo_share (ℓ := reprLoc d) (PosShare.mem_left_op_right q)).2 $$ [HxL HxR]
  · isplitl [HxL]; iexact HxL
    iexact HxR
  rw [wp_ret]
  imodintro
  isplitl [Hx Hg Ho0 Ho1 Ho2 Ho3 Ho4]
  · isplitl [Hx]; iexact Hx
    isplitl [Hg]; iexact Hg
    isplitl [Ho0]; iexact Ho0
    isplitl [Ho1]; iexact Ho1
    isplitl [Ho2]; iexact Ho2
    isplitl [Ho3]; iexact Ho3
    iexact Ho4
  isplitl [Hs Hr Hbufs]
  · isplitl [Hs]; iexists _; iexact Hs
    isplitl [Hr]; iexact Hr
    iexact Hbufs
  isplitl [HA HB HC HD HE HF HG Hsems]
  · isplitr [Hsems]
    · isplitl [HA]; iexact HA
      isplitl [HB]; iexact HB
      isplitl [HC]; iexact HC
      isplitl [HD]; iexact HD
      isplitl [HE]; iexact HE
      isplitl [HF]; iexact HF
      iexact HG
    iexact Hsems
  iexists _
  isplitr
  swap
  · iexact HO
  ipureintro
  intro p hp
  simp only [Set.mem_insert_iff, Finset.mem_insert] at hp
  rcases hp with rfl | rfl | rfl | rfl | rfl | rfl | rfl | rfl | rfl | rfl | rfl | hp
  all_goals first | exact Or.inr rfl | exact Or.inl hp

end Tile
end A
end Cert.Proof.Run

end
-- ==== Proof.GatherB.lean ====
/-
  The second SparseCore call's task: one vector subcore fetches its 2072 row numbers, then gathers the rows they name in
  five chunks (four of 448, one of 280) through the two halves of its row buffer and stores each chunk to its place of
  the gathered array. What it leaves there is `gatherB`.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

namespace B

abbrev sV : Memref sig .scVector .vmem S2072 .i32 := Memref.whole cc1_scratch0
abbrev rV : Memref sig .scVector .vmem S2x448x128 .f32 := Memref.whole cc1_scratch1

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The task's row numbers, as the program slices them. -/
abbrev gdK (L : grid1.Coords) : Memref sig .scVector .hbm S2072 .i32 :=
  gdV.slice (Rect.unit (s := S130816) (k1_off1 L) S2072.size (k1_off1_inb L)) (fun _ => rfl)
/-- The task's places of the gathered array: four chunks of 448 rows and the last 224. -/
abbrev oK (L : grid1.Coords) (k : Fin 4) : Memref sig .scVector .hbm S448x128 .f32 :=
  bV.slice (Rect.unit (s := S66304x128) (k1_off2 L (BitVec.ofNat 32 (448 * k.val))) S448x128.size (k1_off2_inb L k)) (fun _ => rfl)
abbrev oT (L : grid1.Coords) : Memref sig .scVector .hbm S280x128 .f32 :=
  bV.slice (Rect.unit (s := S66304x128) (k1_off3 L) S280x128.size (k1_off3_inb L)) (fun _ => rfl)
/-- The halves of the row buffer, and the first half's first 280 rows. -/
abbrev row0 : Memref sig .scVector .vmem S448x128 .f32 :=
  (rV.slice (Rect.unit (s := S2x448x128) ![0, 0, 0] S1x448x128.size inb_S2x448x128_S1x448x128_0_0_0) (fun _ => rfl)).squeeze S448x128 squeezes_S1x448x128_S448x128
abbrev row1 : Memref sig .scVector .vmem S448x128 .f32 :=
  (rV.slice (Rect.unit (s := S2x448x128) ![1, 0, 0] S1x448x128.size inb_S2x448x128_S1x448x128_1_0_0) (fun _ => rfl)).squeeze S448x128 squeezes_S1x448x128_S448x128
abbrev rowT : Memref sig .scVector .vmem S280x128 .f32 :=
  (rV.slice (Rect.unit (s := S2x448x128) ![0, 0, 0] S1x280x128.size inb_S2x448x128_S1x280x128_0_0_0) (fun _ => rfl)).squeeze S280x128 squeezes_S1x280x128_S280x128
/-- The lists the five gathers read. -/
abbrev s0 : Memref sig .scVector .vmem S448 .i32 := sV.slice (Rect.unit (s := S2072) ![0] S448.size inb_S2072_S448_0) (fun _ => rfl)
abbrev s1 : Memref sig .scVector .vmem S448 .i32 := sV.slice (Rect.unit (s := S2072) ![448] S448.size inb_S2072_S448_448) (fun _ => rfl)
abbrev s2 : Memref sig .scVector .vmem S448 .i32 := sV.slice (Rect.unit (s := S2072) ![896] S448.size inb_S2072_S448_896) (fun _ => rfl)
abbrev s3 : Memref sig .scVector .vmem S448 .i32 := sV.slice (Rect.unit (s := S2072) ![1344] S448.size inb_S2072_S448_1344) (fun _ => rfl)
abbrev s4 : Memref sig .scVector .vmem S280 .i32 := sV.slice (Rect.unit (s := S2072) ![1792] S280.size inb_S2072_S280_1792) (fun _ => rfl)
/-- The table of rows, as the program slices it (all of it). -/
abbrev xAll : Memref sig .scVector .hbm S50000x128 .f32 :=
  reprV.slice (Rect.unit (s := S50000x128) ![0, 0] S50000x128.size inb_S50000x128_S50000x128_0_0) (fun _ => rfl)

/-! ## The task's own semaphores and scratch -/

/-- The task's DMA semaphores. -/
abbrev sems : List (SemLoc sig) :=
  [.dma cc1_scratch2.sem, .dma cc1_scratch3.sem, .dma cc1_scratch4.sem, .dma cc1_scratch5.sem, .dma cc1_scratch6.sem, .dma cc1_scratch7.sem, .dma cc1_scoped0.sem]

theorem ownSems0_cut :
    (ownSems0 (thr d L) : sProp 𝕄)
      = iprop((semVal (thr d L, .dma cc1_scratch2.sem) 0 ∗ semVal (thr d L, .dma cc1_scratch3.sem) 0 ∗ semVal (thr d L, .dma cc1_scratch4.sem) 0
            ∗ semVal (thr d L, .dma cc1_scratch5.sem) 0 ∗ semVal (thr d L, .dma cc1_scratch6.sem) 0 ∗ semVal (thr d L, .dma cc1_scratch7.sem) 0
            ∗ semVal (thr d L, .dma cc1_scoped0.sem) 0)
          ∗ bigSep (ownCells (thr d L) \ (sems.map fun s => ((thr d L, s) : GSem nD τ sig)).toFinset) fun g => semVal g 0) := by
  have hsub : (sems.map fun s => ((thr d L, s) : GSem nD τ sig)).toFinset ⊆ ownCells (thr d L) := by
    intro g hg
    obtain ⟨s, hs, rfl⟩ := List.mem_map.mp (List.mem_toFinset.mp hg)
    refine mem_ownCells.mpr ⟨rfl, ?_⟩
    have h : ∀ s ∈ sems, s.isScoped .scVector = true := by decide
    exact h s hs
  have hnd : (sems.map fun s => ((thr d L, s) : GSem nD τ sig)).Nodup :=
    List.Nodup.map (fun _ _ e => (Prod.mk.inj e).2) (by decide)
  unfold SparseCore.Cfg.ownSems0
  rw [SparseCore.bigSep_sdiff_split' hsub, bigSep_eq_bigSepL _ hnd]
  rfl

/-- The task's two scratch buffers, and the subcore's other buffers. -/
theorem ownBufs_cut :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The sets of rows -/

/-- The task's first row. -/
abbrev base (L : grid1.Coords) : ℕ := 4144 * (L 1).val + 2072 * (L 0).val

/-- Chunk `k` of the task's rows of the gathered array. -/
def chunk (L : grid1.Coords) (k : Fin 5) : Finset S66304x128.Idx :=
  Finset.univ.filter fun p => base L + 448 * k.val ≤ (p 0).val ∧ (p 0).val < base L + 448 * k.val + (if k = 4 then 280 else 448)

theorem set_oK (k : Fin 4) : (oK L k).view.set = chunk L k.castSucc := by
  ext p
  rw [show (oK L k).view.set = (Rect.unit (s := S66304x128) (k1_off2 L (BitVec.ofNat 32 (448 * k.val))) S448x128.size (k1_off2_inb L k)).set from
    (View.set_slice _ _).trans Finset.map_refl, Rect.mem_set_unit, k1_off2_eq, Fin.forall_fin_two, chunk, Finset.mem_filter, if_neg (fun h => absurd (congrArg Fin.val h) (by have := k.isLt; simp; omega))]
  have h1 := (p 1).isLt
  simp at h1 ⊢
  omega
theorem set_oT : (oT L).view.set = chunk L 4 := by
  ext p
  rw [show (oT L).view.set = (Rect.unit (s := S66304x128) (k1_off3 L) S280x128.size (k1_off3_inb L)).set from
    (View.set_slice _ _).trans Finset.map_refl, Rect.mem_set_unit, k1_off3_eq, Fin.forall_fin_two, chunk, Finset.mem_filter, if_pos rfl]
  have h1 := (p 1).isLt
  simp at h1 ⊢
  omega

/-- Piece `k` of the task's list. -/
def piece (k : Fin 5) : Finset S2072.Idx :=
  Finset.univ.filter fun p => 448 * k.val ≤ (p 0).val ∧ (p 0).val < 448 * k.val + (if k = 4 then 280 else 448)

theorem set_s0 : (s0).view.set = piece 0 := by
  ext p
  rw [show (s0).view.set = (Rect.unit (s := S2072) ![0] S448.size inb_S2072_S448_0).set from (View.set_slice _ _).trans Finset.map_refl,
    Rect.mem_set_unit, Fin.forall_fin_one, piece, Finset.mem_filter]
  simp
theorem set_s1 : (s1).view.set = piece 1 := by
  ext p
  rw [show (s1).view.set = (Rect.unit (s := S2072) ![448] S448.size inb_S2072_S448_448).set from (View.set_slice _ _).trans Finset.map_refl,
    Rect.mem_set_unit, Fin.forall_fin_one, piece, Finset.mem_filter]
  simp
theorem set_s2 : (s2).view.set = piece 2 := by
  ext p
  rw [show (s2).view.set = (Rect.unit (s := S2072) ![896] S448.size inb_S2072_S448_896).set from (View.set_slice _ _).trans Finset.map_refl,
    Rect.mem_set_unit, Fin.forall_fin_one, piece, Finset.mem_filter]
  simp
theorem set_s3 : (s3).view.set = piece 3 := by
  ext p
  rw [show (s3).view.set = (Rect.unit (s := S2072) ![1344] S448.size inb_S2072_S448_1344).set from (View.set_slice _ _).trans Finset.map_refl,
    Rect.mem_set_unit, Fin.forall_fin_one, piece, Finset.mem_filter]
  simp
theorem set_s4 : (s4).view.set = piece 4 := by
  ext p
  rw [show (s4).view.set = (Rect.unit (s := S2072) ![1792] S280.size inb_S2072_S280_1792).set from (View.set_slice _ _).trans Finset.map_refl,
    Rect.mem_set_unit, Fin.forall_fin_one, piece, Finset.mem_filter]
  simp

/-- The list held whole is its five pieces, each as the gather that reads it slices it. -/
theorem list_cut (u : Buf (Elt F) (sV.view.loc (thr d L))) :
    (sV.view.loc (thr d L) ↦{fullShare} u : sProp 𝕄)
      = iprop(((s0).view.loc (thr d L) ↦[(s0).view.set]{fullShare} u) ∗ ((s1).view.loc (thr d L) ↦[(s1).view.set]{fullShare} u)
          ∗ ((s2).view.loc (thr d L) ↦[(s2).view.set]{fullShare} u) ∗ ((s3).view.loc (thr d L) ↦[(s3).view.set]{fullShare} u)
          ∗ (s4).view.loc (thr d L) ↦[(s4).view.set]{fullShare} u) := by
  rw [set_s0, set_s1, set_s2, set_s3, set_s4]
  have hd : ∀ t ∈ (Finset.univ : Finset (Fin 5)), ∀ t' ∈ (Finset.univ : Finset (Fin 5)), t ≠ t' → Disjoint (piece t) (piece t') := by
    intro t _ t' _ h
    refine Finset.disjoint_left.mpr fun p hp hp' => h (Fin.ext ?_)
    have h1 := (Finset.mem_filter.mp hp).2
    have h2 := (Finset.mem_filter.mp hp').2
    split at h1 <;> split at h2 <;> omega
  have hc : (Finset.univ : Finset (Fin 5)).biUnion piece = Finset.univ := by
    refine Finset.eq_univ_of_forall fun p => Finset.mem_biUnion.mpr ?_
    have hp : (p 0).val < 2072 := (p 0).isLt
    refine ⟨⟨(p 0).val / 448, by omega⟩, Finset.mem_univ _, Finset.mem_filter.mpr ⟨Finset.mem_univ _, ?_⟩⟩
    have : ((⟨(p 0).val / 448, by omega⟩ : Fin 5) = 4) ↔ (p 0).val / 448 = 4 := Fin.ext_iff
    simp only [this]
    split <;> constructor <;> omega
  have e := pointsTo_biUnion (Ix := HIx 2) (Name := ℕ) (U := UU) (Lvl := ℕ) (q := fullShare) (f := u) Finset.univ (ℓ := sV.view.loc (thr d L)) piece hd
  rw [hc] at e
  rw [e, bigSep_univ_eq_bigSepL [(0 : Fin 5), 1, 2, 3, 4] (by decide) (by decide)]
  rfl

theorem set_row0 : (row0).view.set = Finset.univ.filter fun p : S2x448x128.Idx => (p 0).val = 0 := by
  ext p
  rw [show (row0).view.set = (Rect.unit (s := S2x448x128) ![0, 0, 0] S1x448x128.size inb_S2x448x128_S1x448x128_0_0_0).set from
    (View.set_reshape _ _).trans ((View.set_slice _ _).trans Finset.map_refl), Rect.mem_set_unit, Fin.forall_fin_succ, Fin.forall_fin_two, Finset.mem_filter]
  have h0 : (p 0).val < 2 := (p 0).isLt
  have h1 : (p 1).val < 448 := (p 1).isLt
  have h2 : (p 2).val < 128 := (p 2).isLt
  simp
  omega
theorem set_row1 : (row1).view.set = Finset.univ.filter fun p : S2x448x128.Idx => (p 0).val = 1 := by
  ext p
  rw [show (row1).view.set = (Rect.unit (s := S2x448x128) ![1, 0, 0] S1x448x128.size inb_S2x448x128_S1x448x128_1_0_0).set from
    (View.set_reshape _ _).trans ((View.set_slice _ _).trans Finset.map_refl), Rect.mem_set_unit, Fin.forall_fin_succ, Fin.forall_fin_two, Finset.mem_filter]
  have h0 : (p 0).val < 2 := (p 0).isLt
  have h1 : (p 1).val < 448 := (p 1).isLt
  have h2 : (p 2).val < 128 := (p 2).isLt
  simp
  omega
theorem set_rowT : (rowT).view.set ⊆ (row0).view.set := by
  intro p hp
  rw [show (rowT).view.set = (Rect.unit (s := S2x448x128) ![0, 0, 0] S1x280x128.size inb_S2x448x128_S1x280x128_0_0_0).set from
    (View.set_reshape _ _).trans ((View.set_slice _ _).trans Finset.map_refl), Rect.mem_set_unit, Fin.forall_fin_succ] at hp
  rw [set_row0, Finset.mem_filter]
  refine ⟨Finset.mem_univ _, ?_⟩
  have := hp.1
  simp at this
  omega
theorem rows_disjoint : Disjoint (row0).view.set (row1).view.set := by
  rw [set_row0, set_row1]
  refine Finset.disjoint_left.mpr fun p hp hp' => ?_
  have h1 := (Finset.mem_filter.mp hp).2
  have h2 := (Finset.mem_filter.mp hp').2
  omega
theorem rows_cover : (row0).view.set ∪ (row1).view.set = Finset.univ := by
  rw [set_row0, set_row1]
  refine Finset.eq_univ_of_forall fun p => Finset.mem_union.mpr ?_
  have h0 : (p 0).val < 2 := (p 0).isLt
  simp only [Finset.mem_filter, Finset.mem_univ, true_and]
  omega

/-- The row buffer held whole is its two halves. -/
theorem rows_cut (u : Buf (Elt F) (rV.view.loc (thr d L))) :
    ((thr d L).loc cc1_scratch1 ↦{fullShare} u : sProp 𝕄)
      ⊢ iprop(((row0).view.loc (thr d L) ↦[(row0).view.set]{fullShare} u) ∗ (row1).view.loc (thr d L) ↦[(row1).view.set]{fullShare} u) := by
  have e := pointsTo_union (Ix := HIx 2) (Name := ℕ) (U := UU) (Lvl := ℕ) (ℓ := (thr d L).loc cc1_scratch1) (q := fullShare) (f := u) rows_disjoint
  rw [rows_cover] at e
  exact e.1

/-- The halves, at whatever they hold, are the whole at something. -/
theorem rows_join (u v : Buf (Elt F) (rV.view.loc (thr d L))) :
    iprop(((row0).view.loc (thr d L) ↦[(row0).view.set]{fullShare} u) ∗ (row1).view.loc (thr d L) ↦[(row1).view.set]{fullShare} v)
      ⊢ (iprop(∃ w, (thr d L).loc cc1_scratch1 ↦{fullShare} w) : sProp 𝕄) := by
  have e := pointsTo_join (Ix := HIx 2) (Name := ℕ) (U := UU) (Lvl := ℕ) (ℓ := (thr d L).loc cc1_scratch1) (q := fullShare) (f := u) (g := v) rows_disjoint
  rw [rows_cover] at e
  refine e.trans ?_
  iintro H
  iexists _
  iexact H

/-! ## What the gathers carry -/

/-- A gathered chunk is the rows its list names. -/
theorem payload_row (x : S50000x128.Idx → Elt F .f32) (idx : S448.Idx → Elt F .i32) (hn) (h) (p : S448x128.Idx) :
    SparseCore.gatherPayload gathers_S50000x128_S448x128 (xAll.view.read (Elt F) x) (SparseCore.rows (si := S448) idx hn h) p
      = x (fun | 0 => ⟨(idx (fun | 0 => p 0) : BitVec 32).toNat, h _⟩ | 1 => p 1) := by
  have hr : S448.rowMajor.symm ((p 0).cast hn.symm) = (fun | 0 => p 0 : S448.Idx) := by
    rw [Equiv.symm_apply_eq]; exact Fin.ext (Shape.rowMajor_val_one (d := ![448]) (fun | 0 => p 0)).symm
  refine congrArg x (funext fun a => ?_)
  match a with
  | 0 =>
    refine Fin.ext ?_
    show 0 + 1 * (idx (S448.rowMajor.symm ((p 0).cast hn.symm)) : BitVec 32).toNat = (idx (fun | 0 => p 0) : BitVec 32).toNat
    rw [hr, Nat.zero_add, Nat.one_mul]
  | 1 => exact Fin.ext (show 0 + 1 * (p 1).val = (p 1).val by omega)
theorem payload_rowT (x : S50000x128.Idx → Elt F .f32) (idx : S280.Idx → Elt F .i32) (hn) (h) (p : S280x128.Idx) :
    SparseCore.gatherPayload gathers_S50000x128_S280x128 (xAll.view.read (Elt F) x) (SparseCore.rows (si := S280) idx hn h) p
      = x (fun | 0 => ⟨(idx (fun | 0 => p 0) : BitVec 32).toNat, h _⟩ | 1 => p 1) := by
  have hr : S280.rowMajor.symm ((p 0).cast hn.symm) = (fun | 0 => p 0 : S280.Idx) := by
    rw [Equiv.symm_apply_eq]; exact Fin.ext (Shape.rowMajor_val_one (d := ![280]) (fun | 0 => p 0)).symm
  refine congrArg x (funext fun a => ?_)
  match a with
  | 0 =>
    refine Fin.ext ?_
    show 0 + 1 * (idx (S280.rowMajor.symm ((p 0).cast hn.symm)) : BitVec 32).toNat = (idx (fun | 0 => p 0) : BitVec 32).toNat
    rw [hr, Nat.zero_add, Nat.one_mul]
  | 1 => exact Fin.ext (show 0 + 1 * (p 1).val = (p 1).val by omega)

/-- What the task's list of row numbers holds once fetched. -/
abbrev fetched (g : S130816.Idx → Elt F .i32) (L : grid1.Coords) : S2072.Idx → Elt F .i32 := (gdK L).view.read (Elt F) g

/-- The place's own reading of the gathered array. -/
theorem place_row (x : S50000x128.Idx → Elt F .f32) (g : S130816.Idx → Elt F .i32) (k : Fin 4) (p : S448x128.Idx) (w : S2072.Idx)
    (hw : (w 0).val = 448 * k.val + (p 0).val) (hlt : (fetched g L w : BitVec 32).toNat < 50000) :
    x (fun | 0 => ⟨(fetched g L w : BitVec 32).toNat, hlt⟩ | 1 => p 1) = (oK L k).view.read (Elt F) (gatherB x g) p := by
  have e0 : (k1_off2 L (BitVec.ofNat 32 (448 * k.val))) = _ := k1_off2_eq L k
  have e1 := k1_off1_eq L
  show _ = picked x g ((Fin.natAdd 64512 (((oK L k).view.emb p) 0)).cast rfl) (((oK L k).view.emb p) 1)
  have hg : fetched g L w = g (fun | 0 => (Fin.natAdd 64512 (((oK L k).view.emb p) 0)).cast (show 64512 + 66304 = 130816 from rfl)) := by
    refine congrArg g (funext fun a => ?_)
    match a with
    | 0 =>
      refine Fin.ext ?_
      show k1_off1 L 0 + 1 * (w 0).val = 64512 + (k1_off2 L (BitVec.ofNat 32 (448 * k.val)) 0 + 1 * (p 0).val)
      rw [e0, e1, hw]
      simp
      omega
  unfold picked
  refine congrArg x (funext fun a => ?_)
  match a with
  | 0 =>
    refine Fin.ext ?_
    show (fetched g L w : BitVec 32).toNat = (g _ : BitVec 32).toNat % 50000
    exact ((congrArg (fun z : BitVec 32 => z.toNat % 50000) hg).symm.trans (Nat.mod_eq_of_lt hlt)).symm
  | 1 =>
    refine Fin.ext ?_
    show (p 1).val = k1_off2 L (BitVec.ofNat 32 (448 * k.val)) 1 + 1 * (p 1).val
    rw [e0]
    simp
theorem place_rowT (x : S50000x128.Idx → Elt F .f32) (g : S130816.Idx → Elt F .i32) (p : S280x128.Idx) (w : S2072.Idx)
    (hw : (w 0).val = 1792 + (p 0).val) (hlt : (fetched g L w : BitVec 32).toNat < 50000) :
    x (fun | 0 => ⟨(fetched g L w : BitVec 32).toNat, hlt⟩ | 1 => p 1) = (oT L).view.read (Elt F) (gatherB x g) p := by
  have e0 : k1_off3 L = _ := k1_off3_eq L
  have e1 := k1_off1_eq L
  show _ = picked x g ((Fin.natAdd 64512 (((oT L).view.emb p) 0)).cast rfl) (((oT L).view.emb p) 1)
  have hg : fetched g L w = g (fun | 0 => (Fin.natAdd 64512 (((oT L).view.emb p) 0)).cast (show 64512 + 66304 = 130816 from rfl)) := by
    refine congrArg g (funext fun a => ?_)
    match a with
    | 0 =>
      refine Fin.ext ?_
      show k1_off1 L 0 + 1 * (w 0).val = 64512 + (k1_off3 L 0 + 1 * (p 0).val)
      rw [e0, e1, hw]
      simp
      omega
  unfold picked
  refine congrArg x (funext fun a => ?_)
  match a with
  | 0 =>
    refine Fin.ext ?_
    show (fetched g L w : BitVec 32).toNat = (g _ : BitVec 32).toNat % 50000
    exact ((congrArg (fun z : BitVec 32 => z.toNat % 50000) hg).symm.trans (Nat.mod_eq_of_lt hlt)).symm
  | 1 =>
    refine Fin.ext ?_
    show (p 1).val = k1_off3 L 1 + 1 * (p 1).val
    rw [e0]
    simp

/-- A place stored whole from a buffer just gathered into holds the gathered rows. -/
theorem stored_agree {κ κ' : Kind} {sp sp' : Space} {s : Shape} (o : View sig κ sp s .f32) (src : View sig κ' sp' s .f32) (f G : o.ty.Contents (Elt F))
    (fr : src.ty.Contents (Elt F)) (pl : s.Idx → Elt F .f32) (ls) (h : ∀ p, pl p = o.read (Elt F) G p) :
    ∀ i ∈ o.set, o.writes (Elt F) f [⟨Rect.whole s, ReadAs.same.apply (src.read (Elt F) (src.writes (Elt F) fr (⟨Rect.whole s, pl⟩ :: ls)))⟩] i = G i := by
  intro i hi
  obtain ⟨p, -, rfl⟩ := Finset.mem_map.mp hi
  suffices e : o.read (Elt F) (o.writes (Elt F) f [⟨Rect.whole s, ReadAs.same.apply (src.read (Elt F) (src.writes (Elt F) fr (⟨Rect.whole s, pl⟩ :: ls)))⟩]) p = o.read (Elt F) G p from
    (cast_bijective (congrArg (Elt F) o.elt_eq)).injective e
  rw [View.read_writes_whole, ← h p]
  have e := View.read_writes_cons_emb src fr (Rect.whole s) pl ls p
  rw [Rect.emb_whole_apply] at e
  exact e

/-! ## The task's run -/

/-- The chunks of the gathered array that are the task's, at contents `f`. -/
abbrev outPts (d : Dev nD) (L : grid1.Coords) (f : Buf (Elt F) (bLoc d)) : sProp 𝕄 :=
  iprop((bLoc d ↦[chunk L 0]{fullShare} f) ∗ (bLoc d ↦[chunk L 1]{fullShare} f) ∗ (bLoc d ↦[chunk L 2]{fullShare} f)
    ∗ (bLoc d ↦[chunk L 3]{fullShare} f) ∗ (bLoc d ↦[chunk L 4]{fullShare} f))

set_option maxHeartbeats 4000000 in
theorem tile_body (x : Buf (Elt F) (reprLoc d)) (g : Buf (Elt F) (gdLoc d)) (f : Buf (Elt F) (bLoc d)) (q : PosShare TreeShare)
    (hpre : ∀ j : S130816.Idx, (g j : BitVec 32).toNat < 50000)
    (O : CellTallies nD τ sig (HIx 2)) (W : Waits sig (HIx 2)) (hO : ∀ g, O g none = 0) :
    iprop(levAts (K (F := F)).L (K (F := F)).lev
        ∗ ((reprLoc d ↦{q} x) ∗ (gdLoc d ↦{q} g) ∗ outPts d L f)
        ∗ scopedBufs (thr d L) ∗ scopedSems0 (thr d L) ∗ owes (thr d L) O W)
      ⊢ wp frame (wpE (defs₀ (F := F)) 𝒱₀ (thr d L) none) Set.univ
          (cc1_gather_k L reprV (Memref.isWhole_whole _) gdV (Memref.isWhole_whole _) bV (Memref.isWhole_whole _)
            sV (Memref.isWhole_whole _) rV (Memref.isWhole_whole _)
            cc1_scratch2 cc1_scratch3 cc1_scratch4 cc1_scratch5 cc1_scratch6 cc1_scratch7 cc1_scoped0)
          fun _ => iprop(((reprLoc d ↦{q} x) ∗ (gdLoc d ↦{q} g) ∗ outPts d L (gatherB x g))
            ∗ scopedBufs (thr d L) ∗ scopedSems0 (thr d L)
            ∗ ∃ W', ⌜∀ p ∈ W', p ∈ W ∨ p.2 = none⌝ ∗ owes (thr d L) O W') := by
  simp only [cc1_gather_k_eq_skeleton]; unfold cc1_gather_k_skel
  simp only [k1_part1_eq_skeleton, k1_part2_eq_skeleton, k1_part3_eq_skeleton, k1_part4_eq_skeleton]
  unfold k1_part1_skel k1_part2_skel k1_part3_skel k1_part4_skel
  rw [(K (F := F)).scopedBufs_V scFacts d (cV L) (jV L), SparseCore.Cfg.scopedSems0_V (Val := Elt F) d (cV L) (jV L), ownSems0_cut, ownBufs_cut]
  iintro ⟨#Hlv, ⟨Hx, Hg, Ho0, Ho1, Ho2, Ho3, Ho4⟩, ⟨⟨%fs, Hs⟩, ⟨%fr, Hr⟩, Hbufs⟩, ⟨⟨HA, HB, HC, HD, HE, HF, HG⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hg := (show (gdLoc d ↦{q} g : sProp 𝕄) ⊢ gdV.view.loc (thr d L) ↦{q} g from .rfl) $$ Hg
  ihave Hs := (show ((thr d L).loc cc1_scratch0 ↦{fullShare} fs : sProp 𝕄) ⊢ sV.view.loc (thr d L) ↦{fullShare} fs from .rfl) $$ Hs
  sl_exec
  ihave Hs := (Entails.of_eq (show (sV.view.loc (thr d L) ↦{fullShare} View.write (Elt F) sV.view fs (tile_body.sl.dma0 d L g) Finset.univ : sProp 𝕄)
      = sV.view.loc (thr d L) ↦{fullShare} fetched g L by rw [View.write_whole_univ]; rfl)) $$ Hs
  ihave Hs := (Entails.of_eq (list_cut d L (fetched g L))) $$ Hs
  icases Hs with ⟨Hs0, Hs1, Hs2, Hs3, Hs4⟩
  ihave Hr := (rows_cut d L fr) $$ Hr
  icases Hr with ⟨Hr0, Hr1⟩
  have hin : ∀ j, (fetched g L j : BitVec 32).toNat < 50000 := fun j => hpre _
  have hin0 : ∀ y, ((s0).view.read (Elt F) (fetched g L) y).toNat < S50000x128.size gathers_S50000x128_S448x128.axis := fun y => hin _
  have hin1 : ∀ y, ((s1).view.read (Elt F) (fetched g L) y).toNat < S50000x128.size gathers_S50000x128_S448x128.axis := fun y => hin _
  have hin2 : ∀ y, ((s2).view.read (Elt F) (fetched g L) y).toNat < S50000x128.size gathers_S50000x128_S448x128.axis := fun y => hin _
  have hin3 : ∀ y, ((s3).view.read (Elt F) (fetched g L) y).toNat < S50000x128.size gathers_S50000x128_S448x128.axis := fun y => hin _
  have hin4 : ∀ y, ((s4).view.read (Elt F) (fetched g L) y).toNat < S50000x128.size gathers_S50000x128_S280x128.axis := fun y => hin _
  ihave Hx := (pointsTo_share (PosShare.mem_left_op_right q)).1 $$ Hx
  icases Hx with ⟨HxL, HxR⟩
  ihave HxL := (show (reprLoc d ↦{q.left} x : sProp 𝕄) ⊢ reprV.view.loc (thr d L) ↦{q.left} x from .rfl) $$ HxL
  ihave HxR := (show (reprLoc d ↦{q.right} x : sProp 𝕄) ⊢ reprV.view.loc (thr d L) ↦{q.right} x from .rfl) $$ HxR
  ihave Ho0 := (Entails.of_eq (show (bLoc d ↦[chunk L 0]{fullShare} f : sProp 𝕄) = (oK L 0).view.loc (thr d L) ↦[(oK L 0).view.set]{fullShare} f by rw [set_oK]; rfl)) $$ Ho0
  ihave Ho1 := (Entails.of_eq (show (bLoc d ↦[chunk L 1]{fullShare} f : sProp 𝕄) = (oK L 1).view.loc (thr d L) ↦[(oK L 1).view.set]{fullShare} f by rw [set_oK]; rfl)) $$ Ho1
  ihave Ho2 := (Entails.of_eq (show (bLoc d ↦[chunk L 2]{fullShare} f : sProp 𝕄) = (oK L 2).view.loc (thr d L) ↦[(oK L 2).view.set]{fullShare} f by rw [set_oK]; rfl)) $$ Ho2
  ihave Ho3 := (Entails.of_eq (show (bLoc d ↦[chunk L 3]{fullShare} f : sProp 𝕄) = (oK L 3).view.loc (thr d L) ↦[(oK L 3).view.set]{fullShare} f by rw [set_oK]; rfl)) $$ Ho3
  ihave Ho4 := (Entails.of_eq (show (bLoc d ↦[chunk L 4]{fullShare} f : sProp 𝕄) = (oT L).view.loc (thr d L) ↦[(oT L).view.set]{fullShare} f by rw [set_oT])) $$ Ho4
  sl_exec
  ihave Hr0 := (pointsTo_split_subset (ℓ := rV.view.loc (thr d L)) set_rowT).1 $$ Hr0
  icases Hr0 with ⟨HrT, HrR⟩
  ihave HrT := (show ((rV.view.loc (thr d L) ↦[(rowT).view.set]{fullShare} _ : sProp 𝕄)) ⊢ (rowT).view.loc (thr d L) ↦[(rowT).view.set]{fullShare} _ from .rfl) $$ HrT
  sl_exec
  ihave Ho0 := (show ((oK L 0).view.loc (thr d L) ↦[(oK L 0).view.set]{fullShare} (oK L 0).view.writes (Elt F) f [⟨Rect.whole S448x128, tile_body.sl.dma0_1 d L x g fr hin0⟩] : sProp 𝕄)
      ⊢ bLoc d ↦[chunk L 0]{fullShare} gatherB x g from by
    rw [show chunk L 0 = (oK L 0).view.set from (set_oK L 0).symm]
    refine Entails.of_eq (pointsTo_congr (stored_agree (oK L 0).view (row0).view f (gatherB x g) _ _ _ fun p => ?_))
    refine (payload_row x _ _ _ p).trans ?_
    exact place_row L x g 0 p _ (show 0 + 1 * (p 0).val = 448 * 0 + (p 0).val by omega) (hin _)) $$ Ho0
  ihave Ho1 := (show ((oK L 1).view.loc (thr d L) ↦[(oK L 1).view.set]{fullShare} (oK L 1).view.writes (Elt F) f [⟨Rect.whole S448x128, tile_body.sl.dma0_2 d L x g fr hin1⟩] : sProp 𝕄)
      ⊢ bLoc d ↦[chunk L 1]{fullShare} gatherB x g from by
    rw [show chunk L 1 = (oK L 1).view.set from (set_oK L 1).symm]
    refine Entails.of_eq (pointsTo_congr (stored_agree (oK L 1).view (row1).view f (gatherB x g) _ _ _ fun p => ?_))
    refine (payload_row x _ _ _ p).trans ?_
    exact place_row L x g 1 p _ (show 448 + 1 * (p 0).val = 448 * 1 + (p 0).val by omega) (hin _)) $$ Ho1
  ihave Ho2 := (show ((oK L 2).view.loc (thr d L) ↦[(oK L 2).view.set]{fullShare} (oK L 2).view.writes (Elt F) f [⟨Rect.whole S448x128, tile_body.sl.dma0_3 d L x g fr hin0 hin2⟩] : sProp 𝕄)
      ⊢ bLoc d ↦[chunk L 2]{fullShare} gatherB x g from by
    rw [show chunk L 2 = (oK L 2).view.set from (set_oK L 2).symm]
    refine Entails.of_eq (pointsTo_congr (stored_agree (oK L 2).view (row0).view f (gatherB x g) _ _ _ fun p => ?_))
    refine (payload_row x _ _ _ p).trans ?_
    exact place_row L x g 2 p _ (show 896 + 1 * (p 0).val = 448 * 2 + (p 0).val by omega) (hin _)) $$ Ho2
  ihave Ho3 := (show ((oK L 3).view.loc (thr d L) ↦[(oK L 3).view.set]{fullShare} (oK L 3).view.writes (Elt F) f [⟨Rect.whole S448x128, tile_body.sl.dma0_4 d L x g fr hin1 hin3⟩] : sProp 𝕄)
      ⊢ bLoc d ↦[chunk L 3]{fullShare} gatherB x g from by
    rw [show chunk L 3 = (oK L 3).view.set from (set_oK L 3).symm]
    refine Entails.of_eq (pointsTo_congr (stored_agree (oK L 3).view (row1).view f (gatherB x g) _ _ _ fun p => ?_))
    refine (payload_row x _ _ _ p).trans ?_
    exact place_row L x g 3 p _ (show 1344 + 1 * (p 0).val = 448 * 3 + (p 0).val by omega) (hin _)) $$ Ho3
  ihave Ho4 := (show ((oT L).view.loc (thr d L) ↦[(oT L).view.set]{fullShare} (oT L).view.writes (Elt F) f [⟨Rect.whole S280x128, tile_body.sl.dma0_5 d L x g fr hin0 hin2 hin4⟩] : sProp 𝕄)
      ⊢ bLoc d ↦[chunk L 4]{fullShare} gatherB x g from by
    rw [show chunk L 4 = (oT L).view.set from (set_oT L).symm]
    refine Entails.of_eq (pointsTo_congr (stored_agree (oT L).view (rowT).view f (gatherB x g) _ _ _ fun p => ?_))
    refine (payload_rowT x _ _ _ p).trans ?_
    exact place_rowT L x g p _ (show 1792 + 1 * (p 0).val = 1792 + (p 0).val by omega) (hin _)) $$ Ho4
  ihave Hs := (Entails.of_eq (list_cut d L (fetched g L)).symm) $$ [Hs0 Hs1 Hs2 Hs3 Hs4]
  · isplitl [Hs0]; iexact Hs0
    isplitl [Hs1]; iexact Hs1
    isplitl [Hs2]; iexact Hs2
    isplitl [Hs3]; iexact Hs3
    iexact Hs4
  ihave Hr0 := (pointsTo_join_subset (ℓ := rV.view.loc (thr d L)) set_rowT) $$ [HrT HrR]
  · isplitl [HrT]; iexact HrT
    iexact HrR
  ihave Hr := (rows_join d L _ _) $$ [Hr0 Hr1]
  · isplitl [Hr0]; iexact Hr0
    iexact Hr1
  ihave Hx := (pointsTo_share (ℓ := reprLoc d) (PosShare.mem_left_op_right q)).2 $$ [HxL HxR]
  · isplitl [HxL]; iexact HxL
    iexact HxR
  rw [wp_ret]
  imodintro
  isplitl [Hx Hg Ho0 Ho1 Ho2 Ho3 Ho4]
  · isplitl [Hx]; iexact Hx
    isplitl [Hg]; iexact Hg
    isplitl [Ho0]; iexact Ho0
    isplitl [Ho1]; iexact Ho1
    isplitl [Ho2]; iexact Ho2
    isplitl [Ho3]; iexact Ho3
    iexact Ho4
  isplitl [Hs Hr Hbufs]
  · isplitl [Hs]; iexists _; iexact Hs
    isplitl [Hr]; iexact Hr
    iexact Hbufs
  isplitl [HA HB HC HD HE HF HG Hsems]
  · isplitr [Hsems]
    · isplitl [HA]; iexact HA
      isplitl [HB]; iexact HB
      isplitl [HC]; iexact HC
      isplitl [HD]; iexact HD
      isplitl [HE]; iexact HE
      isplitl [HF]; iexact HF
      iexact HG
    iexact Hsems
  iexists _
  isplitr
  swap
  · iexact HO
  ipureintro
  intro p hp
  simp only [Set.mem_insert_iff, Finset.mem_insert] at hp
  rcases hp with rfl | rfl | rfl | rfl | rfl | rfl | rfl | rfl | rfl | rfl | rfl | hp
  all_goals first | exact Or.inr rfl | exact Or.inl hp

end Tile
end B
end Cert.Proof.Run

end
-- ==== Proof.Tiles.lean ====
/-
  The two SparseCore calls as the launch sees them: what each hands its tasks (a share of the table and of the list,
  and the task's own rows of the gathered array), what the tasks hand back, and each task's obligation.
-/
module

public import proofs.«01_k».proof.Proof.GatherA
public import proofs.«01_k».proof.Proof.GatherB

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The share of an array all the tasks read that task `(c, i)` is lent: a thirty-second of it. -/
def lent (c : Fin 2) (i : Fin 16) : PosShare TreeShare := ShareLeaves.leaf 4 (ShareLeaves.leaf 1 fullShare c) i

/-- The whole of such an array is the tasks' shares of it. -/
theorem lent_all {ℓ : Loc nD τ sig} (f : Buf (Elt F) ℓ) :
    (ℓ ↦{fullShare} f : sProp 𝕄) = bigSep Finset.univ fun c : Fin 2 => bigSep Finset.univ fun i : Fin 16 => ℓ ↦{lent c i} f := by
  rw [ShareLeaves.pointsTo_leaves Finset.univ f 1 fullShare]
  exact bigSep_congr fun c _ => ShareLeaves.pointsTo_leaves Finset.univ f 4 _

namespace A

/-- Task `(c, i)`'s place in the call's grid. -/
def at' (c : Fin 2) (i : Fin 16) : grid0.Coords :=
  fun | 0 => c | 1 => i | ⟨_ + 2, h⟩ => absurd h (Nat.not_lt.2 (Nat.le_add_left _ _))

/-- The rows of the gathered array task `L` writes. -/
def rows (L : grid0.Coords) : Finset S64512x128.Idx :=
  Finset.univ.filter fun p => base L ≤ (p 0).val ∧ (p 0).val < base L + 2016

theorem outPts_eq (d : Dev nD) (L : grid0.Coords) (f : Buf (Elt F) (aLoc d)) :
    (outPts d L f : sProp 𝕄) = aLoc d ↦[rows L]{fullShare} f := by
  have hd : ∀ t ∈ (Finset.univ : Finset (Fin 5)), ∀ t' ∈ (Finset.univ : Finset (Fin 5)), t ≠ t' → Disjoint (chunk L t) (chunk L t') := by
    intro t _ t' _ h
    refine Finset.disjoint_left.mpr fun p hp hp' => h (Fin.ext ?_)
    have h1 := (Finset.mem_filter.mp hp).2
    have h2 := (Finset.mem_filter.mp hp').2
    split at h1 <;> split at h2 <;> omega
  have hc : (Finset.univ : Finset (Fin 5)).biUnion (chunk L) = rows L := by
    ext p
    simp only [Finset.mem_biUnion, Finset.mem_univ, true_and, chunk, rows, Finset.mem_filter]
    constructor
    · rintro ⟨k, h⟩
      split at h
      · subst k; omega
      · have := k.isLt; omega
    · intro h
      refine ⟨⟨((p 0).val - base L) / 448, by omega⟩, ?_⟩
      have : ((⟨((p 0).val - base L) / 448, by omega⟩ : Fin 5) = 4) ↔ ((p 0).val - base L) / 448 = 4 := Fin.ext_iff
      simp only [this]
      split <;> omega
  have e := pointsTo_biUnion (Ix := HIx 2) (Name := ℕ) (U := UU) (Lvl := ℕ) (q := fullShare) (f := f) Finset.univ (ℓ := aLoc d) (chunk L) hd
  rw [hc] at e
  rw [e, bigSep_univ_eq_bigSepL [(0 : Fin 5), 1, 2, 3, 4] (by decide) (by decide)]
  rfl

/-- The whole gathered array is the tasks' rows of it. -/
theorem out_all (d : Dev nD) (f : Buf (Elt F) (aLoc d)) :
    (aLoc d ↦{fullShare} f : sProp 𝕄)
      = bigSep Finset.univ fun c : Fin 2 => bigSep Finset.univ fun i : Fin 16 => outPts d (at' c i) f := by
  have hb : ∀ c i, base (at' c i) = 4032 * i.val + 2016 * c.val := fun _ _ => rfl
  have hd : ∀ t ∈ (Finset.univ : Finset (Fin 2 × Fin 16)), ∀ t' ∈ (Finset.univ : Finset (Fin 2 × Fin 16)), t ≠ t' →
      Disjoint (rows (at' t.1 t.2)) (rows (at' t'.1 t'.2)) := by
    intro t _ t' _ h
    refine Finset.disjoint_left.mpr fun p hp hp' => h (Prod.ext (Fin.ext ?_) (Fin.ext ?_)) <;>
    · have h1 := (Finset.mem_filter.mp hp).2
      have h2 := (Finset.mem_filter.mp hp').2
      rw [hb] at h1 h2
      have := t.1.isLt; have := t'.1.isLt
      omega
  have hc : (Finset.univ : Finset (Fin 2 × Fin 16)).biUnion (fun t => rows (at' t.1 t.2)) = Finset.univ := by
    refine Finset.eq_univ_of_forall fun p => Finset.mem_biUnion.mpr ?_
    have hp : (p 0).val < 64512 := (p 0).isLt
    refine ⟨(⟨(p 0).val % 4032 / 2016, by omega⟩, ⟨(p 0).val / 4032, by omega⟩), Finset.mem_univ _, Finset.mem_filter.mpr ⟨Finset.mem_univ _, ?_⟩⟩
    rw [hb]
    dsimp only
    omega
  have e := pointsTo_biUnion (Ix := HIx 2) (Name := ℕ) (U := UU) (Lvl := ℕ) (q := fullShare) (f := f) Finset.univ (ℓ := aLoc d)
    (fun t : Fin 2 × Fin 16 => rows (at' t.1 t.2)) hd
  rw [hc, bigSep_univ_prod] at e
  rw [e]
  exact bigSep_congr fun c _ => bigSep_congr fun i _ => (outPts_eq d _ f).symm

/-- What task `(c, i)` holds: its shares of the table and of the list, and its rows of the gathered array, at `f`. -/
def task (d : Dev nD) (x : Buf (Elt F) (reprLoc d)) (g : Buf (Elt F) (gdLoc d)) (f : Buf (Elt F) (aLoc d)) (c : Fin 2) (i : Fin 16) : sProp 𝕄 :=
  iprop((reprLoc d ↦{lent c i} x) ∗ (gdLoc d ↦{lent c i} g) ∗ outPts d (at' c i) f)

instance task_storable (d : Dev nD) (x : Buf (Elt F) (reprLoc d)) (g : Buf (Elt F) (gdLoc d)) (f : Buf (Elt F) (aLoc d)) (c : Fin 2) (i : Fin 16) :
    BI.Storable (upEmb : UEmb _ 𝕄) (task d x g f c i) := by
  unfold task; infer_instance

/-- The call's operands whole are what its tasks hold. -/
theorem tasks_all (d : Dev nD) (x : Buf (Elt F) (reprLoc d)) (g : Buf (Elt F) (gdLoc d)) (f : Buf (Elt F) (aLoc d)) :
    (bigSep Finset.univ fun c : Fin 2 => bigSep Finset.univ fun i : Fin 16 => task d x g f c i : sProp 𝕄)
      = iprop((reprLoc d ↦{fullShare} x) ∗ (gdLoc d ↦{fullShare} g) ∗ aLoc d ↦{fullShare} f) := by
  rw [lent_all x, lent_all g, out_all d f]
  simp only [← bigSep_sep']
  rfl

theorem body_eq (c : Fin τ.nSC) (s : Fin τ.nSub) :
    defs₀ (F := F) (.scVector c s) 0 ()
      = SparseCore.onTile hcore0 hsub0 (fun c s => cc0_gather_k (at' c s)
          reprV (Memref.isWhole_whole _) gdV (Memref.isWhole_whole _) aV (Memref.isWhole_whole _)
            sV (Memref.isWhole_whole _) rV (Memref.isWhole_whole _)
            cc0_scratch2 cc0_scratch3 cc0_scratch4 cc0_scratch5 cc0_scratch6 cc0_scratch7 cc0_scoped0) ⟨⟩ c s := rfl

end A

namespace B

/-- Task `(c, i)`'s place in the call's grid. -/
def at' (c : Fin 2) (i : Fin 16) : grid1.Coords :=
  fun | 0 => c | 1 => i | ⟨_ + 2, h⟩ => absurd h (Nat.not_lt.2 (Nat.le_add_left _ _))

/-- The rows of the gathered array task `L` writes. -/
def rows (L : grid1.Coords) : Finset S66304x128.Idx :=
  Finset.univ.filter fun p => base L ≤ (p 0).val ∧ (p 0).val < base L + 2072

theorem outPts_eq (d : Dev nD) (L : grid1.Coords) (f : Buf (Elt F) (bLoc d)) :
    (outPts d L f : sProp 𝕄) = bLoc d ↦[rows L]{fullShare} f := by
  have hd : ∀ t ∈ (Finset.univ : Finset (Fin 5)), ∀ t' ∈ (Finset.univ : Finset (Fin 5)), t ≠ t' → Disjoint (chunk L t) (chunk L t') := by
    intro t _ t' _ h
    refine Finset.disjoint_left.mpr fun p hp hp' => h (Fin.ext ?_)
    have h1 := (Finset.mem_filter.mp hp).2
    have h2 := (Finset.mem_filter.mp hp').2
    split at h1 <;> split at h2 <;> omega
  have hc : (Finset.univ : Finset (Fin 5)).biUnion (chunk L) = rows L := by
    ext p
    simp only [Finset.mem_biUnion, Finset.mem_univ, true_and, chunk, rows, Finset.mem_filter]
    constructor
    · rintro ⟨k, h⟩
      split at h
      · subst k; omega
      · have := k.isLt; omega
    · intro h
      refine ⟨⟨((p 0).val - base L) / 448, by omega⟩, ?_⟩
      have : ((⟨((p 0).val - base L) / 448, by omega⟩ : Fin 5) = 4) ↔ ((p 0).val - base L) / 448 = 4 := Fin.ext_iff
      simp only [this]
      split <;> omega
  have e := pointsTo_biUnion (Ix := HIx 2) (Name := ℕ) (U := UU) (Lvl := ℕ) (q := fullShare) (f := f) Finset.univ (ℓ := bLoc d) (chunk L) hd
  rw [hc] at e
  rw [e, bigSep_univ_eq_bigSepL [(0 : Fin 5), 1, 2, 3, 4] (by decide) (by decide)]
  rfl

/-- The whole gathered array is the tasks' rows of it. -/
theorem out_all (d : Dev nD) (f : Buf (Elt F) (bLoc d)) :
    (bLoc d ↦{fullShare} f : sProp 𝕄)
      = bigSep Finset.univ fun c : Fin 2 => bigSep Finset.univ fun i : Fin 16 => outPts d (at' c i) f := by
  have hb : ∀ c i, base (at' c i) = 4144 * i.val + 2072 * c.val := fun _ _ => rfl
  have hd : ∀ t ∈ (Finset.univ : Finset (Fin 2 × Fin 16)), ∀ t' ∈ (Finset.univ : Finset (Fin 2 × Fin 16)), t ≠ t' →
      Disjoint (rows (at' t.1 t.2)) (rows (at' t'.1 t'.2)) := by
    intro t _ t' _ h
    refine Finset.disjoint_left.mpr fun p hp hp' => h (Prod.ext (Fin.ext ?_) (Fin.ext ?_)) <;>
    · have h1 := (Finset.mem_filter.mp hp).2
      have h2 := (Finset.mem_filter.mp hp').2
      rw [hb] at h1 h2
      have := t.1.isLt; have := t'.1.isLt
      omega
  have hc : (Finset.univ : Finset (Fin 2 × Fin 16)).biUnion (fun t => rows (at' t.1 t.2)) = Finset.univ := by
    refine Finset.eq_univ_of_forall fun p => Finset.mem_biUnion.mpr ?_
    have hp : (p 0).val < 66304 := (p 0).isLt
    refine ⟨(⟨(p 0).val % 4144 / 2072, by omega⟩, ⟨(p 0).val / 4144, by omega⟩), Finset.mem_univ _, Finset.mem_filter.mpr ⟨Finset.mem_univ _, ?_⟩⟩
    rw [hb]
    dsimp only
    omega
  have e := pointsTo_biUnion (Ix := HIx 2) (Name := ℕ) (U := UU) (Lvl := ℕ) (q := fullShare) (f := f) Finset.univ (ℓ := bLoc d)
    (fun t : Fin 2 × Fin 16 => rows (at' t.1 t.2)) hd
  rw [hc, bigSep_univ_prod] at e
  rw [e]
  exact bigSep_congr fun c _ => bigSep_congr fun i _ => (outPts_eq d _ f).symm

/-- What task `(c, i)` holds: its shares of the table and of the list, and its rows of the gathered array, at `f`. -/
def task (d : Dev nD) (x : Buf (Elt F) (reprLoc d)) (g : Buf (Elt F) (gdLoc d)) (f : Buf (Elt F) (bLoc d)) (c : Fin 2) (i : Fin 16) : sProp 𝕄 :=
  iprop((reprLoc d ↦{lent c i} x) ∗ (gdLoc d ↦{lent c i} g) ∗ outPts d (at' c i) f)

instance task_storable (d : Dev nD) (x : Buf (Elt F) (reprLoc d)) (g : Buf (Elt F) (gdLoc d)) (f : Buf (Elt F) (bLoc d)) (c : Fin 2) (i : Fin 16) :
    BI.Storable (upEmb : UEmb _ 𝕄) (task d x g f c i) := by
  unfold task; infer_instance

/-- The call's operands whole are what its tasks hold. -/
theorem tasks_all (d : Dev nD) (x : Buf (Elt F) (reprLoc d)) (g : Buf (Elt F) (gdLoc d)) (f : Buf (Elt F) (bLoc d)) :
    (bigSep Finset.univ fun c : Fin 2 => bigSep Finset.univ fun i : Fin 16 => task d x g f c i : sProp 𝕄)
      = iprop((reprLoc d ↦{fullShare} x) ∗ (gdLoc d ↦{fullShare} g) ∗ bLoc d ↦{fullShare} f) := by
  rw [lent_all x, lent_all g, out_all d f]
  simp only [← bigSep_sep']
  rfl

theorem body_eq (c : Fin τ.nSC) (s : Fin τ.nSub) :
    defs₀ (F := F) (.scVector c s) 1 ()
      = SparseCore.onTile hcore1 hsub1 (fun c s => cc1_gather_k (at' c s)
          reprV (Memref.isWhole_whole _) gdV (Memref.isWhole_whole _) bV (Memref.isWhole_whole _)
            sV (Memref.isWhole_whole _) rV (Memref.isWhole_whole _)
            cc1_scratch2 cc1_scratch3 cc1_scratch4 cc1_scratch5 cc1_scratch6 cc1_scratch7 cc1_scoped0) ⟨⟩ c s := rfl

end B

/-! ## The launch's record -/

variable (m : (ℓ : Loc nD τ sig) → Buf (Elt F) ℓ)

/-- What task `(c, i)` of call `q` is handed. -/
def given (d : Dev nD) : (q : Fin 2) → Fin 2 → Fin 16 → sProp 𝕄
  | 0 => A.task d (m (reprLoc d)) (m (gdLoc d)) (m (aLoc d))
  | 1 => B.task d (m (reprLoc d)) (m (gdLoc d)) (m (bLoc d))
/-- What it hands back: its rows gathered. -/
def made (d : Dev nD) : (q : Fin 2) → Fin 2 → Fin 16 → sProp 𝕄
  | 0 => A.task d (m (reprLoc d)) (m (gdLoc d)) (gatherA (m (reprLoc d)) (m (gdLoc d)))
  | 1 => B.task d (m (reprLoc d)) (m (gdLoc d)) (gatherB (m (reprLoc d)) (m (gdLoc d)))

instance given_storable (d : Dev nD) (q c i) : BI.Storable (upEmb : UEmb _ 𝕄) (given m d q c i) := by
  match q with
  | 0 => exact A.task_storable ..
  | 1 => exact B.task_storable ..
instance made_storable (d : Dev nD) (q c i) : BI.Storable (upEmb : UEmb _ 𝕄) (made m d q c i) := by
  match q with
  | 0 => exact A.task_storable ..
  | 1 => exact B.task_storable ..

/-- What passes between the TensorCore, the sequencers and the tasks. -/
def P : (K (F := F)).Pay (nD := nD) (Val := Elt F) (Name := ℕ) (U := UU) where
  st q d c := bigSep Finset.univ fun i : Fin 16 => given m d q (Fin.cast (nCore_two (F := F) q) c) i
  dn q d c := bigSep Finset.univ fun i : Fin 16 => made m d q (Fin.cast (nCore_two (F := F) q) c) i
  go q d c i := given m d q (Fin.cast (nCore_two (F := F) q) c) (Fin.cast (nSub_sixteen (F := F) q) i)
  td q d c i := made m d q (Fin.cast (nCore_two (F := F) q) c) (Fin.cast (nSub_sixteen (F := F) q) i)
  x := fun _ _ => iprop(emp)

instance P_storable : (P (F := F) m).IsStorable where
  st q d c := (inferInstance : BI.Storable (upEmb : UEmb _ 𝕄) (bigSep Finset.univ fun i : Fin 16 => given m d q (Fin.cast (nCore_two (F := F) q) c) i))
  dn q d c := (inferInstance : BI.Storable (upEmb : UEmb _ 𝕄) (bigSep Finset.univ fun i : Fin 16 => made m d q (Fin.cast (nCore_two (F := F) q) c) i))
  go q d c i := given_storable m d q _ _
  td q d c i := made_storable m d q _ _

omit [FloatOps F] in
theorem pass {A B : sProp 𝕄} : A ⊢ |={Set.univ}=> iprop(A ∗ (B -∗ B)) := by
  iintro H; imodintro
  isplitl [H]; · iexact H
  iintro H; iexact H
omit [FloatOps F] in
theorem without {L A R : sProp 𝕄} : iprop(L ∗ emp ∗ A ∗ R) ⊢ iprop(L ∗ A ∗ R) := by
  iintro ⟨Hl, -, Ht, Hr⟩
  isplitl [Hl]; · iexact Hl
  isplitl [Ht]; · iexact Ht
  iexact Hr

theorem split0 : (K (F := F)).VecSplit' (P m) 0 := fun _ _ => pass
theorem split1 : (K (F := F)).VecSplit' (P m) 1 := fun _ _ => pass

/-- What the launch memory must satisfy: every number on the list is a row of the table. -/
def Rows : Prop := ∀ (d : Dev nD) (j : S130816.Idx), (m (gdLoc d) j : BitVec 32).toNat < 50000

omit [FloatOps F] in
theorem task_end {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem task0 (hpre : Rows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [A.body_eq]; simp only [SparseCore.onTile, hci, and_self, ↓reduceDIte]
  refine BI.Entails.trans ?_ ((A.tile_body d (A.at' ⟨_, hci.1⟩ ⟨_, hci.2⟩) (m (reprLoc d)) (m (gdLoc d)) (m (aLoc d)) (lent c i) (hpre d) O W hO).trans
    (wp_mono frame _ _ fun _ => task_end))
  exact without

set_option maxRecDepth 16384 in
theorem task1 (hpre : Rows m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [B.body_eq]; simp only [SparseCore.onTile, hci, and_self, ↓reduceDIte]
  refine BI.Entails.trans ?_ ((B.tile_body d (B.at' ⟨_, hci.1⟩ ⟨_, hci.2⟩) (m (reprLoc d)) (m (gdLoc d)) (m (bLoc d)) (lent c i) (hpre d) O W hO).trans
    (wp_mono frame _ _ fun _ => task_end))
  exact without

end Cert.Proof.Run

end
-- ==== Proof.StepA.lean ====
/-
  One grid point of the first TensorCore kernel (`cc2_body`), at a symbolic point and over any whole staging buffers:
  what the body leaves in the accumulator's buffer as a function of what the buffers hold.
-/
module

public import proofs.«01_k».proof.Proof.Setup
public import Idealize.ShloMosaic.Lib.WholeRead
public import Idealize.ShloMosaic.Lib.Writes

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Memref `M`'s whole buffer on the TensorCore of device `c`, held at the contents that read `X`. -/
abbrev hold (c : Dev nD) {sp : Space} {S : Shape} {e : EltTy} (M : Memref sig .tc sp S e) (h : M.IsWhole) (X : S.Idx → Elt F e) : sProp 𝕄 :=
  M.view.loc (c : Thread nD τ) ↦{fullShare} h.unread X

/-- A 640 x 256 accumulator with the 128 rows from row `o` on replaced by `u` of those rows. -/
def patch (o : Fin 2 → Nat) (u : (S128x256.Idx → F .f32) → S128x256.Idx → F .f32) (z : S640x256.Idx → F .f32) : S640x256.Idx → F .f32 :=
  if h : ∀ a, o a + S128x256.size a ≤ S640x256.size a then
    (Rect.unit (s := S640x256) o S128x256.size h).overlay z (u fun p => z ((Rect.unit (s := S640x256) o S128x256.size h).emb p))
  else z

/-- A load of a whole buffer reads what the buffer holds. -/
theorem readAt_all {sp : Space} {S : Shape} {e : EltTy} {M : Memref sig .tc sp S e} (h : M.IsWhole) (X : S.Idx → Elt F e)
    {off : Fin S.rank → Nat} (hz : off = fun _ => 0) (inb : ∀ a, off a + S.size a ≤ S.size a) :
    View.readAt (Elt F) M.view (Rect.unit (s := S) off S.size inb).toLoadRect (h.unread X) = X := by
  subst hz
  funext p
  refine (h.readAt_unread X _ p).trans (congrArg X (funext fun a => Fin.ext ?_))
  show 0 + 1 * (p a).val = _
  omega

theorem zero2 : (![0, 0] : Fin 2 → Nat) = fun _ => 0 := funext fun a => by fin_cases a <;> rfl
theorem zero3 : (![0, 0, 0] : Fin 3 → Nat) = fun _ => 0 := funext fun a => by fin_cases a <;> rfl

section
variable {sp : Space} {S : Shape} {e : EltTy} (M : Memref sig .tc sp S e)

/-- What a buffer reads once a block is written over it: the block where it lies, what it read before elsewhere. -/
theorem read_over (R : Rect S) (u : R.shape.Idx → Elt F e) (b : M.view.ty.Contents (Elt F)) (L : List (View.Piece (Elt F) S e)) {z : S.Idx → Elt F e}
    (hz : M.view.read (Elt F) (M.view.writes (Elt F) b L) = z) :
    M.view.read (Elt F) (M.view.writes (Elt F) b (⟨R, u⟩ :: L)) = R.overlay z u := by
  funext y
  by_cases hy : y ∈ R.set
  · obtain ⟨x, rfl⟩ := R.exists_idx_of_mem hy
    exact (View.read_writes_cons_emb _ _ _ _ _ _).trans (R.overlay_emb z u x).symm
  · rw [View.read_writes_cons_miss _ _ _ _ _ hy, R.overlay_of_not_mem z u hy, hz]

/-- Writing over the whole of it leaves what was written. -/
theorem read_full {off : Fin S.rank → Nat} (hz : off = fun _ => 0) (inb : ∀ a, off a + S.size a ≤ S.size a) (u : S.Idx → Elt F e)
    (b : M.view.ty.Contents (Elt F)) :
    M.view.read (Elt F) (M.view.writes (Elt F) b [⟨Rect.unit (s := S) off S.size inb, u⟩]) = u := by
  subst hz
  rw [read_over M _ _ b [] rfl]
  funext y
  have hy : (Rect.unit (s := S) (fun _ => 0) S.size inb).emb y = y := funext fun a => Fin.ext (by show 0 + 1 * (y a).val = _; omega)
  have := Rect.overlay_emb (Rect.unit (s := S) (fun _ => 0) S.size inb) (M.view.read (Elt F) (M.view.writes (Elt F) b [])) u y
  rw [hy] at this
  exact this

end

namespace SA

/-- The table entry of grid point `i`. -/
abbrev slot (i : grid2.Coords) : S36.Idx := fun | 0 => i 0

variable (c : Dev nD) (i : grid2.Coords)
    (M1 : Memref sig .tc .smem S36 .i32) (h1 : M1.IsWhole)
    (M2 : Memref sig .tc .vmem S1792x128 .f32) (h2 : M2.IsWhole)
    (M3 : Memref sig .tc .vmem S1792x128 .f32) (h3 : M3.IsWhole)
    (M4 : Memref sig .tc .vmem S1x1x128 .i32) (h4 : M4.IsWhole)
    (M5 : Memref sig .tc .vmem S1x1x128 .i32) (h5 : M5.IsWhole)
    (M6 : Memref sig .tc .vmem S640x256 .f32) (h6 : M6.IsWhole)
    (M7 : Memref sig .tc .vmem S128x256 .bf16) (h7 : M7.IsWhole)
    (M8 : Memref sig .tc .vmem S128x256 .bf16) (h8 : M8.IsWhole)
    (M9 : Memref sig .tc .vmem S1x256 .f32) (h9 : M9.IsWhole)
    (M10 : Memref sig .tc .vmem S256x256 .bf16) (h10 : M10.IsWhole)
    (M11 : Memref sig .tc .vmem S1x256 .f32) (h11 : M11.IsWhole)
    (M12 : Memref sig .tc .vmem S256x128 .f32) (h12 : M12.IsWhole)
    (M13 : Memref sig .tc .vmem S1x128 .f32) (h13 : M13.IsWhole)
    (M14 : Memref sig .tc .vmem S128x256 .f32) (h14 : M14.IsWhole)
    (M15 : Memref sig .tc .vmem S1x256 .f32) (h15 : M15.IsWhole)
    (M16 : Memref sig .tc .vmem S256x128 .f32) (h16 : M16.IsWhole)
    (M17 : Memref sig .tc .vmem S1x128 .f32) (h17 : M17.IsWhole)
    (M18 : Memref sig .tc .vmem S512x128 .f32) (h18 : M18.IsWhole)
    (M19 : Memref sig .tc .vmem S640x256 .f32) (h19 : M19.IsWhole)

theorem word_off : k2_off1 i 0 = (i 0).val :=
  (show ∀ t : Fin 36, (Scalar.indexCast (BitVec.ofNat 32 t.val) : Index).toNat = t.val by decide) (i 0)

/-- The word the body loads from the table. -/
theorem word (g : S36.Idx → Elt F .i32) (x : (Rect.unit (s := S36) (k2_off1 i) S1.size (k2_off1_inb i)).toLoadRect.shape.Idx) :
    View.readAt (Elt F) M1.view (Rect.unit (s := S36) (k2_off1 i) S1.size (k2_off1_inb i)).toLoadRect (h1.unread g) x = g (slot i) := by
  refine (h1.readAt_unread g _ _).trans (congrArg g (funext fun a => Fin.ext ?_))
  obtain rfl : a = 0 := Subsingleton.elim _ _
  show k2_off1 i 0 + 1 * (x 0).val = (i 0).val
  have hx : (x 0).val < 1 := (x 0).isLt
  rw [word_off]
  omega

set_option maxHeartbeats 4000000 in
/-- The first point: the accumulator starts at what its operand holds. -/
theorem first (hi : (i 0).val = 0) (g : S36.Idx → Elt F .i32) (hg : ∀ p, k2_chk1 (g p))
    (X2 X3 : S1792x128.Idx → F .f32) (X4 X5 : S1x1x128.Idx → Elt F .i32) (X6 X19 : S640x256.Idx → F .f32)
    (X7 X8 : S128x256.Idx → F .bf16) (X9 X11 : S1x256.Idx → F .f32) (X10 : S256x256.Idx → F .bf16) (Q : PUnit → sProp 𝕄) :
    iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 X19
      ∗ (iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 (patch (k2_off2 (g (slot i))) (k2_pay1 (k2_pay3 X2 X3 X7 X8 X9 X10 X11) (iota .tc S1792x128 32 [0] iota_S1792x128_d0_w32) X4 X5) (k2_pay2 X6))) -∗ Q ⟨⟩))
      ⊢ wp frame (wpE (defs₀ (F := F)) 𝒱₀ c none) Set.univ
        (cc2_body i M1 h1 M2 h2 M3 h3 M4 h4 M5 h5 M6 h6 M7 h7 M8 h8 M9 h9 M10 h10 M11 h11 M12 h12 M13 h13 M14 h14 M15 h15 M16 h16 M17 h17 M18 h18 M19 h19) Q := by
  rw [cc2_body_eq_skeleton]
  iintro ⟨H1, H2, H3, H4, H5, H6, H7, H8, H9, H10, H11, H19, Hk⟩
  unfold cc2_body_skel
  rw [k2_part1_eq_skeleton]
  unfold k2_part1_skel
  have hc : Scalar.cmpi .ne (Scalar.extui (Scalar.cmpi .eq (BitVec.ofNat 32 (i 0).val) 0#32)) 0#32 = 1#1 := by rw [hi]; decide
  rw [dif_pos hc]
  sl_exec
  have hr : first.sl.r i M1 h1 g = g (slot i) := by
    unfold first.sl.r
    exact word i M1 h1 g _
  generalize first.sl.r i M1 h1 g = w at hr ⊢
  have hw : k2_chk1 w := hr ▸ hg _
  sl_exec
  sl_step
  iapply Hk
  rw [← hr]
  have e2 : View.readAt (Elt F) M2.view (Rect.unit (s := S1792x128) ![0, 0] ![1792, 128] inb_S1792x128_S1792x128_0_0).toLoadRect (h2.unread X2) = X2 := readAt_all h2 X2 zero2 _
  have e3 : View.readAt (Elt F) M3.view (Rect.unit (s := S1792x128) ![0, 0] ![1792, 128] inb_S1792x128_S1792x128_0_0).toLoadRect (h3.unread X3) = X3 := readAt_all h3 X3 zero2 _
  have e7 : View.readAt (Elt F) M7.view (Rect.unit (s := S128x256) ![0, 0] ![128, 256] inb_S128x256_S128x256_0_0).toLoadRect (h7.unread X7) = X7 := readAt_all h7 X7 zero2 _
  have e8 : View.readAt (Elt F) M8.view (Rect.unit (s := S128x256) ![0, 0] ![128, 256] inb_S128x256_S128x256_0_0).toLoadRect (h8.unread X8) = X8 := readAt_all h8 X8 zero2 _
  have e9 : View.readAt (Elt F) M9.view (Rect.unit (s := S1x256) ![0, 0] ![1, 256] inb_S1x256_S1x256_0_0).toLoadRect (h9.unread X9) = X9 := readAt_all h9 X9 zero2 _
  have e10 : View.readAt (Elt F) M10.view (Rect.unit (s := S256x256) ![0, 0] ![256, 256] inb_S256x256_S256x256_0_0).toLoadRect (h10.unread X10) = X10 := readAt_all h10 X10 zero2 _
  have e11 : View.readAt (Elt F) M11.view (Rect.unit (s := S1x256) ![0, 0] ![1, 256] inb_S1x256_S1x256_0_0).toLoadRect (h11.unread X11) = X11 := readAt_all h11 X11 zero2 _
  have e4 : View.readAt (Elt F) M4.view (Rect.unit (s := S1x1x128) ![0, 0, 0] ![1, 1, 128] inb_S1x1x128_S1x1x128_0_0_0).toLoadRect (h4.unread X4) = X4 := readAt_all h4 X4 zero3 _
  have e5 : View.readAt (Elt F) M5.view (Rect.unit (s := S1x1x128) ![0, 0, 0] ![1, 1, 128] inb_S1x1x128_S1x1x128_0_0_0).toLoadRect (h5.unread X5) = X5 := readAt_all h5 X5 zero3 _
  have e6 : View.readAt (Elt F) M6.view (Rect.unit (s := S640x256) ![0, 0] ![640, 256] inb_S640x256_S640x256_0_0).toLoadRect (h6.unread X6) = X6 := readAt_all h6 X6 zero2 _
  have e0 : M19.view.read (Elt F) _ = (k2_pay2 X6) := read_full M19 zero2 inb_S640x256_S640x256_0_0 (k2_pay2 X6) M19.view.junk
  have e : M19.view.read (Elt F) (M19.view.writes (Elt F) M19.view.junk
      [⟨Rect.unit (s := S640x256) (k2_off2 w) ![128, 256] (k2_off2_inb w hw),
        k2_pay1 (k2_pay3 (View.readAt (Elt F) M2.view (Rect.unit (s := S1792x128) ![0, 0] ![1792, 128] inb_S1792x128_S1792x128_0_0).toLoadRect (h2.unread X2)) (View.readAt (Elt F) M3.view (Rect.unit (s := S1792x128) ![0, 0] ![1792, 128] inb_S1792x128_S1792x128_0_0).toLoadRect (h3.unread X3))
            (View.readAt (Elt F) M7.view (Rect.unit (s := S128x256) ![0, 0] ![128, 256] inb_S128x256_S128x256_0_0).toLoadRect (h7.unread X7)) (View.readAt (Elt F) M8.view (Rect.unit (s := S128x256) ![0, 0] ![128, 256] inb_S128x256_S128x256_0_0).toLoadRect (h8.unread X8))
            (View.readAt (Elt F) M9.view (Rect.unit (s := S1x256) ![0, 0] ![1, 256] inb_S1x256_S1x256_0_0).toLoadRect (h9.unread X9)) (View.readAt (Elt F) M10.view (Rect.unit (s := S256x256) ![0, 0] ![256, 256] inb_S256x256_S256x256_0_0).toLoadRect (h10.unread X10))
            (View.readAt (Elt F) M11.view (Rect.unit (s := S1x256) ![0, 0] ![1, 256] inb_S1x256_S1x256_0_0).toLoadRect (h11.unread X11)))
          first.sl.v32 (View.readAt (Elt F) M4.view (Rect.unit (s := S1x1x128) ![0, 0, 0] ![1, 1, 128] inb_S1x1x128_S1x1x128_0_0_0).toLoadRect (h4.unread X4))
          (View.readAt (Elt F) M5.view (Rect.unit (s := S1x1x128) ![0, 0, 0] ![1, 1, 128] inb_S1x1x128_S1x1x128_0_0_0).toLoadRect (h5.unread X5))
          (first.sl.v51 M6 h6 M19 X6 w hw)⟩,
      ⟨Rect.unit (s := S640x256) ![0, 0] ![640, 256] inb_S640x256_S640x256_0_0,
        k2_pay2 (View.readAt (Elt F) M6.view (Rect.unit (s := S640x256) ![0, 0] ![640, 256] inb_S640x256_S640x256_0_0).toLoadRect (h6.unread X6))⟩]) = patch (k2_off2 w) (k2_pay1 (k2_pay3 X2 X3 X7 X8 X9 X10 X11) (iota .tc S1792x128 32 [0] iota_S1792x128_d0_w32) X4 X5) (k2_pay2 X6) := by
    unfold first.sl.v51 first.sl.v32
    rw [e2, e3, e7, e8, e9, e10, e11, e4, e5, e6, patch, dif_pos hw.2]
    refine (read_over M19 _ _ _ _ e0).trans (congrArg _ (congrArg _ (funext fun p => ?_)))
    exact congrFun e0 _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ihave H19 := (Entails.of_eq (congrArg (fun f => (M19.view.loc (c : Thread nD τ) ↦{fullShare} f : sProp 𝕄)) (h19.eq_unread e))) $$ H19
  iexact H19

set_option maxHeartbeats 4000000 in
/-- A later point: the accumulator goes on from what the point before left. -/
theorem next (hi : (i 0).val ≠ 0) (g : S36.Idx → Elt F .i32) (hg : ∀ p, k2_chk1 (g p))
    (X2 X3 : S1792x128.Idx → F .f32) (X4 X5 : S1x1x128.Idx → Elt F .i32) (X6 X19 : S640x256.Idx → F .f32)
    (X7 X8 : S128x256.Idx → F .bf16) (X9 X11 : S1x256.Idx → F .f32) (X10 : S256x256.Idx → F .bf16) (Q : PUnit → sProp 𝕄) :
    iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 X19
      ∗ (iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 (patch (k2_off2 (g (slot i))) (k2_pay1 (k2_pay3 X2 X3 X7 X8 X9 X10 X11) (iota .tc S1792x128 32 [0] iota_S1792x128_d0_w32) X4 X5) X19)) -∗ Q ⟨⟩))
      ⊢ wp frame (wpE (defs₀ (F := F)) 𝒱₀ c none) Set.univ
        (cc2_body i M1 h1 M2 h2 M3 h3 M4 h4 M5 h5 M6 h6 M7 h7 M8 h8 M9 h9 M10 h10 M11 h11 M12 h12 M13 h13 M14 h14 M15 h15 M16 h16 M17 h17 M18 h18 M19 h19) Q := by
  rw [cc2_body_eq_skeleton]
  iintro ⟨H1, H2, H3, H4, H5, H6, H7, H8, H9, H10, H11, H19, Hk⟩
  unfold cc2_body_skel
  rw [k2_part1_eq_skeleton]
  unfold k2_part1_skel
  have hc : ¬ Scalar.cmpi .ne (Scalar.extui (Scalar.cmpi .eq (BitVec.ofNat 32 (i 0).val) 0#32)) 0#32 = 1#1 :=
    (show ∀ t : Fin 36, t.val ≠ 0 → ¬ Scalar.cmpi .ne (Scalar.extui (Scalar.cmpi .eq (BitVec.ofNat 32 t.val) 0#32)) 0#32 = 1#1 by decide) (i 0) hi
  rw [dif_neg hc]
  sl_exec
  have hr : next.sl.r i M1 h1 g = g (slot i) := by
    unfold next.sl.r
    exact word i M1 h1 g _
  generalize next.sl.r i M1 h1 g = w at hr ⊢
  have hw : k2_chk1 w := hr ▸ hg _
  sl_exec
  sl_step
  iapply Hk
  rw [← hr]
  have e2 : View.readAt (Elt F) M2.view (Rect.unit (s := S1792x128) ![0, 0] ![1792, 128] inb_S1792x128_S1792x128_0_0).toLoadRect (h2.unread X2) = X2 := readAt_all h2 X2 zero2 _
  have e3 : View.readAt (Elt F) M3.view (Rect.unit (s := S1792x128) ![0, 0] ![1792, 128] inb_S1792x128_S1792x128_0_0).toLoadRect (h3.unread X3) = X3 := readAt_all h3 X3 zero2 _
  have e7 : View.readAt (Elt F) M7.view (Rect.unit (s := S128x256) ![0, 0] ![128, 256] inb_S128x256_S128x256_0_0).toLoadRect (h7.unread X7) = X7 := readAt_all h7 X7 zero2 _
  have e8 : View.readAt (Elt F) M8.view (Rect.unit (s := S128x256) ![0, 0] ![128, 256] inb_S128x256_S128x256_0_0).toLoadRect (h8.unread X8) = X8 := readAt_all h8 X8 zero2 _
  have e9 : View.readAt (Elt F) M9.view (Rect.unit (s := S1x256) ![0, 0] ![1, 256] inb_S1x256_S1x256_0_0).toLoadRect (h9.unread X9) = X9 := readAt_all h9 X9 zero2 _
  have e10 : View.readAt (Elt F) M10.view (Rect.unit (s := S256x256) ![0, 0] ![256, 256] inb_S256x256_S256x256_0_0).toLoadRect (h10.unread X10) = X10 := readAt_all h10 X10 zero2 _
  have e11 : View.readAt (Elt F) M11.view (Rect.unit (s := S1x256) ![0, 0] ![1, 256] inb_S1x256_S1x256_0_0).toLoadRect (h11.unread X11) = X11 := readAt_all h11 X11 zero2 _
  have e4 : View.readAt (Elt F) M4.view (Rect.unit (s := S1x1x128) ![0, 0, 0] ![1, 1, 128] inb_S1x1x128_S1x1x128_0_0_0).toLoadRect (h4.unread X4) = X4 := readAt_all h4 X4 zero3 _
  have e5 : View.readAt (Elt F) M5.view (Rect.unit (s := S1x1x128) ![0, 0, 0] ![1, 1, 128] inb_S1x1x128_S1x1x128_0_0_0).toLoadRect (h5.unread X5) = X5 := readAt_all h5 X5 zero3 _
  have e0 : M19.view.read (Elt F) _ = X19 := h19.read_unread (Val := Elt F) X19
  have e : M19.view.read (Elt F) (M19.view.writes (Elt F) (h19.unread X19)
      [⟨Rect.unit (s := S640x256) (k2_off2 w) ![128, 256] (k2_off2_inb w hw),
        k2_pay1 (k2_pay3 (View.readAt (Elt F) M2.view (Rect.unit (s := S1792x128) ![0, 0] ![1792, 128] inb_S1792x128_S1792x128_0_0).toLoadRect (h2.unread X2)) (View.readAt (Elt F) M3.view (Rect.unit (s := S1792x128) ![0, 0] ![1792, 128] inb_S1792x128_S1792x128_0_0).toLoadRect (h3.unread X3))
            (View.readAt (Elt F) M7.view (Rect.unit (s := S128x256) ![0, 0] ![128, 256] inb_S128x256_S128x256_0_0).toLoadRect (h7.unread X7)) (View.readAt (Elt F) M8.view (Rect.unit (s := S128x256) ![0, 0] ![128, 256] inb_S128x256_S128x256_0_0).toLoadRect (h8.unread X8))
            (View.readAt (Elt F) M9.view (Rect.unit (s := S1x256) ![0, 0] ![1, 256] inb_S1x256_S1x256_0_0).toLoadRect (h9.unread X9)) (View.readAt (Elt F) M10.view (Rect.unit (s := S256x256) ![0, 0] ![256, 256] inb_S256x256_S256x256_0_0).toLoadRect (h10.unread X10))
            (View.readAt (Elt F) M11.view (Rect.unit (s := S1x256) ![0, 0] ![1, 256] inb_S1x256_S1x256_0_0).toLoadRect (h11.unread X11)))
          next.sl.v32 (View.readAt (Elt F) M4.view (Rect.unit (s := S1x1x128) ![0, 0, 0] ![1, 1, 128] inb_S1x1x128_S1x1x128_0_0_0).toLoadRect (h4.unread X4))
          (View.readAt (Elt F) M5.view (Rect.unit (s := S1x1x128) ![0, 0, 0] ![1, 1, 128] inb_S1x1x128_S1x1x128_0_0_0).toLoadRect (h5.unread X5))
          (View.readAt (Elt F) M19.view (Rect.unit (s := S640x256) (k2_off2 w) ![128, 256] (k2_off2_inb w hw)).toLoadRect (h19.unread X19))⟩]) = patch (k2_off2 w) (k2_pay1 (k2_pay3 X2 X3 X7 X8 X9 X10 X11) (iota .tc S1792x128 32 [0] iota_S1792x128_d0_w32) X4 X5) X19 := by
    unfold next.sl.v32
    rw [e2, e3, e7, e8, e9, e10, e11, e4, e5, patch, dif_pos hw.2]
    refine (read_over M19 _ _ _ [] e0).trans (congrArg _ (congrArg _ (funext fun p => ?_)))
    exact congrFun e0 _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ihave H19 := (Entails.of_eq (congrArg (fun f => (M19.view.loc (c : Thread nD τ) ↦{fullShare} f : sProp 𝕄)) (h19.eq_unread e))) $$ H19
  iexact H19

end SA

end Cert.Proof.Run

end
-- ==== Proof.Held.lean ====
/-
  A whole buffer's ownership in its two spellings: at the contents its memref reads, and at the contents of the buffer.
-/
module

public import proofs.«01_k».proof.Proof.StepA

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Owning a whole buffer at what it reads is holding it at the contents that read so. -/
theorem owns_to_hold (c : Dev nD) {sp : Space} {s : Shape} {e : EltTy} (M : Memref sig .tc sp s e) (h : M.IsWhole)
    (X : s.Idx → Elt F e) : (owns (c : Thread nD τ) M fullShare X : sProp 𝕄) ⊢ hold c M h X := by
  unfold hold owns
  rw [h.set_eq_univ]
  iintro ⟨%f, %hf, H⟩
  rw [← h.eq_unread hf]
  iexact H

/-- The same at contents equal to those it reads. -/
theorem owns_to_hold_of (c : Dev nD) {sp : Space} {s : Shape} {e : EltTy} (M : Memref sig .tc sp s e) (h : M.IsWhole)
    {Y X : s.Idx → Elt F e} (hY : Y = X) : (owns (c : Thread nD τ) M fullShare Y : sProp 𝕄) ⊢ hold c M h X :=
  hY ▸ owns_to_hold c M h Y

/-- Owning at equal contents. -/
theorem owns_of (c : Dev nD) {sp : Space} {s : Shape} {e : EltTy} (M : Memref sig .tc sp s e)
    {Y X : s.Idx → Elt F e} (hY : Y = X) : (owns (c : Thread nD τ) M fullShare Y : sProp 𝕄) ⊢ owns (c : Thread nD τ) M fullShare X :=
  hY ▸ .rfl

/-- Holding a whole buffer at the contents that read `X` is owning it at `X`. -/
theorem hold_to_owns (c : Dev nD) {sp : Space} {s : Shape} {e : EltTy} (M : Memref sig .tc sp s e) (h : M.IsWhole)
    (X : s.Idx → Elt F e) : hold c M h X ⊢ (owns (c : Thread nD τ) M fullShare X : sProp 𝕄) := by
  unfold hold owns
  rw [h.set_eq_univ]
  iintro H
  iexists _
  isplitr; swap
  · iexact H
  · ipureintro
    exact h.read_unread X

/-- The two spellings are one. -/
theorem owns_hold (c : Dev nD) {sp : Space} {s : Shape} {e : EltTy} (M : Memref sig .tc sp s e) (h : M.IsWhole)
    (X : s.Idx → Elt F e) : (owns (c : Thread nD τ) M fullShare X : sProp 𝕄) = hold c M h X :=
  Entails.antisymm (owns_to_hold c M h X) (hold_to_owns c M h X)

end Cert.Proof.Run

end
-- ==== Proof.RegionA.lean ====
/-
  The first TensorCore call (`pallas_call` 0 of @main) as a pipeline: its windows' contents point by point, from any
  contents of the arrays at its start, and its body's contract at every point.
-/
module

public import proofs.«01_k».proof.Proof.StepA
public import proofs.«01_k».proof.Proof.Held
public import proofs.«01_k».proof.Proof.Gen.KernelIdeal.Launch
public import Idealize.ShloMosaic.Lib.Pipeline.FrameBody
public import Idealize.ShloMosaic.Lib.Pipeline.Value

@[expose] public section

noncomputable section

namespace Cert.Proof.Run.RA

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MM F

/-- The body at a point, by its name. -/
theorem body_eq (t : Fin grid2.N) (s : (w : Fin 18) → Fin (spec2 w).nbuf) :
    defs₀ (F := F) .tc 2 (t, s) = cc2_body (grid2.coords t) (Memref.whole main_c) (Memref.isWhole_whole _) (spec2_0.stage (s 0)) (hstage2_0 ((s 0).cast nbuf2_0)) (spec2_1.stage (s 1)) (hstage2_1 ((s 1).cast nbuf2_1)) (spec2_2.stage (s 2)) (hstage2_2 ((s 2).cast nbuf2_2)) (spec2_3.stage (s 3)) (hstage2_3 ((s 3).cast nbuf2_3)) (spec2_4.stage (s 4)) (hstage2_4 ((s 4).cast nbuf2_4)) (spec2_5.stage (s 5)) (hstage2_5 ((s 5).cast nbuf2_5)) (spec2_6.stage (s 6)) (hstage2_6 ((s 6).cast nbuf2_6)) (spec2_7.stage (s 7)) (hstage2_7 ((s 7).cast nbuf2_7)) (spec2_8.stage (s 8)) (hstage2_8 ((s 8).cast nbuf2_8)) (spec2_9.stage (s 9)) (hstage2_9 ((s 9).cast nbuf2_9)) (spec2_10.stage (s 10)) (hstage2_10 ((s 10).cast nbuf2_10)) (spec2_11.stage (s 11)) (hstage2_11 ((s 11).cast nbuf2_11)) (spec2_12.stage (s 12)) (hstage2_12 ((s 12).cast nbuf2_12)) (spec2_13.stage (s 13)) (hstage2_13 ((s 13).cast nbuf2_13)) (spec2_14.stage (s 14)) (hstage2_14 ((s 14).cast nbuf2_14)) (spec2_15.stage (s 15)) (hstage2_15 ((s 15).cast nbuf2_15)) (spec2_16.stage (s 16)) (hstage2_16 ((s 16).cast nbuf2_16)) (spec2_17.stage (s 17)) (hstage2_17 ((s 17).cast nbuf2_17)) := rfl

section Contents

variable (c : Dev nD) (a : (pcfg2 (F := F)).Adm) (V : (b : Ref sig .tc) → Buf (Elt F) ((c : Thread nD τ).loc b))

/-- What an uncut window reads of its array at a point. -/
def blk (w : Fin 18) (t : Fin (cfg2 a).N) : (win2 a w).block.Idx → Elt F (win2 a w).elt :=
  ((win2 a w).blk t).view.read (Elt F) (V (Pipeline.arrRef spec2 w))

/-- A point's grid coordinates. -/
abbrev pt (t : Fin (cfg2 a).N) : grid2.Coords := grid2.coords t

/-- The messages a point computes for its edges. -/
def msg (t : Fin (cfg2 a).N) : FVec F S1792x256 .bf16 :=
  k2_pay3 (blk c a V 0 t) (blk c a V 1 t) (blk c a V 5 t) (blk c a V 6 t) (blk c a V 7 t) (blk c a V 8 t) (blk c a V 9 t)

/-- What a point adds into the accumulator's rows, from the rows it finds there. -/
def add (t : Fin (cfg2 a).N) : (S128x256.Idx → F .f32) → S128x256.Idx → F .f32 :=
  k2_pay1 (msg c a V t) (iota .tc S1792x128 32 [0] iota_S1792x128_d0_w32) (blk c a V 2 t) (blk c a V 3 t)

/-- The accumulator after a point. -/
def acc : (n : ℕ) → n < (cfg2 a).N → S640x256.Idx → F .f32
  | 0, h => patch (k2_off2 (a.1 0 (SA.slot (pt a ⟨0, h⟩)))) (add c a V ⟨0, h⟩) (k2_pay2 (blk c a V 4 ⟨0, h⟩))
  | n + 1, h => patch (k2_off2 (a.1 0 (SA.slot (pt a ⟨n + 1, h⟩)))) (add c a V ⟨n + 1, h⟩) (acc n (Nat.lt_of_succ_lt h))

/-- The pipeline's proof data. -/
def dat : Dat τ (Elt F) (HIx 2) ℕ UU ℕ (cfg2 a) c where
  A w := V (Pipeline.arrRef spec2 w)
  after w t := match w with
    | ⟨17, _⟩ => acc c a V t.val t.isLt
    | ⟨16, _⟩ => fun _ => Classical.arbitrary _
    | ⟨k, hk⟩ => blk c a V ⟨k, hk⟩ t
  Φ _ := iprop(Pipeline.scopedRest (cfg2 a).spec c ∗ Pipeline.prefHeld pre2 c (fun _ => fullShare) a.1)
  q _ := fullShare
  owed _ := 0
  recorded _ := {p | (K (F := F)).lev ((c : Thread nD τ), p.1) p.2 ≤ 16}

variable {c a V}

/-- An input's buffer holds its block at every point. -/
theorem before_in (w : Fin 18) (hw : (win2 a w).isOut = false) (hlive : ∀ i, (cfg2 a).idle w i = false)
    (ha : ∀ t, (dat c a V).after w t = blk c a V w t) (t : Fin (cfg2 a).N)
    (d : (win2 a w).block.Idx → Elt F (win2 a w).elt) :
    (dat c a V).before w t d = blk c a V w t := by
  have hcut : ∀ t, (win2 a w).cut ((cfg2 a).grid.coords t) ((dat c a V).after w t) = (dat c a V).blockOf w t := by
    intro t; rw [ha]; rfl
  rw [(dat c a V).before_in_eq_fetched w hw hlive (fun _ _ _ => rfl) hcut,
    (dat c a V).fetched_of_clip_none w t (fun _ => rfl) d ((dat c a V).after w t)]
  unfold Dat.fetched
  rw [← hcut t, Window.fill_cut, ha]

/-- The table as the pipeline holds it. -/
theorem table_eq : (Pipeline.prefHeld pre2 c (fun _ => fullShare) a.1 : sProp 𝕄) = hold c (Memref.whole main_c) (Memref.isWhole_whole _) (a.1 0) := by
  unfold Pipeline.prefHeld
  refine (bigSep_univ_of_subsingleton (I := Fin 1) 0).trans ?_
  exact congrArg (fun f : Buf (Elt F) ((c : Thread nD τ).loc main_c) => (((c : Thread nD τ).loc main_c) ↦{fullShare} f : sProp 𝕄))
    ((Memref.isWhole_whole main_c).eq_unread (Val := Elt F) (f := a.1 0) rfl)

/-- A point's one coordinate is its number. -/
theorem pt_val (t : Fin (cfg2 a).N) : ((pt a t) 0).val = t.val := by
  have ht : t.val < 36 := lt_of_lt_of_eq t.isLt N_2
  rw [Pipeline.Grid.coords_val (G := grid2) t 0 (S := 1) (B := 36) (by decide) rfl]
  omega

/-- The accumulator at the first point. -/
theorem acc_first (t : Fin (cfg2 a).N) (ht : t.val = 0) :
    acc c a V t.val t.isLt = patch (k2_off2 (a.1 0 (SA.slot (pt a t)))) (add c a V t) (k2_pay2 (blk c a V 4 t)) := by
  obtain ⟨k, hk⟩ := t
  obtain rfl : k = 0 := ht
  rfl

/-- The accumulator at a later point. -/
theorem acc_next (t : Fin (cfg2 a).N) (ht : t.val ≠ 0) :
    acc c a V t.val t.isLt
      = patch (k2_off2 (a.1 0 (SA.slot (pt a t)))) (add c a V t) (acc c a V (t.val - 1) (Nat.lt_of_le_of_lt (Nat.sub_le _ _) t.isLt)) := by
  obtain ⟨k, hk⟩ := t
  obtain ⟨k, rfl⟩ : ∃ j, k = j + 1 := ⟨k - 1, by simp only at ht; omega⟩
  rfl

/-- At a later point the accumulator's buffer holds what the point before left. -/
theorem before_acc (t : Fin (cfg2 a).N) (ht : t.val ≠ 0) (d : S640x256.Idx → F .f32) :
    (dat c a V).before 17 t d = acc c a V (t.val - 1) (Nat.lt_of_le_of_lt (Nat.sub_le _ _) t.isLt) := by
  have hlt : t.val < 36 := lt_of_lt_of_eq t.isLt N_2
  refine (dat c a V).before_out_kept 17 rfl t ht ?_ (fun _ => rfl) (fun _ _ => rfl) d
  rw [Bool.eq_false_iff]
  intro h
  have := ((win2 a 17).flush_oneBlock rfl (show grid2.oneBlock (spec2 17).reads = true by decide) N_2 (m := 35) rfl _).mp h
  simp only at this
  omega

/-- The windows a point's contract forgets. -/
def fgt : Fin 18 → Bool := fun w => w.val == 16

set_option maxHeartbeats 4000000 in
/-- The body at every point: from what the windows' buffers hold to what they are to hold. -/
theorem body_obligation (hg : ∀ p, k2_chk1 (a.1 0 p)) :
    Pipeline.BodyObligationLoose (dat c a V) (defs₀ (F := F)) 𝒱₀ none Set.univ fgt := by
  intro t
  rw [bigSep_W2, bigSep_W2]
  have hi := pt_val (a := a) t
  have hb : defs₀ (F := F) .tc (cfg2 a).body ((cfg2 a).bodyArgs t ((cfg2 a).slots t)) = cc2_body (pt a t) (Memref.whole main_c) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (spec2_10.stage ((cfg2 a).slots t 10)) (hstage2_10 (((cfg2 a).slots t 10).cast nbuf2_10)) (spec2_11.stage ((cfg2 a).slots t 11)) (hstage2_11 (((cfg2 a).slots t 11).cast nbuf2_11)) (spec2_12.stage ((cfg2 a).slots t 12)) (hstage2_12 (((cfg2 a).slots t 12).cast nbuf2_12)) (spec2_13.stage ((cfg2 a).slots t 13)) (hstage2_13 (((cfg2 a).slots t 13).cast nbuf2_13)) (spec2_14.stage ((cfg2 a).slots t 14)) (hstage2_14 (((cfg2 a).slots t 14).cast nbuf2_14)) (spec2_15.stage ((cfg2 a).slots t 15)) (hstage2_15 (((cfg2 a).slots t 15).cast nbuf2_15)) (spec2_16.stage ((cfg2 a).slots t 16)) (hstage2_16 (((cfg2 a).slots t 16).cast nbuf2_16)) (spec2_17.stage ((cfg2 a).slots t 17)) (hstage2_17 (((cfg2 a).slots t 17).cast nbuf2_17)) := body_eq t _
  rw [hb]
  have hΦ : ∀ s, (dat c a V).Φ s = iprop(Pipeline.scopedRest (cfg2 a).spec c ∗ Pipeline.prefHeld pre2 c (fun _ => fullShare) a.1) := fun _ => rfl
  rw [hΦ, hΦ, table_eq]
  have b0 : ∀ d, (dat c a V).before 0 t d = blk c a V 0 t := before_in 0 rfl (fun _ => rfl) (fun _ => rfl) t
  have a0 : (dat c a V).after 0 t = blk c a V 0 t := rfl
  have b1 : ∀ d, (dat c a V).before 1 t d = blk c a V 1 t := before_in 1 rfl (fun _ => rfl) (fun _ => rfl) t
  have a1 : (dat c a V).after 1 t = blk c a V 1 t := rfl
  have b2 : ∀ d, (dat c a V).before 2 t d = blk c a V 2 t := before_in 2 rfl (fun _ => rfl) (fun _ => rfl) t
  have a2 : (dat c a V).after 2 t = blk c a V 2 t := rfl
  have b3 : ∀ d, (dat c a V).before 3 t d = blk c a V 3 t := before_in 3 rfl (fun _ => rfl) (fun _ => rfl) t
  have a3 : (dat c a V).after 3 t = blk c a V 3 t := rfl
  have b4 : ∀ d, (dat c a V).before 4 t d = blk c a V 4 t := before_in 4 rfl (fun _ => rfl) (fun _ => rfl) t
  have a4 : (dat c a V).after 4 t = blk c a V 4 t := rfl
  have b5 : ∀ d, (dat c a V).before 5 t d = blk c a V 5 t := before_in 5 rfl (fun _ => rfl) (fun _ => rfl) t
  have a5 : (dat c a V).after 5 t = blk c a V 5 t := rfl
  have b6 : ∀ d, (dat c a V).before 6 t d = blk c a V 6 t := before_in 6 rfl (fun _ => rfl) (fun _ => rfl) t
  have a6 : (dat c a V).after 6 t = blk c a V 6 t := rfl
  have b7 : ∀ d, (dat c a V).before 7 t d = blk c a V 7 t := before_in 7 rfl (fun _ => rfl) (fun _ => rfl) t
  have a7 : (dat c a V).after 7 t = blk c a V 7 t := rfl
  have b8 : ∀ d, (dat c a V).before 8 t d = blk c a V 8 t := before_in 8 rfl (fun _ => rfl) (fun _ => rfl) t
  have a8 : (dat c a V).after 8 t = blk c a V 8 t := rfl
  have b9 : ∀ d, (dat c a V).before 9 t d = blk c a V 9 t := before_in 9 rfl (fun _ => rfl) (fun _ => rfl) t
  have a9 : (dat c a V).after 9 t = blk c a V 9 t := rfl
  have b10 : ∀ d, (dat c a V).before 10 t d = blk c a V 10 t := before_in 10 rfl (fun _ => rfl) (fun _ => rfl) t
  have a10 : (dat c a V).after 10 t = blk c a V 10 t := rfl
  have b11 : ∀ d, (dat c a V).before 11 t d = blk c a V 11 t := before_in 11 rfl (fun _ => rfl) (fun _ => rfl) t
  have a11 : (dat c a V).after 11 t = blk c a V 11 t := rfl
  have b12 : ∀ d, (dat c a V).before 12 t d = blk c a V 12 t := before_in 12 rfl (fun _ => rfl) (fun _ => rfl) t
  have a12 : (dat c a V).after 12 t = blk c a V 12 t := rfl
  have b13 : ∀ d, (dat c a V).before 13 t d = blk c a V 13 t := before_in 13 rfl (fun _ => rfl) (fun _ => rfl) t
  have a13 : (dat c a V).after 13 t = blk c a V 13 t := rfl
  have b14 : ∀ d, (dat c a V).before 14 t d = blk c a V 14 t := before_in 14 rfl (fun _ => rfl) (fun _ => rfl) t
  have a14 : (dat c a V).after 14 t = blk c a V 14 t := rfl
  have b15 : ∀ d, (dat c a V).before 15 t d = blk c a V 15 t := before_in 15 rfl (fun _ => rfl) (fun _ => rfl) t
  have a15 : (dat c a V).after 15 t = blk c a V 15 t := rfl
  have a17 : (dat c a V).after 17 t = acc c a V t.val t.isLt := rfl
  have hl : ∀ w, (cfg2 a).loose w = false := fun _ => rfl
  have hd : ∀ w, (cfg2 a).idle w ((cfg2 a).grid.coords t) = false := fun _ => rfl
  have f0 : fgt 0 = false := rfl
  have f1 : fgt 1 = false := rfl
  have f2 : fgt 2 = false := rfl
  have f3 : fgt 3 = false := rfl
  have f4 : fgt 4 = false := rfl
  have f5 : fgt 5 = false := rfl
  have f6 : fgt 6 = false := rfl
  have f7 : fgt 7 = false := rfl
  have f8 : fgt 8 = false := rfl
  have f9 : fgt 9 = false := rfl
  have f10 : fgt 10 = false := rfl
  have f11 : fgt 11 = false := rfl
  have f12 : fgt 12 = false := rfl
  have f13 : fgt 13 = false := rfl
  have f14 : fgt 14 = false := rfl
  have f15 : fgt 15 = false := rfl
  have f16 : fgt 16 = true := rfl
  have f17 : fgt 17 = false := rfl
  simp only [f0, f1, f2, f3, f4, f5, f6, f7, f8, f9, f10, f11, f12, f13, f14, f15, f16, f17, a0, a1, a2, a3, a4, a5, a6, a7, a8, a9, a10, a11, a12, a13, a14, a15, a17, hl, hd]
  by_cases h0 : t.val = 0
  · iintro ⟨⟨Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩⟩
    rw [acc_first t h0]
    ihave H0 := (owns_to_hold_of c (spec2_0.stage ((cfg2 a).slots t 0)) (hstage2_0 (((cfg2 a).slots t 0).cast nbuf2_0)) (b0 d0)) $$ H0
    ihave H1 := (owns_to_hold_of c (spec2_1.stage ((cfg2 a).slots t 1)) (hstage2_1 (((cfg2 a).slots t 1).cast nbuf2_1)) (b1 d1)) $$ H1
    ihave H2 := (owns_to_hold_of c (spec2_2.stage ((cfg2 a).slots t 2)) (hstage2_2 (((cfg2 a).slots t 2).cast nbuf2_2)) (b2 d2)) $$ H2
    ihave H3 := (owns_to_hold_of c (spec2_3.stage ((cfg2 a).slots t 3)) (hstage2_3 (((cfg2 a).slots t 3).cast nbuf2_3)) (b3 d3)) $$ H3
    ihave H4 := (owns_to_hold_of c (spec2_4.stage ((cfg2 a).slots t 4)) (hstage2_4 (((cfg2 a).slots t 4).cast nbuf2_4)) (b4 d4)) $$ H4
    ihave H5 := (owns_to_hold_of c (spec2_5.stage ((cfg2 a).slots t 5)) (hstage2_5 (((cfg2 a).slots t 5).cast nbuf2_5)) (b5 d5)) $$ H5
    ihave H6 := (owns_to_hold_of c (spec2_6.stage ((cfg2 a).slots t 6)) (hstage2_6 (((cfg2 a).slots t 6).cast nbuf2_6)) (b6 d6)) $$ H6
    ihave H7 := (owns_to_hold_of c (spec2_7.stage ((cfg2 a).slots t 7)) (hstage2_7 (((cfg2 a).slots t 7).cast nbuf2_7)) (b7 d7)) $$ H7
    ihave H8 := (owns_to_hold_of c (spec2_8.stage ((cfg2 a).slots t 8)) (hstage2_8 (((cfg2 a).slots t 8).cast nbuf2_8)) (b8 d8)) $$ H8
    ihave H9 := (owns_to_hold_of c (spec2_9.stage ((cfg2 a).slots t 9)) (hstage2_9 (((cfg2 a).slots t 9).cast nbuf2_9)) (b9 d9)) $$ H9
    ihave H17 := (owns_to_hold c (spec2_17.stage ((cfg2 a).slots t 17)) (hstage2_17 (((cfg2 a).slots t 17).cast nbuf2_17)) _) $$ H17
    ihave H10 := (owns_of c (spec2_10.stage ((cfg2 a).slots t 10)) (b10 d10)) $$ H10
    ihave H11 := (owns_of c (spec2_11.stage ((cfg2 a).slots t 11)) (b11 d11)) $$ H11
    ihave H12 := (owns_of c (spec2_12.stage ((cfg2 a).slots t 12)) (b12 d12)) $$ H12
    ihave H13 := (owns_of c (spec2_13.stage ((cfg2 a).slots t 13)) (b13 d13)) $$ H13
    ihave H14 := (owns_of c (spec2_14.stage ((cfg2 a).slots t 14)) (b14 d14)) $$ H14
    ihave H15 := (owns_of c (spec2_15.stage ((cfg2 a).slots t 15)) (b15 d15)) $$ H15
    iapply (SA.first c (pt a t) (Memref.whole main_c) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (spec2_10.stage ((cfg2 a).slots t 10)) (hstage2_10 (((cfg2 a).slots t 10).cast nbuf2_10)) (spec2_11.stage ((cfg2 a).slots t 11)) (hstage2_11 (((cfg2 a).slots t 11).cast nbuf2_11)) (spec2_12.stage ((cfg2 a).slots t 12)) (hstage2_12 (((cfg2 a).slots t 12).cast nbuf2_12)) (spec2_13.stage ((cfg2 a).slots t 13)) (hstage2_13 (((cfg2 a).slots t 13).cast nbuf2_13)) (spec2_14.stage ((cfg2 a).slots t 14)) (hstage2_14 (((cfg2 a).slots t 14).cast nbuf2_14)) (spec2_15.stage ((cfg2 a).slots t 15)) (hstage2_15 (((cfg2 a).slots t 15).cast nbuf2_15)) (spec2_16.stage ((cfg2 a).slots t 16)) (hstage2_16 (((cfg2 a).slots t 16).cast nbuf2_16)) (spec2_17.stage ((cfg2 a).slots t 17)) (hstage2_17 (((cfg2 a).slots t 17).cast nbuf2_17)) (hi.trans h0) (a.1 0) hg (blk c a V 0 t) (blk c a V 1 t) (blk c a V 2 t) (blk c a V 3 t) (blk c a V 4 t) _ (blk c a V 5 t) (blk c a V 6 t) (blk c a V 7 t) (blk c a V 9 t) (blk c a V 8 t))
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H17]; · iexact H17
    iintro ⟨Ht, H0, H1, H2, H3, H4, H5, H6, H7, H8, H9, H17⟩
    ihave H0 := (hold_to_owns c (spec2_0.stage ((cfg2 a).slots t 0)) (hstage2_0 (((cfg2 a).slots t 0).cast nbuf2_0)) _) $$ H0
    ihave H1 := (hold_to_owns c (spec2_1.stage ((cfg2 a).slots t 1)) (hstage2_1 (((cfg2 a).slots t 1).cast nbuf2_1)) _) $$ H1
    ihave H2 := (hold_to_owns c (spec2_2.stage ((cfg2 a).slots t 2)) (hstage2_2 (((cfg2 a).slots t 2).cast nbuf2_2)) _) $$ H2
    ihave H3 := (hold_to_owns c (spec2_3.stage ((cfg2 a).slots t 3)) (hstage2_3 (((cfg2 a).slots t 3).cast nbuf2_3)) _) $$ H3
    ihave H4 := (hold_to_owns c (spec2_4.stage ((cfg2 a).slots t 4)) (hstage2_4 (((cfg2 a).slots t 4).cast nbuf2_4)) _) $$ H4
    ihave H5 := (hold_to_owns c (spec2_5.stage ((cfg2 a).slots t 5)) (hstage2_5 (((cfg2 a).slots t 5).cast nbuf2_5)) _) $$ H5
    ihave H6 := (hold_to_owns c (spec2_6.stage ((cfg2 a).slots t 6)) (hstage2_6 (((cfg2 a).slots t 6).cast nbuf2_6)) _) $$ H6
    ihave H7 := (hold_to_owns c (spec2_7.stage ((cfg2 a).slots t 7)) (hstage2_7 (((cfg2 a).slots t 7).cast nbuf2_7)) _) $$ H7
    ihave H8 := (hold_to_owns c (spec2_8.stage ((cfg2 a).slots t 8)) (hstage2_8 (((cfg2 a).slots t 8).cast nbuf2_8)) _) $$ H8
    ihave H9 := (hold_to_owns c (spec2_9.stage ((cfg2 a).slots t 9)) (hstage2_9 (((cfg2 a).slots t 9).cast nbuf2_9)) _) $$ H9
    ihave H17 := (hold_to_owns c (spec2_17.stage ((cfg2 a).slots t 17)) (hstage2_17 (((cfg2 a).slots t 17).cast nbuf2_17)) _) $$ H17
    isplitl [Hr Ht]
    · isplitl [Hr]
      · iexact Hr
      · iexact Ht
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro ⟨⟨Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩⟩
    rw [acc_next t h0]
    ihave H0 := (owns_to_hold_of c (spec2_0.stage ((cfg2 a).slots t 0)) (hstage2_0 (((cfg2 a).slots t 0).cast nbuf2_0)) (b0 d0)) $$ H0
    ihave H1 := (owns_to_hold_of c (spec2_1.stage ((cfg2 a).slots t 1)) (hstage2_1 (((cfg2 a).slots t 1).cast nbuf2_1)) (b1 d1)) $$ H1
    ihave H2 := (owns_to_hold_of c (spec2_2.stage ((cfg2 a).slots t 2)) (hstage2_2 (((cfg2 a).slots t 2).cast nbuf2_2)) (b2 d2)) $$ H2
    ihave H3 := (owns_to_hold_of c (spec2_3.stage ((cfg2 a).slots t 3)) (hstage2_3 (((cfg2 a).slots t 3).cast nbuf2_3)) (b3 d3)) $$ H3
    ihave H4 := (owns_to_hold_of c (spec2_4.stage ((cfg2 a).slots t 4)) (hstage2_4 (((cfg2 a).slots t 4).cast nbuf2_4)) (b4 d4)) $$ H4
    ihave H5 := (owns_to_hold_of c (spec2_5.stage ((cfg2 a).slots t 5)) (hstage2_5 (((cfg2 a).slots t 5).cast nbuf2_5)) (b5 d5)) $$ H5
    ihave H6 := (owns_to_hold_of c (spec2_6.stage ((cfg2 a).slots t 6)) (hstage2_6 (((cfg2 a).slots t 6).cast nbuf2_6)) (b6 d6)) $$ H6
    ihave H7 := (owns_to_hold_of c (spec2_7.stage ((cfg2 a).slots t 7)) (hstage2_7 (((cfg2 a).slots t 7).cast nbuf2_7)) (b7 d7)) $$ H7
    ihave H8 := (owns_to_hold_of c (spec2_8.stage ((cfg2 a).slots t 8)) (hstage2_8 (((cfg2 a).slots t 8).cast nbuf2_8)) (b8 d8)) $$ H8
    ihave H9 := (owns_to_hold_of c (spec2_9.stage ((cfg2 a).slots t 9)) (hstage2_9 (((cfg2 a).slots t 9).cast nbuf2_9)) (b9 d9)) $$ H9
    ihave H17 := (owns_to_hold_of c (spec2_17.stage ((cfg2 a).slots t 17)) (hstage2_17 (((cfg2 a).slots t 17).cast nbuf2_17)) (before_acc t h0 d17)) $$ H17
    ihave H10 := (owns_of c (spec2_10.stage ((cfg2 a).slots t 10)) (b10 d10)) $$ H10
    ihave H11 := (owns_of c (spec2_11.stage ((cfg2 a).slots t 11)) (b11 d11)) $$ H11
    ihave H12 := (owns_of c (spec2_12.stage ((cfg2 a).slots t 12)) (b12 d12)) $$ H12
    ihave H13 := (owns_of c (spec2_13.stage ((cfg2 a).slots t 13)) (b13 d13)) $$ H13
    ihave H14 := (owns_of c (spec2_14.stage ((cfg2 a).slots t 14)) (b14 d14)) $$ H14
    ihave H15 := (owns_of c (spec2_15.stage ((cfg2 a).slots t 15)) (b15 d15)) $$ H15
    iapply (SA.next c (pt a t) (Memref.whole main_c) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (spec2_10.stage ((cfg2 a).slots t 10)) (hstage2_10 (((cfg2 a).slots t 10).cast nbuf2_10)) (spec2_11.stage ((cfg2 a).slots t 11)) (hstage2_11 (((cfg2 a).slots t 11).cast nbuf2_11)) (spec2_12.stage ((cfg2 a).slots t 12)) (hstage2_12 (((cfg2 a).slots t 12).cast nbuf2_12)) (spec2_13.stage ((cfg2 a).slots t 13)) (hstage2_13 (((cfg2 a).slots t 13).cast nbuf2_13)) (spec2_14.stage ((cfg2 a).slots t 14)) (hstage2_14 (((cfg2 a).slots t 14).cast nbuf2_14)) (spec2_15.stage ((cfg2 a).slots t 15)) (hstage2_15 (((cfg2 a).slots t 15).cast nbuf2_15)) (spec2_16.stage ((cfg2 a).slots t 16)) (hstage2_16 (((cfg2 a).slots t 16).cast nbuf2_16)) (spec2_17.stage ((cfg2 a).slots t 17)) (hstage2_17 (((cfg2 a).slots t 17).cast nbuf2_17)) (fun h => h0 (hi.symm.trans h)) (a.1 0) hg (blk c a V 0 t) (blk c a V 1 t) (blk c a V 2 t) (blk c a V 3 t) (blk c a V 4 t) (acc c a V (t.val - 1) (Nat.lt_of_le_of_lt (Nat.sub_le _ _) t.isLt)) (blk c a V 5 t) (blk c a V 6 t) (blk c a V 7 t) (blk c a V 9 t) (blk c a V 8 t))
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H17]; · iexact H17
    iintro ⟨Ht, H0, H1, H2, H3, H4, H5, H6, H7, H8, H9, H17⟩
    ihave H0 := (hold_to_owns c (spec2_0.stage ((cfg2 a).slots t 0)) (hstage2_0 (((cfg2 a).slots t 0).cast nbuf2_0)) _) $$ H0
    ihave H1 := (hold_to_owns c (spec2_1.stage ((cfg2 a).slots t 1)) (hstage2_1 (((cfg2 a).slots t 1).cast nbuf2_1)) _) $$ H1
    ihave H2 := (hold_to_owns c (spec2_2.stage ((cfg2 a).slots t 2)) (hstage2_2 (((cfg2 a).slots t 2).cast nbuf2_2)) _) $$ H2
    ihave H3 := (hold_to_owns c (spec2_3.stage ((cfg2 a).slots t 3)) (hstage2_3 (((cfg2 a).slots t 3).cast nbuf2_3)) _) $$ H3
    ihave H4 := (hold_to_owns c (spec2_4.stage ((cfg2 a).slots t 4)) (hstage2_4 (((cfg2 a).slots t 4).cast nbuf2_4)) _) $$ H4
    ihave H5 := (hold_to_owns c (spec2_5.stage ((cfg2 a).slots t 5)) (hstage2_5 (((cfg2 a).slots t 5).cast nbuf2_5)) _) $$ H5
    ihave H6 := (hold_to_owns c (spec2_6.stage ((cfg2 a).slots t 6)) (hstage2_6 (((cfg2 a).slots t 6).cast nbuf2_6)) _) $$ H6
    ihave H7 := (hold_to_owns c (spec2_7.stage ((cfg2 a).slots t 7)) (hstage2_7 (((cfg2 a).slots t 7).cast nbuf2_7)) _) $$ H7
    ihave H8 := (hold_to_owns c (spec2_8.stage ((cfg2 a).slots t 8)) (hstage2_8 (((cfg2 a).slots t 8).cast nbuf2_8)) _) $$ H8
    ihave H9 := (hold_to_owns c (spec2_9.stage ((cfg2 a).slots t 9)) (hstage2_9 (((cfg2 a).slots t 9).cast nbuf2_9)) _) $$ H9
    ihave H17 := (hold_to_owns c (spec2_17.stage ((cfg2 a).slots t 17)) (hstage2_17 (((cfg2 a).slots t 17).cast nbuf2_17)) _) $$ H17
    isplitl [Hr Ht]
    · isplitl [Hr]
      · iexact Hr
      · iexact Ht
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
end Contents

end Cert.Proof.Run.RA

end
-- ==== Proof.StepB.lean ====
/-
  One grid point of the second TensorCore kernel (`cc3_body`), at a symbolic point and over any whole staging buffers:
  what the body leaves in the accumulator's buffer, and at the last point in the result's, as functions of what the
  buffers hold.
-/
module

public import proofs.«01_k».proof.Proof.StepA

@[expose] public section

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

namespace SB

/-- The table entry of grid point `i`. -/
abbrev slot (i : grid3.Coords) : S37.Idx := fun | 0 => i 0

variable (c : Dev nD) (i : grid3.Coords)
    (M1 : Memref sig .tc .smem S37 .i32) (h1 : M1.IsWhole)
    (M2 : Memref sig .tc .vmem S1792x128 .f32) (h2 : M2.IsWhole)
    (M3 : Memref sig .tc .vmem S1792x128 .f32) (h3 : M3.IsWhole)
    (M4 : Memref sig .tc .vmem S1x1x128 .i32) (h4 : M4.IsWhole)
    (M5 : Memref sig .tc .vmem S1x1x128 .i32) (h5 : M5.IsWhole)
    (M6 : Memref sig .tc .vmem S640x256 .f32) (h6 : M6.IsWhole)
    (M7 : Memref sig .tc .vmem S128x256 .bf16) (h7 : M7.IsWhole)
    (M8 : Memref sig .tc .vmem S128x256 .bf16) (h8 : M8.IsWhole)
    (M9 : Memref sig .tc .vmem S1x256 .f32) (h9 : M9.IsWhole)
    (M10 : Memref sig .tc .vmem S256x256 .bf16) (h10 : M10.IsWhole)
    (M11 : Memref sig .tc .vmem S1x256 .f32) (h11 : M11.IsWhole)
    (M12 : Memref sig .tc .vmem S256x128 .f32) (h12 : M12.IsWhole)
    (M13 : Memref sig .tc .vmem S1x128 .f32) (h13 : M13.IsWhole)
    (M14 : Memref sig .tc .vmem S128x256 .f32) (h14 : M14.IsWhole)
    (M15 : Memref sig .tc .vmem S1x256 .f32) (h15 : M15.IsWhole)
    (M16 : Memref sig .tc .vmem S256x128 .f32) (h16 : M16.IsWhole)
    (M17 : Memref sig .tc .vmem S1x128 .f32) (h17 : M17.IsWhole)
    (M18 : Memref sig .tc .vmem S512x128 .f32) (h18 : M18.IsWhole)
    (M19 : Memref sig .tc .vmem S640x256 .f32) (h19 : M19.IsWhole)

theorem word_off : k3_off1 i 0 = (i 0).val :=
  (show ∀ t : Fin 37, (Scalar.indexCast (BitVec.ofNat 32 t.val) : Index).toNat = t.val by decide) (i 0)

/-- The word the body loads from the table. -/
theorem word (g : S37.Idx → Elt F .i32) (x : (Rect.unit (s := S37) (k3_off1 i) S1.size (k3_off1_inb i)).toLoadRect.shape.Idx) :
    View.readAt (Elt F) M1.view (Rect.unit (s := S37) (k3_off1 i) S1.size (k3_off1_inb i)).toLoadRect (h1.unread g) x = g (slot i) := by
  refine (h1.readAt_unread g _ _).trans (congrArg g (funext fun a => Fin.ext ?_))
  obtain rfl : a = 0 := Subsingleton.elim _ _
  show k3_off1 i 0 + 1 * (x 0).val = (i 0).val
  have hx : (x 0).val < 1 := (x 0).isLt
  rw [word_off]
  omega

/-- The accumulator's first 512 rows. -/
abbrev top (z : S640x256.Idx → F .f32) : S512x256.Idx → F .f32 :=
  fun p => z ((Rect.unit (s := S640x256) ![0, 0] S512x256.size inb_S640x256_S512x256_0_0).emb p)

set_option maxHeartbeats 4000000 in
/-- The first point: the accumulator starts at what its operand holds. -/
theorem first (hi : (i 0).val = 0) (g : S37.Idx → Elt F .i32) (hg : ∀ p, k3_chk1 (g p))
    (X2 X3 : S1792x128.Idx → F .f32) (X4 X5 : S1x1x128.Idx → Elt F .i32) (X6 X19 : S640x256.Idx → F .f32)
    (X7 X8 : S128x256.Idx → F .bf16) (X9 X11 : S1x256.Idx → F .f32) (X10 : S256x256.Idx → F .bf16) (Q : PUnit → sProp 𝕄) :
    iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 X19
      ∗ (iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 (patch (k3_off2 (g (slot i))) (k3_pay1 (k3_pay4 X2 X3 X7 X8 X9 X10 X11) (iota .tc S1792x128 32 [0] iota_S1792x128_d0_w32) X4 X5) (k3_pay3 X6))) -∗ Q ⟨⟩))
      ⊢ wp frame (wpE (defs₀ (F := F)) 𝒱₀ c none) Set.univ
        (cc3_body i M1 h1 M2 h2 M3 h3 M4 h4 M5 h5 M6 h6 M7 h7 M8 h8 M9 h9 M10 h10 M11 h11 M12 h12 M13 h13 M14 h14 M15 h15 M16 h16 M17 h17 M18 h18 M19 h19) Q := by
  rw [cc3_body_eq_skeleton]
  iintro ⟨H1, H2, H3, H4, H5, H6, H7, H8, H9, H10, H11, H19, Hk⟩
  unfold cc3_body_skel
  rw [k3_part1_eq_skeleton]
  unfold k3_part1_skel
  have hc : Scalar.cmpi .ne (Scalar.extui (Scalar.cmpi .eq (BitVec.ofNat 32 (i 0).val) 0#32)) 0#32 = 1#1 := by rw [hi]; decide
  rw [dif_pos hc]
  have hd : ¬ k3_cond2 i = 1#1 := (show ∀ t : Fin 37, t.val ≠ 36 → ¬ Scalar.cmpi .ne (Scalar.extui (Scalar.cmpi .eq (BitVec.ofNat 32 t.val) 36#32)) 0#32 = 1#1 by decide) (i 0) (by rw [hi]; decide)
  rw [dif_neg hd]
  sl_exec
  have hr : first.sl.r i M1 h1 g = g (slot i) := by
    unfold first.sl.r
    exact word i M1 h1 g _
  generalize first.sl.r i M1 h1 g = w at hr ⊢
  have hw : k3_chk1 w := hr ▸ hg _
  sl_exec
  sl_step
  iapply Hk
  rw [← hr]
  have e2 : View.readAt (Elt F) M2.view (Rect.unit (s := S1792x128) ![0, 0] ![1792, 128] inb_S1792x128_S1792x128_0_0).toLoadRect (h2.unread X2) = X2 := readAt_all h2 X2 zero2 _
  have e3 : View.readAt (Elt F) M3.view (Rect.unit (s := S1792x128) ![0, 0] ![1792, 128] inb_S1792x128_S1792x128_0_0).toLoadRect (h3.unread X3) = X3 := readAt_all h3 X3 zero2 _
  have e7 : View.readAt (Elt F) M7.view (Rect.unit (s := S128x256) ![0, 0] ![128, 256] inb_S128x256_S128x256_0_0).toLoadRect (h7.unread X7) = X7 := readAt_all h7 X7 zero2 _
  have e8 : View.readAt (Elt F) M8.view (Rect.unit (s := S128x256) ![0, 0] ![128, 256] inb_S128x256_S128x256_0_0).toLoadRect (h8.unread X8) = X8 := readAt_all h8 X8 zero2 _
  have e9 : View.readAt (Elt F) M9.view (Rect.unit (s := S1x256) ![0, 0] ![1, 256] inb_S1x256_S1x256_0_0).toLoadRect (h9.unread X9) = X9 := readAt_all h9 X9 zero2 _
  have e10 : View.readAt (Elt F) M10.view (Rect.unit (s := S256x256) ![0, 0] ![256, 256] inb_S256x256_S256x256_0_0).toLoadRect (h10.unread X10) = X10 := readAt_all h10 X10 zero2 _
  have e11 : View.readAt (Elt F) M11.view (Rect.unit (s := S1x256) ![0, 0] ![1, 256] inb_S1x256_S1x256_0_0).toLoadRect (h11.unread X11) = X11 := readAt_all h11 X11 zero2 _
  have e4 : View.readAt (Elt F) M4.view (Rect.unit (s := S1x1x128) ![0, 0, 0] ![1, 1, 128] inb_S1x1x128_S1x1x128_0_0_0).toLoadRect (h4.unread X4) = X4 := readAt_all h4 X4 zero3 _
  have e5 : View.readAt (Elt F) M5.view (Rect.unit (s := S1x1x128) ![0, 0, 0] ![1, 1, 128] inb_S1x1x128_S1x1x128_0_0_0).toLoadRect (h5.unread X5) = X5 := readAt_all h5 X5 zero3 _
  have e6 : View.readAt (Elt F) M6.view (Rect.unit (s := S640x256) ![0, 0] ![640, 256] inb_S640x256_S640x256_0_0).toLoadRect (h6.unread X6) = X6 := readAt_all h6 X6 zero2 _
  have e0 : M19.view.read (Elt F) _ = (k3_pay3 X6) := read_full M19 zero2 inb_S640x256_S640x256_0_0 (k3_pay3 X6) M19.view.junk
  have e : M19.view.read (Elt F) (M19.view.writes (Elt F) M19.view.junk
      [⟨Rect.unit (s := S640x256) (k3_off2 w) ![128, 256] (k3_off2_inb w hw),
        k3_pay1 (k3_pay4 (View.readAt (Elt F) M2.view (Rect.unit (s := S1792x128) ![0, 0] ![1792, 128] inb_S1792x128_S1792x128_0_0).toLoadRect (h2.unread X2)) (View.readAt (Elt F) M3.view (Rect.unit (s := S1792x128) ![0, 0] ![1792, 128] inb_S1792x128_S1792x128_0_0).toLoadRect (h3.unread X3))
            (View.readAt (Elt F) M7.view (Rect.unit (s := S128x256) ![0, 0] ![128, 256] inb_S128x256_S128x256_0_0).toLoadRect (h7.unread X7)) (View.readAt (Elt F) M8.view (Rect.unit (s := S128x256) ![0, 0] ![128, 256] inb_S128x256_S128x256_0_0).toLoadRect (h8.unread X8))
            (View.readAt (Elt F) M9.view (Rect.unit (s := S1x256) ![0, 0] ![1, 256] inb_S1x256_S1x256_0_0).toLoadRect (h9.unread X9)) (View.readAt (Elt F) M10.view (Rect.unit (s := S256x256) ![0, 0] ![256, 256] inb_S256x256_S256x256_0_0).toLoadRect (h10.unread X10))
            (View.readAt (Elt F) M11.view (Rect.unit (s := S1x256) ![0, 0] ![1, 256] inb_S1x256_S1x256_0_0).toLoadRect (h11.unread X11)))
          first.sl.v32 (View.readAt (Elt F) M4.view (Rect.unit (s := S1x1x128) ![0, 0, 0] ![1, 1, 128] inb_S1x1x128_S1x1x128_0_0_0).toLoadRect (h4.unread X4))
          (View.readAt (Elt F) M5.view (Rect.unit (s := S1x1x128) ![0, 0, 0] ![1, 1, 128] inb_S1x1x128_S1x1x128_0_0_0).toLoadRect (h5.unread X5))
          (first.sl.v51 M6 h6 M19 X6 w hw)⟩,
      ⟨Rect.unit (s := S640x256) ![0, 0] ![640, 256] inb_S640x256_S640x256_0_0,
        k3_pay3 (View.readAt (Elt F) M6.view (Rect.unit (s := S640x256) ![0, 0] ![640, 256] inb_S640x256_S640x256_0_0).toLoadRect (h6.unread X6))⟩]) = patch (k3_off2 w) (k3_pay1 (k3_pay4 X2 X3 X7 X8 X9 X10 X11) (iota .tc S1792x128 32 [0] iota_S1792x128_d0_w32) X4 X5) (k3_pay3 X6) := by
    unfold first.sl.v51 first.sl.v32
    rw [e2, e3, e7, e8, e9, e10, e11, e4, e5, e6, patch, dif_pos hw.2]
    refine (read_over M19 _ _ _ _ e0).trans (congrArg _ (congrArg _ (funext fun p => ?_)))
    exact congrFun e0 _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ihave H19 := (Entails.of_eq (congrArg (fun f => (M19.view.loc (c : Thread nD τ) ↦{fullShare} f : sProp 𝕄)) (h19.eq_unread e))) $$ H19
  iexact H19

set_option maxHeartbeats 4000000 in
/-- A later point: the accumulator goes on from what the point before left. -/
theorem next (hi : (i 0).val ≠ 0) (hl : (i 0).val ≠ 36) (g : S37.Idx → Elt F .i32) (hg : ∀ p, k3_chk1 (g p))
    (X2 X3 : S1792x128.Idx → F .f32) (X4 X5 : S1x1x128.Idx → Elt F .i32) (X6 X19 : S640x256.Idx → F .f32)
    (X7 X8 : S128x256.Idx → F .bf16) (X9 X11 : S1x256.Idx → F .f32) (X10 : S256x256.Idx → F .bf16) (Q : PUnit → sProp 𝕄) :
    iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 X19
      ∗ (iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M19 h19 (patch (k3_off2 (g (slot i))) (k3_pay1 (k3_pay4 X2 X3 X7 X8 X9 X10 X11) (iota .tc S1792x128 32 [0] iota_S1792x128_d0_w32) X4 X5) X19)) -∗ Q ⟨⟩))
      ⊢ wp frame (wpE (defs₀ (F := F)) 𝒱₀ c none) Set.univ
        (cc3_body i M1 h1 M2 h2 M3 h3 M4 h4 M5 h5 M6 h6 M7 h7 M8 h8 M9 h9 M10 h10 M11 h11 M12 h12 M13 h13 M14 h14 M15 h15 M16 h16 M17 h17 M18 h18 M19 h19) Q := by
  rw [cc3_body_eq_skeleton]
  iintro ⟨H1, H2, H3, H4, H5, H6, H7, H8, H9, H10, H11, H19, Hk⟩
  unfold cc3_body_skel
  rw [k3_part1_eq_skeleton]
  unfold k3_part1_skel
  have hc : ¬ Scalar.cmpi .ne (Scalar.extui (Scalar.cmpi .eq (BitVec.ofNat 32 (i 0).val) 0#32)) 0#32 = 1#1 :=
    (show ∀ t : Fin 37, t.val ≠ 0 → ¬ Scalar.cmpi .ne (Scalar.extui (Scalar.cmpi .eq (BitVec.ofNat 32 t.val) 0#32)) 0#32 = 1#1 by decide) (i 0) hi
  rw [dif_neg hc]
  have hd : ¬ k3_cond2 i = 1#1 := (show ∀ t : Fin 37, t.val ≠ 36 → ¬ Scalar.cmpi .ne (Scalar.extui (Scalar.cmpi .eq (BitVec.ofNat 32 t.val) 36#32)) 0#32 = 1#1 by decide) (i 0) hl
  rw [dif_neg hd]
  sl_exec
  have hr : next.sl.r i M1 h1 g = g (slot i) := by
    unfold next.sl.r
    exact word i M1 h1 g _
  generalize next.sl.r i M1 h1 g = w at hr ⊢
  have hw : k3_chk1 w := hr ▸ hg _
  sl_exec
  sl_step
  iapply Hk
  rw [← hr]
  have e2 : View.readAt (Elt F) M2.view (Rect.unit (s := S1792x128) ![0, 0] ![1792, 128] inb_S1792x128_S1792x128_0_0).toLoadRect (h2.unread X2) = X2 := readAt_all h2 X2 zero2 _
  have e3 : View.readAt (Elt F) M3.view (Rect.unit (s := S1792x128) ![0, 0] ![1792, 128] inb_S1792x128_S1792x128_0_0).toLoadRect (h3.unread X3) = X3 := readAt_all h3 X3 zero2 _
  have e7 : View.readAt (Elt F) M7.view (Rect.unit (s := S128x256) ![0, 0] ![128, 256] inb_S128x256_S128x256_0_0).toLoadRect (h7.unread X7) = X7 := readAt_all h7 X7 zero2 _
  have e8 : View.readAt (Elt F) M8.view (Rect.unit (s := S128x256) ![0, 0] ![128, 256] inb_S128x256_S128x256_0_0).toLoadRect (h8.unread X8) = X8 := readAt_all h8 X8 zero2 _
  have e9 : View.readAt (Elt F) M9.view (Rect.unit (s := S1x256) ![0, 0] ![1, 256] inb_S1x256_S1x256_0_0).toLoadRect (h9.unread X9) = X9 := readAt_all h9 X9 zero2 _
  have e10 : View.readAt (Elt F) M10.view (Rect.unit (s := S256x256) ![0, 0] ![256, 256] inb_S256x256_S256x256_0_0).toLoadRect (h10.unread X10) = X10 := readAt_all h10 X10 zero2 _
  have e11 : View.readAt (Elt F) M11.view (Rect.unit (s := S1x256) ![0, 0] ![1, 256] inb_S1x256_S1x256_0_0).toLoadRect (h11.unread X11) = X11 := readAt_all h11 X11 zero2 _
  have e4 : View.readAt (Elt F) M4.view (Rect.unit (s := S1x1x128) ![0, 0, 0] ![1, 1, 128] inb_S1x1x128_S1x1x128_0_0_0).toLoadRect (h4.unread X4) = X4 := readAt_all h4 X4 zero3 _
  have e5 : View.readAt (Elt F) M5.view (Rect.unit (s := S1x1x128) ![0, 0, 0] ![1, 1, 128] inb_S1x1x128_S1x1x128_0_0_0).toLoadRect (h5.unread X5) = X5 := readAt_all h5 X5 zero3 _
  have e0 : M19.view.read (Elt F) _ = X19 := h19.read_unread (Val := Elt F) X19
  have e : M19.view.read (Elt F) (M19.view.writes (Elt F) (h19.unread X19)
      [⟨Rect.unit (s := S640x256) (k3_off2 w) ![128, 256] (k3_off2_inb w hw),
        k3_pay1 (k3_pay4 (View.readAt (Elt F) M2.view (Rect.unit (s := S1792x128) ![0, 0] ![1792, 128] inb_S1792x128_S1792x128_0_0).toLoadRect (h2.unread X2)) (View.readAt (Elt F) M3.view (Rect.unit (s := S1792x128) ![0, 0] ![1792, 128] inb_S1792x128_S1792x128_0_0).toLoadRect (h3.unread X3))
            (View.readAt (Elt F) M7.view (Rect.unit (s := S128x256) ![0, 0] ![128, 256] inb_S128x256_S128x256_0_0).toLoadRect (h7.unread X7)) (View.readAt (Elt F) M8.view (Rect.unit (s := S128x256) ![0, 0] ![128, 256] inb_S128x256_S128x256_0_0).toLoadRect (h8.unread X8))
            (View.readAt (Elt F) M9.view (Rect.unit (s := S1x256) ![0, 0] ![1, 256] inb_S1x256_S1x256_0_0).toLoadRect (h9.unread X9)) (View.readAt (Elt F) M10.view (Rect.unit (s := S256x256) ![0, 0] ![256, 256] inb_S256x256_S256x256_0_0).toLoadRect (h10.unread X10))
            (View.readAt (Elt F) M11.view (Rect.unit (s := S1x256) ![0, 0] ![1, 256] inb_S1x256_S1x256_0_0).toLoadRect (h11.unread X11)))
          next.sl.v32 (View.readAt (Elt F) M4.view (Rect.unit (s := S1x1x128) ![0, 0, 0] ![1, 1, 128] inb_S1x1x128_S1x1x128_0_0_0).toLoadRect (h4.unread X4))
          (View.readAt (Elt F) M5.view (Rect.unit (s := S1x1x128) ![0, 0, 0] ![1, 1, 128] inb_S1x1x128_S1x1x128_0_0_0).toLoadRect (h5.unread X5))
          (View.readAt (Elt F) M19.view (Rect.unit (s := S640x256) (k3_off2 w) ![128, 256] (k3_off2_inb w hw)).toLoadRect (h19.unread X19))⟩]) = patch (k3_off2 w) (k3_pay1 (k3_pay4 X2 X3 X7 X8 X9 X10 X11) (iota .tc S1792x128 32 [0] iota_S1792x128_d0_w32) X4 X5) X19 := by
    unfold next.sl.v32
    rw [e2, e3, e7, e8, e9, e10, e11, e4, e5, patch, dif_pos hw.2]
    refine (read_over M19 _ _ _ [] e0).trans (congrArg _ (congrArg _ (funext fun p => ?_)))
    exact congrFun e0 _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ihave H19 := (Entails.of_eq (congrArg (fun f => (M19.view.loc (c : Thread nD τ) ↦{fullShare} f : sProp 𝕄)) (h19.eq_unread e))) $$ H19
  iexact H19

set_option maxHeartbeats 4000000 in
/-- The last point: the accumulator is brought up to date and the result computed from it. -/
theorem last (hi : (i 0).val = 36) (g : S37.Idx → Elt F .i32) (hg : ∀ p, k3_chk1 (g p))
    (X2 X3 : S1792x128.Idx → F .f32) (X4 X5 : S1x1x128.Idx → Elt F .i32) (X6 X19 : S640x256.Idx → F .f32)
    (X7 X8 : S128x256.Idx → F .bf16) (X9 X11 : S1x256.Idx → F .f32) (X10 : S256x256.Idx → F .bf16)
    (X12 X16 : S256x128.Idx → F .f32) (X13 X17 : S1x128.Idx → F .f32) (X14 : S128x256.Idx → F .f32) (X15 : S1x256.Idx → F .f32) (X18 : S512x128.Idx → F .f32) (Q : PUnit → sProp 𝕄) :
    iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M12 h12 X12 ∗ hold c M13 h13 X13 ∗ hold c M14 h14 X14 ∗ hold c M15 h15 X15 ∗ hold c M16 h16 X16 ∗ hold c M17 h17 X17 ∗ hold c M19 h19 X19 ∗ hold c M18 h18 X18
      ∗ (iprop(hold c M1 h1 g ∗ hold c M2 h2 X2 ∗ hold c M3 h3 X3 ∗ hold c M4 h4 X4 ∗ hold c M5 h5 X5 ∗ hold c M6 h6 X6 ∗ hold c M7 h7 X7 ∗ hold c M8 h8 X8 ∗ hold c M9 h9 X9 ∗ hold c M10 h10 X10 ∗ hold c M11 h11 X11 ∗ hold c M12 h12 X12 ∗ hold c M13 h13 X13 ∗ hold c M14 h14 X14 ∗ hold c M15 h15 X15 ∗ hold c M16 h16 X16 ∗ hold c M17 h17 X17 ∗ hold c M19 h19 (patch (k3_off2 (g (slot i))) (k3_pay1 (k3_pay4 X2 X3 X7 X8 X9 X10 X11) (iota .tc S1792x128 32 [0] iota_S1792x128_d0_w32) X4 X5) X19) ∗ hold c M18 h18 (k3_pay2 (top (patch (k3_off2 (g (slot i))) (k3_pay1 (k3_pay4 X2 X3 X7 X8 X9 X10 X11) (iota .tc S1792x128 32 [0] iota_S1792x128_d0_w32) X4 X5) X19)) X12 X13 X14 X15 X16 X17)) -∗ Q ⟨⟩))
      ⊢ wp frame (wpE (defs₀ (F := F)) 𝒱₀ c none) Set.univ
        (cc3_body i M1 h1 M2 h2 M3 h3 M4 h4 M5 h5 M6 h6 M7 h7 M8 h8 M9 h9 M10 h10 M11 h11 M12 h12 M13 h13 M14 h14 M15 h15 M16 h16 M17 h17 M18 h18 M19 h19) Q := by
  rw [cc3_body_eq_skeleton]
  iintro ⟨H1, H2, H3, H4, H5, H6, H7, H8, H9, H10, H11, H12, H13, H14, H15, H16, H17, H19, H18, Hk⟩
  unfold cc3_body_skel
  rw [k3_part1_eq_skeleton]
  unfold k3_part1_skel
  have hc : ¬ Scalar.cmpi .ne (Scalar.extui (Scalar.cmpi .eq (BitVec.ofNat 32 (i 0).val) 0#32)) 0#32 = 1#1 :=
    (show ∀ t : Fin 37, t.val ≠ 0 → ¬ Scalar.cmpi .ne (Scalar.extui (Scalar.cmpi .eq (BitVec.ofNat 32 t.val) 0#32)) 0#32 = 1#1 by decide) (i 0) (by rw [hi]; decide)
  rw [dif_neg hc]
  have hd : k3_cond2 i = 1#1 := (show ∀ t : Fin 37, t.val = 36 → Scalar.cmpi .ne (Scalar.extui (Scalar.cmpi .eq (BitVec.ofNat 32 t.val) 36#32)) 0#32 = 1#1 by decide) (i 0) hi
  rw [dif_pos hd]
  sl_exec
  have hr : last.sl.r i M1 h1 g = g (slot i) := by
    unfold last.sl.r
    exact word i M1 h1 g _
  generalize last.sl.r i M1 h1 g = w at hr ⊢
  have hw : k3_chk1 w := hr ▸ hg _
  sl_exec
  sl_step
  iapply Hk
  rw [← hr]
  have e2 : View.readAt (Elt F) M2.view (Rect.unit (s := S1792x128) ![0, 0] ![1792, 128] inb_S1792x128_S1792x128_0_0).toLoadRect (h2.unread X2) = X2 := readAt_all h2 X2 zero2 _
  have e3 : View.readAt (Elt F) M3.view (Rect.unit (s := S1792x128) ![0, 0] ![1792, 128] inb_S1792x128_S1792x128_0_0).toLoadRect (h3.unread X3) = X3 := readAt_all h3 X3 zero2 _
  have e7 : View.readAt (Elt F) M7.view (Rect.unit (s := S128x256) ![0, 0] ![128, 256] inb_S128x256_S128x256_0_0).toLoadRect (h7.unread X7) = X7 := readAt_all h7 X7 zero2 _
  have e8 : View.readAt (Elt F) M8.view (Rect.unit (s := S128x256) ![0, 0] ![128, 256] inb_S128x256_S128x256_0_0).toLoadRect (h8.unread X8) = X8 := readAt_all h8 X8 zero2 _
  have e9 : View.readAt (Elt F) M9.view (Rect.unit (s := S1x256) ![0, 0] ![1, 256] inb_S1x256_S1x256_0_0).toLoadRect (h9.unread X9) = X9 := readAt_all h9 X9 zero2 _
  have e10 : View.readAt (Elt F) M10.view (Rect.unit (s := S256x256) ![0, 0] ![256, 256] inb_S256x256_S256x256_0_0).toLoadRect (h10.unread X10) = X10 := readAt_all h10 X10 zero2 _
  have e11 : View.readAt (Elt F) M11.view (Rect.unit (s := S1x256) ![0, 0] ![1, 256] inb_S1x256_S1x256_0_0).toLoadRect (h11.unread X11) = X11 := readAt_all h11 X11 zero2 _
  have e4 : View.readAt (Elt F) M4.view (Rect.unit (s := S1x1x128) ![0, 0, 0] ![1, 1, 128] inb_S1x1x128_S1x1x128_0_0_0).toLoadRect (h4.unread X4) = X4 := readAt_all h4 X4 zero3 _
  have e5 : View.readAt (Elt F) M5.view (Rect.unit (s := S1x1x128) ![0, 0, 0] ![1, 1, 128] inb_S1x1x128_S1x1x128_0_0_0).toLoadRect (h5.unread X5) = X5 := readAt_all h5 X5 zero3 _
  have e0 : M19.view.read (Elt F) _ = X19 := h19.read_unread (Val := Elt F) X19
  have e : M19.view.read (Elt F) (M19.view.writes (Elt F) (h19.unread X19)
      [⟨Rect.unit (s := S640x256) (k3_off2 w) ![128, 256] (k3_off2_inb w hw),
        k3_pay1 (k3_pay4 (View.readAt (Elt F) M2.view (Rect.unit (s := S1792x128) ![0, 0] ![1792, 128] inb_S1792x128_S1792x128_0_0).toLoadRect (h2.unread X2)) (View.readAt (Elt F) M3.view (Rect.unit (s := S1792x128) ![0, 0] ![1792, 128] inb_S1792x128_S1792x128_0_0).toLoadRect (h3.unread X3))
            (View.readAt (Elt F) M7.view (Rect.unit (s := S128x256) ![0, 0] ![128, 256] inb_S128x256_S128x256_0_0).toLoadRect (h7.unread X7)) (View.readAt (Elt F) M8.view (Rect.unit (s := S128x256) ![0, 0] ![128, 256] inb_S128x256_S128x256_0_0).toLoadRect (h8.unread X8))
            (View.readAt (Elt F) M9.view (Rect.unit (s := S1x256) ![0, 0] ![1, 256] inb_S1x256_S1x256_0_0).toLoadRect (h9.unread X9)) (View.readAt (Elt F) M10.view (Rect.unit (s := S256x256) ![0, 0] ![256, 256] inb_S256x256_S256x256_0_0).toLoadRect (h10.unread X10))
            (View.readAt (Elt F) M11.view (Rect.unit (s := S1x256) ![0, 0] ![1, 256] inb_S1x256_S1x256_0_0).toLoadRect (h11.unread X11)))
          last.sl.v32 (View.readAt (Elt F) M4.view (Rect.unit (s := S1x1x128) ![0, 0, 0] ![1, 1, 128] inb_S1x1x128_S1x1x128_0_0_0).toLoadRect (h4.unread X4))
          (View.readAt (Elt F) M5.view (Rect.unit (s := S1x1x128) ![0, 0, 0] ![1, 1, 128] inb_S1x1x128_S1x1x128_0_0_0).toLoadRect (h5.unread X5))
          (View.readAt (Elt F) M19.view (Rect.unit (s := S640x256) (k3_off2 w) ![128, 256] (k3_off2_inb w hw)).toLoadRect (h19.unread X19))⟩]) = patch (k3_off2 w) (k3_pay1 (k3_pay4 X2 X3 X7 X8 X9 X10 X11) (iota .tc S1792x128 32 [0] iota_S1792x128_d0_w32) X4 X5) X19 := by
    unfold last.sl.v32
    rw [e2, e3, e7, e8, e9, e10, e11, e4, e5, patch, dif_pos hw.2]
    refine (read_over M19 _ _ _ [] e0).trans (congrArg _ (congrArg _ (funext fun p => ?_)))
    exact congrFun e0 _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  have e12 : View.readAt (Elt F) M12.view (Rect.unit (s := S256x128) ![0, 0] ![256, 128] inb_S256x128_S256x128_0_0).toLoadRect (h12.unread X12) = X12 := readAt_all h12 X12 zero2 _
  have e13 : View.readAt (Elt F) M13.view (Rect.unit (s := S1x128) ![0, 0] ![1, 128] inb_S1x128_S1x128_0_0).toLoadRect (h13.unread X13) = X13 := readAt_all h13 X13 zero2 _
  have e14 : View.readAt (Elt F) M14.view (Rect.unit (s := S128x256) ![0, 0] ![128, 256] inb_S128x256_S128x256_0_0).toLoadRect (h14.unread X14) = X14 := readAt_all h14 X14 zero2 _
  have e15 : View.readAt (Elt F) M15.view (Rect.unit (s := S1x256) ![0, 0] ![1, 256] inb_S1x256_S1x256_0_0).toLoadRect (h15.unread X15) = X15 := readAt_all h15 X15 zero2 _
  have e16 : View.readAt (Elt F) M16.view (Rect.unit (s := S256x128) ![0, 0] ![256, 128] inb_S256x128_S256x128_0_0).toLoadRect (h16.unread X16) = X16 := readAt_all h16 X16 zero2 _
  have e17 : View.readAt (Elt F) M17.view (Rect.unit (s := S1x128) ![0, 0] ![1, 128] inb_S1x128_S1x128_0_0).toLoadRect (h17.unread X17) = X17 := readAt_all h17 X17 zero2 _
  have t : ∀ f, M19.view.read (Elt F) f = patch (k3_off2 w) (k3_pay1 (k3_pay4 X2 X3 X7 X8 X9 X10 X11) (iota .tc S1792x128 32 [0] iota_S1792x128_d0_w32) X4 X5) X19 →
      View.readAt (Elt F) M19.view (Rect.unit (s := S640x256) ![0, 0] ![512, 256] inb_S640x256_S512x256_0_0).toLoadRect f = top (patch (k3_off2 w) (k3_pay1 (k3_pay4 X2 X3 X7 X8 X9 X10 X11) (iota .tc S1792x128 32 [0] iota_S1792x128_d0_w32) X4 X5) X19) := by
    rintro f hf; rw [← hf]; rfl
  have eH : M19.view.read (Elt F) (M19.view.writes (Elt F) (h19.unread X19) (last.sl.H19_1 M2 h2 M3 h3 M4 h4 M5 h5 M7 h7 M8 h8 M9 h9 M10 h10 M11 h11 M19 h19 X2 X3 X4 X5 X19 X7 X8 X9 X11 X10 w hw)) = _ := e
  have e18 : M18.view.read (Elt F) (M18.view.writes (Elt F) (h18.unread X18)
      [⟨Rect.unit (s := S512x128) ![0, 0] ![512, 128] inb_S512x128_S512x128_0_0,
        k3_pay2 (View.readAt (Elt F) M19.view (Rect.unit (s := S640x256) ![0, 0] ![512, 256] inb_S640x256_S512x256_0_0).toLoadRect
            (M19.view.writes (Elt F) (h19.unread X19) (last.sl.H19_1 M2 h2 M3 h3 M4 h4 M5 h5 M7 h7 M8 h8 M9 h9 M10 h10 M11 h11 M19 h19 X2 X3 X4 X5 X19 X7 X8 X9 X11 X10 w hw)))
          (View.readAt (Elt F) M12.view (Rect.unit (s := S256x128) ![0, 0] ![256, 128] inb_S256x128_S256x128_0_0).toLoadRect (h12.unread X12)) (View.readAt (Elt F) M13.view (Rect.unit (s := S1x128) ![0, 0] ![1, 128] inb_S1x128_S1x128_0_0).toLoadRect (h13.unread X13))
          (View.readAt (Elt F) M14.view (Rect.unit (s := S128x256) ![0, 0] ![128, 256] inb_S128x256_S128x256_0_0).toLoadRect (h14.unread X14)) (View.readAt (Elt F) M15.view (Rect.unit (s := S1x256) ![0, 0] ![1, 256] inb_S1x256_S1x256_0_0).toLoadRect (h15.unread X15))
          (View.readAt (Elt F) M16.view (Rect.unit (s := S256x128) ![0, 0] ![256, 128] inb_S256x128_S256x128_0_0).toLoadRect (h16.unread X16)) (View.readAt (Elt F) M17.view (Rect.unit (s := S1x128) ![0, 0] ![1, 128] inb_S1x128_S1x128_0_0).toLoadRect (h17.unread X17))⟩])
      = k3_pay2 (top (patch (k3_off2 w) (k3_pay1 (k3_pay4 X2 X3 X7 X8 X9 X10 X11) (iota .tc S1792x128 32 [0] iota_S1792x128_d0_w32) X4 X5) X19)) X12 X13 X14 X15 X16 X17 := by
    rw [t _ eH, e12, e13, e14, e15, e16, e17]
    exact read_full M18 zero2 inb_S512x128_S512x128_0_0 _ _
  isplitl [H19]
  · ihave H19 := (Entails.of_eq (congrArg (fun f => (M19.view.loc (c : Thread nD τ) ↦{fullShare} f : sProp 𝕄)) (h19.eq_unread eH))) $$ H19
    iexact H19
  ihave H18 := (Entails.of_eq (congrArg (fun f => (M18.view.loc (c : Thread nD τ) ↦{fullShare} f : sProp 𝕄)) (h18.eq_unread e18))) $$ H18
  iexact H18

end SB

end Cert.Proof.Run

end
-- ==== Proof.RegionB.lean ====
/-
  The second TensorCore call (`pallas_call` 1 of @main) as a pipeline: its windows' contents point by point, from any
  contents of the arrays at its start, and its body's contract at every point.
-/
module

public import proofs.«01_k».proof.Proof.StepB
public import proofs.«01_k».proof.Proof.Held
public import proofs.«01_k».proof.Proof.Gen.KernelIdeal.Launch
public import Idealize.ShloMosaic.Lib.Pipeline.FrameBody
public import Idealize.ShloMosaic.Lib.Pipeline.Value

@[expose] public section

noncomputable section

namespace Cert.Proof.Run.RB

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MM F

/-- The body at a point, by its name. -/
theorem body_eq (t : Fin grid3.N) (s : (w : Fin 18) → Fin (spec3 w).nbuf) :
    defs₀ (F := F) .tc 3 (t, s) = cc3_body (grid3.coords t) (Memref.whole main_c_2) (Memref.isWhole_whole _) (spec3_0.stage (s 0)) (hstage3_0 ((s 0).cast nbuf3_0)) (spec3_1.stage (s 1)) (hstage3_1 ((s 1).cast nbuf3_1)) (spec3_2.stage (s 2)) (hstage3_2 ((s 2).cast nbuf3_2)) (spec3_3.stage (s 3)) (hstage3_3 ((s 3).cast nbuf3_3)) (spec3_4.stage (s 4)) (hstage3_4 ((s 4).cast nbuf3_4)) (spec3_5.stage (s 5)) (hstage3_5 ((s 5).cast nbuf3_5)) (spec3_6.stage (s 6)) (hstage3_6 ((s 6).cast nbuf3_6)) (spec3_7.stage (s 7)) (hstage3_7 ((s 7).cast nbuf3_7)) (spec3_8.stage (s 8)) (hstage3_8 ((s 8).cast nbuf3_8)) (spec3_9.stage (s 9)) (hstage3_9 ((s 9).cast nbuf3_9)) (spec3_10.stage (s 10)) (hstage3_10 ((s 10).cast nbuf3_10)) (spec3_11.stage (s 11)) (hstage3_11 ((s 11).cast nbuf3_11)) (spec3_12.stage (s 12)) (hstage3_12 ((s 12).cast nbuf3_12)) (spec3_13.stage (s 13)) (hstage3_13 ((s 13).cast nbuf3_13)) (spec3_14.stage (s 14)) (hstage3_14 ((s 14).cast nbuf3_14)) (spec3_15.stage (s 15)) (hstage3_15 ((s 15).cast nbuf3_15)) (spec3_16.stage (s 16)) (hstage3_16 ((s 16).cast nbuf3_16)) (spec3_17.stage (s 17)) (hstage3_17 ((s 17).cast nbuf3_17)) := rfl

section Contents

variable (c : Dev nD) (a : (pcfg3 (F := F)).Adm) (V : (b : Ref sig .tc) → Buf (Elt F) ((c : Thread nD τ).loc b))

/-- What an uncut window reads of its array at a point. -/
def blk (w : Fin 18) (t : Fin (cfg3 a).N) : (win3 a w).block.Idx → Elt F (win3 a w).elt :=
  ((win3 a w).blk t).view.read (Elt F) (V (Pipeline.arrRef spec3 w))

/-- A point's grid coordinates. -/
abbrev pt (t : Fin (cfg3 a).N) : grid3.Coords := grid3.coords t

/-- The messages a point computes for its edges. -/
def msg (t : Fin (cfg3 a).N) : FVec F S1792x256 .bf16 :=
  k3_pay4 (blk c a V 0 t) (blk c a V 1 t) (blk c a V 5 t) (blk c a V 6 t) (blk c a V 7 t) (blk c a V 8 t) (blk c a V 9 t)

/-- What a point adds into the accumulator's rows, from the rows it finds there. -/
def add (t : Fin (cfg3 a).N) : (S128x256.Idx → F .f32) → S128x256.Idx → F .f32 :=
  k3_pay1 (msg c a V t) (iota .tc S1792x128 32 [0] iota_S1792x128_d0_w32) (blk c a V 2 t) (blk c a V 3 t)

/-- The accumulator after a point. -/
def acc : (n : ℕ) → n < (cfg3 a).N → S640x256.Idx → F .f32
  | 0, h => patch (k3_off2 (a.1 0 (SB.slot (pt a ⟨0, h⟩)))) (add c a V ⟨0, h⟩) (k3_pay3 (blk c a V 4 ⟨0, h⟩))
  | n + 1, h => patch (k3_off2 (a.1 0 (SB.slot (pt a ⟨n + 1, h⟩)))) (add c a V ⟨n + 1, h⟩) (acc n (Nat.lt_of_succ_lt h))

/-- The result's block after a point, as the last point computes it. -/
def out (t : Fin (cfg3 a).N) : S512x128.Idx → F .f32 :=
  k3_pay2 (SB.top (acc c a V t.val t.isLt)) (blk c a V 10 t) (blk c a V 11 t) (blk c a V 12 t) (blk c a V 13 t) (blk c a V 14 t) (blk c a V 15 t)

/-- The pipeline's proof data. -/
def dat : Dat τ (Elt F) (HIx 2) ℕ UU ℕ (cfg3 a) c where
  A w := V (Pipeline.arrRef spec3 w)
  after w t := match w with
    | ⟨17, _⟩ => acc c a V t.val t.isLt
    | ⟨16, _⟩ => out c a V t
    | ⟨k, hk⟩ => blk c a V ⟨k, hk⟩ t
  Φ _ := iprop(Pipeline.scopedRest (cfg3 a).spec c ∗ Pipeline.prefHeld pre3 c (fun _ => fullShare) a.1)
  q _ := fullShare
  owed _ := 0
  recorded _ := {p | (K (F := F)).lev ((c : Thread nD τ), p.1) p.2 ≤ 16}

variable {c a V}

/-- An input's buffer holds its block at every point. -/
theorem before_in (w : Fin 18) (hw : (win3 a w).isOut = false) (hlive : ∀ i, (cfg3 a).idle w i = false)
    (ha : ∀ t, (dat c a V).after w t = blk c a V w t) (t : Fin (cfg3 a).N)
    (d : (win3 a w).block.Idx → Elt F (win3 a w).elt) :
    (dat c a V).before w t d = blk c a V w t := by
  have hcut : ∀ t, (win3 a w).cut ((cfg3 a).grid.coords t) ((dat c a V).after w t) = (dat c a V).blockOf w t := by
    intro t; rw [ha]; rfl
  rw [(dat c a V).before_in_eq_fetched w hw hlive (fun _ _ _ => rfl) hcut,
    (dat c a V).fetched_of_clip_none w t (fun _ => rfl) d ((dat c a V).after w t)]
  unfold Dat.fetched
  rw [← hcut t, Window.fill_cut, ha]

/-- The table as the pipeline holds it. -/
theorem table_eq : (Pipeline.prefHeld pre3 c (fun _ => fullShare) a.1 : sProp 𝕄) = hold c (Memref.whole main_c_2) (Memref.isWhole_whole _) (a.1 0) := by
  unfold Pipeline.prefHeld
  refine (bigSep_univ_of_subsingleton (I := Fin 1) 0).trans ?_
  exact congrArg (fun f : Buf (Elt F) ((c : Thread nD τ).loc main_c_2) => (((c : Thread nD τ).loc main_c_2) ↦{fullShare} f : sProp 𝕄))
    ((Memref.isWhole_whole main_c_2).eq_unread (Val := Elt F) (f := a.1 0) rfl)

/-- A point's one coordinate is its number. -/
theorem pt_val (t : Fin (cfg3 a).N) : ((pt a t) 0).val = t.val := by
  have ht : t.val < 37 := lt_of_lt_of_eq t.isLt N_3
  rw [Pipeline.Grid.coords_val (G := grid3) t 0 (S := 1) (B := 37) (by decide) rfl]
  omega

/-- The accumulator at the first point. -/
theorem acc_first (t : Fin (cfg3 a).N) (ht : t.val = 0) :
    acc c a V t.val t.isLt = patch (k3_off2 (a.1 0 (SB.slot (pt a t)))) (add c a V t) (k3_pay3 (blk c a V 4 t)) := by
  obtain ⟨k, hk⟩ := t
  obtain rfl : k = 0 := ht
  rfl

/-- The accumulator at a later point. -/
theorem acc_next (t : Fin (cfg3 a).N) (ht : t.val ≠ 0) :
    acc c a V t.val t.isLt
      = patch (k3_off2 (a.1 0 (SB.slot (pt a t)))) (add c a V t) (acc c a V (t.val - 1) (Nat.lt_of_le_of_lt (Nat.sub_le _ _) t.isLt)) := by
  obtain ⟨k, hk⟩ := t
  obtain ⟨k, rfl⟩ : ∃ j, k = j + 1 := ⟨k - 1, by simp only at ht; omega⟩
  rfl

/-- At a later point the accumulator's buffer holds what the point before left. -/
theorem before_acc (t : Fin (cfg3 a).N) (ht : t.val ≠ 0) (d : S640x256.Idx → F .f32) :
    (dat c a V).before 17 t d = acc c a V (t.val - 1) (Nat.lt_of_le_of_lt (Nat.sub_le _ _) t.isLt) := by
  have hlt : t.val < 37 := lt_of_lt_of_eq t.isLt N_3
  refine (dat c a V).before_out_kept 17 rfl t ht ?_ (fun _ => rfl) (fun _ _ => rfl) d
  rw [Bool.eq_false_iff]
  intro h
  have := ((win3 a 17).flush_oneBlock rfl (show grid3.oneBlock (spec3 17).reads = true by decide) N_3 (m := 36) rfl _).mp h
  simp only at this
  omega

/-- The result's window is idle at every point but the last. -/
theorem idle_result (i : grid3.Coords) : idle3 16 i = decide ((i 0).val ≠ 36) := by
  have h : ∀ n : Fin 37, (!(Scalar.cmpi .ne (Scalar.extui (Scalar.cmpi .eq (BitVec.ofNat 32 n.val) 36#32)) 0#32 == 1#1)) = decide (n.val ≠ 36) := by
    decide
  exact h (i 0)

/-- The windows a point's contract forgets. -/
def fgt : Fin 18 → Bool := fun _ => false

set_option maxHeartbeats 4000000 in
/-- The body at every point: from what the windows' buffers hold to what they are to hold. -/
theorem body_obligation (hg : ∀ p, k3_chk1 (a.1 0 p)) :
    Pipeline.BodyObligationLoose (dat c a V) (defs₀ (F := F)) 𝒱₀ none Set.univ fgt := by
  intro t
  rw [bigSep_W3, bigSep_W3]
  have hi := pt_val (a := a) t
  have hb : defs₀ (F := F) .tc (cfg3 a).body ((cfg3 a).bodyArgs t ((cfg3 a).slots t)) = cc3_body (pt a t) (Memref.whole main_c_2) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9)) (spec3_10.stage ((cfg3 a).slots t 10)) (hstage3_10 (((cfg3 a).slots t 10).cast nbuf3_10)) (spec3_11.stage ((cfg3 a).slots t 11)) (hstage3_11 (((cfg3 a).slots t 11).cast nbuf3_11)) (spec3_12.stage ((cfg3 a).slots t 12)) (hstage3_12 (((cfg3 a).slots t 12).cast nbuf3_12)) (spec3_13.stage ((cfg3 a).slots t 13)) (hstage3_13 (((cfg3 a).slots t 13).cast nbuf3_13)) (spec3_14.stage ((cfg3 a).slots t 14)) (hstage3_14 (((cfg3 a).slots t 14).cast nbuf3_14)) (spec3_15.stage ((cfg3 a).slots t 15)) (hstage3_15 (((cfg3 a).slots t 15).cast nbuf3_15)) (spec3_16.stage ((cfg3 a).slots t 16)) (hstage3_16 (((cfg3 a).slots t 16).cast nbuf3_16)) (spec3_17.stage ((cfg3 a).slots t 17)) (hstage3_17 (((cfg3 a).slots t 17).cast nbuf3_17)) := body_eq t _
  rw [hb]
  have hΦ : ∀ s, (dat c a V).Φ s = iprop(Pipeline.scopedRest (cfg3 a).spec c ∗ Pipeline.prefHeld pre3 c (fun _ => fullShare) a.1) := fun _ => rfl
  rw [hΦ, hΦ, table_eq]
  have b0 : ∀ d, (dat c a V).before 0 t d = blk c a V 0 t := before_in 0 rfl (fun _ => rfl) (fun _ => rfl) t
  have a0 : (dat c a V).after 0 t = blk c a V 0 t := rfl
  have b1 : ∀ d, (dat c a V).before 1 t d = blk c a V 1 t := before_in 1 rfl (fun _ => rfl) (fun _ => rfl) t
  have a1 : (dat c a V).after 1 t = blk c a V 1 t := rfl
  have b2 : ∀ d, (dat c a V).before 2 t d = blk c a V 2 t := before_in 2 rfl (fun _ => rfl) (fun _ => rfl) t
  have a2 : (dat c a V).after 2 t = blk c a V 2 t := rfl
  have b3 : ∀ d, (dat c a V).before 3 t d = blk c a V 3 t := before_in 3 rfl (fun _ => rfl) (fun _ => rfl) t
  have a3 : (dat c a V).after 3 t = blk c a V 3 t := rfl
  have b4 : ∀ d, (dat c a V).before 4 t d = blk c a V 4 t := before_in 4 rfl (fun _ => rfl) (fun _ => rfl) t
  have a4 : (dat c a V).after 4 t = blk c a V 4 t := rfl
  have b5 : ∀ d, (dat c a V).before 5 t d = blk c a V 5 t := before_in 5 rfl (fun _ => rfl) (fun _ => rfl) t
  have a5 : (dat c a V).after 5 t = blk c a V 5 t := rfl
  have b6 : ∀ d, (dat c a V).before 6 t d = blk c a V 6 t := before_in 6 rfl (fun _ => rfl) (fun _ => rfl) t
  have a6 : (dat c a V).after 6 t = blk c a V 6 t := rfl
  have b7 : ∀ d, (dat c a V).before 7 t d = blk c a V 7 t := before_in 7 rfl (fun _ => rfl) (fun _ => rfl) t
  have a7 : (dat c a V).after 7 t = blk c a V 7 t := rfl
  have b8 : ∀ d, (dat c a V).before 8 t d = blk c a V 8 t := before_in 8 rfl (fun _ => rfl) (fun _ => rfl) t
  have a8 : (dat c a V).after 8 t = blk c a V 8 t := rfl
  have b9 : ∀ d, (dat c a V).before 9 t d = blk c a V 9 t := before_in 9 rfl (fun _ => rfl) (fun _ => rfl) t
  have a9 : (dat c a V).after 9 t = blk c a V 9 t := rfl
  have b10 : ∀ d, (dat c a V).before 10 t d = blk c a V 10 t := before_in 10 rfl (fun _ => rfl) (fun _ => rfl) t
  have a10 : (dat c a V).after 10 t = blk c a V 10 t := rfl
  have b11 : ∀ d, (dat c a V).before 11 t d = blk c a V 11 t := before_in 11 rfl (fun _ => rfl) (fun _ => rfl) t
  have a11 : (dat c a V).after 11 t = blk c a V 11 t := rfl
  have b12 : ∀ d, (dat c a V).before 12 t d = blk c a V 12 t := before_in 12 rfl (fun _ => rfl) (fun _ => rfl) t
  have a12 : (dat c a V).after 12 t = blk c a V 12 t := rfl
  have b13 : ∀ d, (dat c a V).before 13 t d = blk c a V 13 t := before_in 13 rfl (fun _ => rfl) (fun _ => rfl) t
  have a13 : (dat c a V).after 13 t = blk c a V 13 t := rfl
  have b14 : ∀ d, (dat c a V).before 14 t d = blk c a V 14 t := before_in 14 rfl (fun _ => rfl) (fun _ => rfl) t
  have a14 : (dat c a V).after 14 t = blk c a V 14 t := rfl
  have b15 : ∀ d, (dat c a V).before 15 t d = blk c a V 15 t := before_in 15 rfl (fun _ => rfl) (fun _ => rfl) t
  have a15 : (dat c a V).after 15 t = blk c a V 15 t := rfl
  have a17 : (dat c a V).after 17 t = acc c a V t.val t.isLt := rfl
  have hl : ∀ w, (cfg3 a).loose w = false := fun _ => rfl
  have hd0 : (cfg3 a).idle 0 ((cfg3 a).grid.coords t) = false := rfl
  have hd1 : (cfg3 a).idle 1 ((cfg3 a).grid.coords t) = false := rfl
  have hd2 : (cfg3 a).idle 2 ((cfg3 a).grid.coords t) = false := rfl
  have hd3 : (cfg3 a).idle 3 ((cfg3 a).grid.coords t) = false := rfl
  have hd4 : (cfg3 a).idle 4 ((cfg3 a).grid.coords t) = false := rfl
  have hd5 : (cfg3 a).idle 5 ((cfg3 a).grid.coords t) = false := rfl
  have hd6 : (cfg3 a).idle 6 ((cfg3 a).grid.coords t) = false := rfl
  have hd7 : (cfg3 a).idle 7 ((cfg3 a).grid.coords t) = false := rfl
  have hd8 : (cfg3 a).idle 8 ((cfg3 a).grid.coords t) = false := rfl
  have hd9 : (cfg3 a).idle 9 ((cfg3 a).grid.coords t) = false := rfl
  have hd10 : (cfg3 a).idle 10 ((cfg3 a).grid.coords t) = false := rfl
  have hd11 : (cfg3 a).idle 11 ((cfg3 a).grid.coords t) = false := rfl
  have hd12 : (cfg3 a).idle 12 ((cfg3 a).grid.coords t) = false := rfl
  have hd13 : (cfg3 a).idle 13 ((cfg3 a).grid.coords t) = false := rfl
  have hd14 : (cfg3 a).idle 14 ((cfg3 a).grid.coords t) = false := rfl
  have hd15 : (cfg3 a).idle 15 ((cfg3 a).grid.coords t) = false := rfl
  have hd17 : (cfg3 a).idle 17 ((cfg3 a).grid.coords t) = false := rfl
  have a16 : (dat c a V).after 16 t = out c a V t := rfl
  have f0 : fgt 0 = false := rfl
  have f1 : fgt 1 = false := rfl
  have f2 : fgt 2 = false := rfl
  have f3 : fgt 3 = false := rfl
  have f4 : fgt 4 = false := rfl
  have f5 : fgt 5 = false := rfl
  have f6 : fgt 6 = false := rfl
  have f7 : fgt 7 = false := rfl
  have f8 : fgt 8 = false := rfl
  have f9 : fgt 9 = false := rfl
  have f10 : fgt 10 = false := rfl
  have f11 : fgt 11 = false := rfl
  have f12 : fgt 12 = false := rfl
  have f13 : fgt 13 = false := rfl
  have f14 : fgt 14 = false := rfl
  have f15 : fgt 15 = false := rfl
  have f16 : fgt 16 = false := rfl
  have f17 : fgt 17 = false := rfl
  simp only [f0, f1, f2, f3, f4, f5, f6, f7, f8, f9, f10, f11, f12, f13, f14, f15, f16, f17, a0, a1, a2, a3, a4, a5, a6, a7, a8, a9, a10, a11, a12, a13, a14, a15, a17, hl, hd0, hd1, hd2, hd3, hd4, hd5, hd6, hd7, hd8, hd9, hd10, hd11, hd12, hd13, hd14, hd15, hd17]
  have hid : idle3 16 (((pcfg3 (F := F)).gridAt a.1).coords t) = decide (t.val ≠ 36) := by rw [← hi]; exact idle_result (pt a t)
  have hlt : t.val < 37 := lt_of_lt_of_eq t.isLt N_3
  have hfl : t.val ≠ 36 → ((cfg3 a).win 16).flush t = false := by
    intro h
    rw [Bool.eq_false_iff]
    intro hf
    have := ((win3 a 16).flush_oneBlock rfl (show grid3.oneBlock (spec3 16).reads = true by decide) N_3 (m := 36) rfl t).mp hf
    omega
  by_cases h1 : t.val = 36
  · have h0 : t.val ≠ 0 := by omega
    rw [hid, decide_eq_false (not_not.mpr h1), a16]
    unfold out
    rw [acc_next t h0]
    iintro ⟨⟨Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    ihave H0 := (owns_to_hold_of c (spec3_0.stage ((cfg3 a).slots t 0)) (hstage3_0 (((cfg3 a).slots t 0).cast nbuf3_0)) (b0 d0)) $$ H0
    ihave H1 := (owns_to_hold_of c (spec3_1.stage ((cfg3 a).slots t 1)) (hstage3_1 (((cfg3 a).slots t 1).cast nbuf3_1)) (b1 d1)) $$ H1
    ihave H2 := (owns_to_hold_of c (spec3_2.stage ((cfg3 a).slots t 2)) (hstage3_2 (((cfg3 a).slots t 2).cast nbuf3_2)) (b2 d2)) $$ H2
    ihave H3 := (owns_to_hold_of c (spec3_3.stage ((cfg3 a).slots t 3)) (hstage3_3 (((cfg3 a).slots t 3).cast nbuf3_3)) (b3 d3)) $$ H3
    ihave H4 := (owns_to_hold_of c (spec3_4.stage ((cfg3 a).slots t 4)) (hstage3_4 (((cfg3 a).slots t 4).cast nbuf3_4)) (b4 d4)) $$ H4
    ihave H5 := (owns_to_hold_of c (spec3_5.stage ((cfg3 a).slots t 5)) (hstage3_5 (((cfg3 a).slots t 5).cast nbuf3_5)) (b5 d5)) $$ H5
    ihave H6 := (owns_to_hold_of c (spec3_6.stage ((cfg3 a).slots t 6)) (hstage3_6 (((cfg3 a).slots t 6).cast nbuf3_6)) (b6 d6)) $$ H6
    ihave H7 := (owns_to_hold_of c (spec3_7.stage ((cfg3 a).slots t 7)) (hstage3_7 (((cfg3 a).slots t 7).cast nbuf3_7)) (b7 d7)) $$ H7
    ihave H8 := (owns_to_hold_of c (spec3_8.stage ((cfg3 a).slots t 8)) (hstage3_8 (((cfg3 a).slots t 8).cast nbuf3_8)) (b8 d8)) $$ H8
    ihave H9 := (owns_to_hold_of c (spec3_9.stage ((cfg3 a).slots t 9)) (hstage3_9 (((cfg3 a).slots t 9).cast nbuf3_9)) (b9 d9)) $$ H9
    ihave H10 := (owns_to_hold_of c (spec3_10.stage ((cfg3 a).slots t 10)) (hstage3_10 (((cfg3 a).slots t 10).cast nbuf3_10)) (b10 d10)) $$ H10
    ihave H11 := (owns_to_hold_of c (spec3_11.stage ((cfg3 a).slots t 11)) (hstage3_11 (((cfg3 a).slots t 11).cast nbuf3_11)) (b11 d11)) $$ H11
    ihave H12 := (owns_to_hold_of c (spec3_12.stage ((cfg3 a).slots t 12)) (hstage3_12 (((cfg3 a).slots t 12).cast nbuf3_12)) (b12 d12)) $$ H12
    ihave H13 := (owns_to_hold_of c (spec3_13.stage ((cfg3 a).slots t 13)) (hstage3_13 (((cfg3 a).slots t 13).cast nbuf3_13)) (b13 d13)) $$ H13
    ihave H14 := (owns_to_hold_of c (spec3_14.stage ((cfg3 a).slots t 14)) (hstage3_14 (((cfg3 a).slots t 14).cast nbuf3_14)) (b14 d14)) $$ H14
    ihave H15 := (owns_to_hold_of c (spec3_15.stage ((cfg3 a).slots t 15)) (hstage3_15 (((cfg3 a).slots t 15).cast nbuf3_15)) (b15 d15)) $$ H15
    ihave H17 := (owns_to_hold_of c (spec3_17.stage ((cfg3 a).slots t 17)) (hstage3_17 (((cfg3 a).slots t 17).cast nbuf3_17)) (before_acc t h0 d17)) $$ H17
    ihave H16 := (owns_to_hold c (spec3_16.stage ((cfg3 a).slots t 16)) (hstage3_16 (((cfg3 a).slots t 16).cast nbuf3_16)) _) $$ H16
    iapply (SB.last c (pt a t) (Memref.whole main_c_2) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9)) (spec3_10.stage ((cfg3 a).slots t 10)) (hstage3_10 (((cfg3 a).slots t 10).cast nbuf3_10)) (spec3_11.stage ((cfg3 a).slots t 11)) (hstage3_11 (((cfg3 a).slots t 11).cast nbuf3_11)) (spec3_12.stage ((cfg3 a).slots t 12)) (hstage3_12 (((cfg3 a).slots t 12).cast nbuf3_12)) (spec3_13.stage ((cfg3 a).slots t 13)) (hstage3_13 (((cfg3 a).slots t 13).cast nbuf3_13)) (spec3_14.stage ((cfg3 a).slots t 14)) (hstage3_14 (((cfg3 a).slots t 14).cast nbuf3_14)) (spec3_15.stage ((cfg3 a).slots t 15)) (hstage3_15 (((cfg3 a).slots t 15).cast nbuf3_15)) (spec3_16.stage ((cfg3 a).slots t 16)) (hstage3_16 (((cfg3 a).slots t 16).cast nbuf3_16)) (spec3_17.stage ((cfg3 a).slots t 17)) (hstage3_17 (((cfg3 a).slots t 17).cast nbuf3_17)) (hi.trans h1) (a.1 0) hg (blk c a V 0 t) (blk c a V 1 t) (blk c a V 2 t) (blk c a V 3 t) (blk c a V 4 t) (acc c a V (t.val - 1) (Nat.lt_of_le_of_lt (Nat.sub_le _ _) t.isLt)) (blk c a V 5 t) (blk c a V 6 t) (blk c a V 7 t) (blk c a V 9 t) (blk c a V 8 t) (blk c a V 10 t) (blk c a V 14 t) (blk c a V 11 t) (blk c a V 15 t) (blk c a V 12 t) (blk c a V 13 t) _)
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H16]; · iexact H16
    iintro ⟨Ht, H0, H1, H2, H3, H4, H5, H6, H7, H8, H9, H10, H11, H12, H13, H14, H15, H17, H16⟩
    ihave H0 := (hold_to_owns c (spec3_0.stage ((cfg3 a).slots t 0)) (hstage3_0 (((cfg3 a).slots t 0).cast nbuf3_0)) _) $$ H0
    ihave H1 := (hold_to_owns c (spec3_1.stage ((cfg3 a).slots t 1)) (hstage3_1 (((cfg3 a).slots t 1).cast nbuf3_1)) _) $$ H1
    ihave H2 := (hold_to_owns c (spec3_2.stage ((cfg3 a).slots t 2)) (hstage3_2 (((cfg3 a).slots t 2).cast nbuf3_2)) _) $$ H2
    ihave H3 := (hold_to_owns c (spec3_3.stage ((cfg3 a).slots t 3)) (hstage3_3 (((cfg3 a).slots t 3).cast nbuf3_3)) _) $$ H3
    ihave H4 := (hold_to_owns c (spec3_4.stage ((cfg3 a).slots t 4)) (hstage3_4 (((cfg3 a).slots t 4).cast nbuf3_4)) _) $$ H4
    ihave H5 := (hold_to_owns c (spec3_5.stage ((cfg3 a).slots t 5)) (hstage3_5 (((cfg3 a).slots t 5).cast nbuf3_5)) _) $$ H5
    ihave H6 := (hold_to_owns c (spec3_6.stage ((cfg3 a).slots t 6)) (hstage3_6 (((cfg3 a).slots t 6).cast nbuf3_6)) _) $$ H6
    ihave H7 := (hold_to_owns c (spec3_7.stage ((cfg3 a).slots t 7)) (hstage3_7 (((cfg3 a).slots t 7).cast nbuf3_7)) _) $$ H7
    ihave H8 := (hold_to_owns c (spec3_8.stage ((cfg3 a).slots t 8)) (hstage3_8 (((cfg3 a).slots t 8).cast nbuf3_8)) _) $$ H8
    ihave H9 := (hold_to_owns c (spec3_9.stage ((cfg3 a).slots t 9)) (hstage3_9 (((cfg3 a).slots t 9).cast nbuf3_9)) _) $$ H9
    ihave H10 := (hold_to_owns c (spec3_10.stage ((cfg3 a).slots t 10)) (hstage3_10 (((cfg3 a).slots t 10).cast nbuf3_10)) _) $$ H10
    ihave H11 := (hold_to_owns c (spec3_11.stage ((cfg3 a).slots t 11)) (hstage3_11 (((cfg3 a).slots t 11).cast nbuf3_11)) _) $$ H11
    ihave H12 := (hold_to_owns c (spec3_12.stage ((cfg3 a).slots t 12)) (hstage3_12 (((cfg3 a).slots t 12).cast nbuf3_12)) _) $$ H12
    ihave H13 := (hold_to_owns c (spec3_13.stage ((cfg3 a).slots t 13)) (hstage3_13 (((cfg3 a).slots t 13).cast nbuf3_13)) _) $$ H13
    ihave H14 := (hold_to_owns c (spec3_14.stage ((cfg3 a).slots t 14)) (hstage3_14 (((cfg3 a).slots t 14).cast nbuf3_14)) _) $$ H14
    ihave H15 := (hold_to_owns c (spec3_15.stage ((cfg3 a).slots t 15)) (hstage3_15 (((cfg3 a).slots t 15).cast nbuf3_15)) _) $$ H15
    ihave H17 := (hold_to_owns c (spec3_17.stage ((cfg3 a).slots t 17)) (hstage3_17 (((cfg3 a).slots t 17).cast nbuf3_17)) _) $$ H17
    ihave H16 := (hold_to_owns c (spec3_16.stage ((cfg3 a).slots t 16)) (hstage3_16 (((cfg3 a).slots t 16).cast nbuf3_16)) _) $$ H16
    isplitl [Hr Ht]
    · isplitl [Hr]
      · iexact Hr
      · iexact Ht
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hf := hfl h1
    dsimp only at hf
    rw [hid, decide_eq_true h1]
    erw [hf]
    by_cases h0 : t.val = 0
    · iintro ⟨⟨Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [acc_first t h0]
      ihave H0 := (owns_to_hold_of c (spec3_0.stage ((cfg3 a).slots t 0)) (hstage3_0 (((cfg3 a).slots t 0).cast nbuf3_0)) (b0 d0)) $$ H0
      ihave H1 := (owns_to_hold_of c (spec3_1.stage ((cfg3 a).slots t 1)) (hstage3_1 (((cfg3 a).slots t 1).cast nbuf3_1)) (b1 d1)) $$ H1
      ihave H2 := (owns_to_hold_of c (spec3_2.stage ((cfg3 a).slots t 2)) (hstage3_2 (((cfg3 a).slots t 2).cast nbuf3_2)) (b2 d2)) $$ H2
      ihave H3 := (owns_to_hold_of c (spec3_3.stage ((cfg3 a).slots t 3)) (hstage3_3 (((cfg3 a).slots t 3).cast nbuf3_3)) (b3 d3)) $$ H3
      ihave H4 := (owns_to_hold_of c (spec3_4.stage ((cfg3 a).slots t 4)) (hstage3_4 (((cfg3 a).slots t 4).cast nbuf3_4)) (b4 d4)) $$ H4
      ihave H5 := (owns_to_hold_of c (spec3_5.stage ((cfg3 a).slots t 5)) (hstage3_5 (((cfg3 a).slots t 5).cast nbuf3_5)) (b5 d5)) $$ H5
      ihave H6 := (owns_to_hold_of c (spec3_6.stage ((cfg3 a).slots t 6)) (hstage3_6 (((cfg3 a).slots t 6).cast nbuf3_6)) (b6 d6)) $$ H6
      ihave H7 := (owns_to_hold_of c (spec3_7.stage ((cfg3 a).slots t 7)) (hstage3_7 (((cfg3 a).slots t 7).cast nbuf3_7)) (b7 d7)) $$ H7
      ihave H8 := (owns_to_hold_of c (spec3_8.stage ((cfg3 a).slots t 8)) (hstage3_8 (((cfg3 a).slots t 8).cast nbuf3_8)) (b8 d8)) $$ H8
      ihave H9 := (owns_to_hold_of c (spec3_9.stage ((cfg3 a).slots t 9)) (hstage3_9 (((cfg3 a).slots t 9).cast nbuf3_9)) (b9 d9)) $$ H9
      ihave H17 := (owns_to_hold c (spec3_17.stage ((cfg3 a).slots t 17)) (hstage3_17 (((cfg3 a).slots t 17).cast nbuf3_17)) _) $$ H17
      ihave H10 := (owns_of c (spec3_10.stage ((cfg3 a).slots t 10)) (b10 d10)) $$ H10
      ihave H11 := (owns_of c (spec3_11.stage ((cfg3 a).slots t 11)) (b11 d11)) $$ H11
      ihave H12 := (owns_of c (spec3_12.stage ((cfg3 a).slots t 12)) (b12 d12)) $$ H12
      ihave H13 := (owns_of c (spec3_13.stage ((cfg3 a).slots t 13)) (b13 d13)) $$ H13
      ihave H14 := (owns_of c (spec3_14.stage ((cfg3 a).slots t 14)) (b14 d14)) $$ H14
      ihave H15 := (owns_of c (spec3_15.stage ((cfg3 a).slots t 15)) (b15 d15)) $$ H15
      iapply (SB.first c (pt a t) (Memref.whole main_c_2) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9)) (spec3_10.stage ((cfg3 a).slots t 10)) (hstage3_10 (((cfg3 a).slots t 10).cast nbuf3_10)) (spec3_11.stage ((cfg3 a).slots t 11)) (hstage3_11 (((cfg3 a).slots t 11).cast nbuf3_11)) (spec3_12.stage ((cfg3 a).slots t 12)) (hstage3_12 (((cfg3 a).slots t 12).cast nbuf3_12)) (spec3_13.stage ((cfg3 a).slots t 13)) (hstage3_13 (((cfg3 a).slots t 13).cast nbuf3_13)) (spec3_14.stage ((cfg3 a).slots t 14)) (hstage3_14 (((cfg3 a).slots t 14).cast nbuf3_14)) (spec3_15.stage ((cfg3 a).slots t 15)) (hstage3_15 (((cfg3 a).slots t 15).cast nbuf3_15)) (spec3_16.stage ((cfg3 a).slots t 16)) (hstage3_16 (((cfg3 a).slots t 16).cast nbuf3_16)) (spec3_17.stage ((cfg3 a).slots t 17)) (hstage3_17 (((cfg3 a).slots t 17).cast nbuf3_17)) (hi.trans h0) (a.1 0) hg (blk c a V 0 t) (blk c a V 1 t) (blk c a V 2 t) (blk c a V 3 t) (blk c a V 4 t) _ (blk c a V 5 t) (blk c a V 6 t) (blk c a V 7 t) (blk c a V 9 t) (blk c a V 8 t))
      isplitl [Ht]; · iexact Ht
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H17]; · iexact H17
      iintro ⟨Ht, H0, H1, H2, H3, H4, H5, H6, H7, H8, H9, H17⟩
      ihave H0 := (hold_to_owns c (spec3_0.stage ((cfg3 a).slots t 0)) (hstage3_0 (((cfg3 a).slots t 0).cast nbuf3_0)) _) $$ H0
      ihave H1 := (hold_to_owns c (spec3_1.stage ((cfg3 a).slots t 1)) (hstage3_1 (((cfg3 a).slots t 1).cast nbuf3_1)) _) $$ H1
      ihave H2 := (hold_to_owns c (spec3_2.stage ((cfg3 a).slots t 2)) (hstage3_2 (((cfg3 a).slots t 2).cast nbuf3_2)) _) $$ H2
      ihave H3 := (hold_to_owns c (spec3_3.stage ((cfg3 a).slots t 3)) (hstage3_3 (((cfg3 a).slots t 3).cast nbuf3_3)) _) $$ H3
      ihave H4 := (hold_to_owns c (spec3_4.stage ((cfg3 a).slots t 4)) (hstage3_4 (((cfg3 a).slots t 4).cast nbuf3_4)) _) $$ H4
      ihave H5 := (hold_to_owns c (spec3_5.stage ((cfg3 a).slots t 5)) (hstage3_5 (((cfg3 a).slots t 5).cast nbuf3_5)) _) $$ H5
      ihave H6 := (hold_to_owns c (spec3_6.stage ((cfg3 a).slots t 6)) (hstage3_6 (((cfg3 a).slots t 6).cast nbuf3_6)) _) $$ H6
      ihave H7 := (hold_to_owns c (spec3_7.stage ((cfg3 a).slots t 7)) (hstage3_7 (((cfg3 a).slots t 7).cast nbuf3_7)) _) $$ H7
      ihave H8 := (hold_to_owns c (spec3_8.stage ((cfg3 a).slots t 8)) (hstage3_8 (((cfg3 a).slots t 8).cast nbuf3_8)) _) $$ H8
      ihave H9 := (hold_to_owns c (spec3_9.stage ((cfg3 a).slots t 9)) (hstage3_9 (((cfg3 a).slots t 9).cast nbuf3_9)) _) $$ H9
      ihave H17 := (hold_to_owns c (spec3_17.stage ((cfg3 a).slots t 17)) (hstage3_17 (((cfg3 a).slots t 17).cast nbuf3_17)) _) $$ H17
      isplitl [Hr Ht]
      · isplitl [Hr]
        · iexact Hr
        · iexact Ht
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · iexists d16
        iexact H16
      iexact H17
    · iintro ⟨⟨Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [acc_next t h0]
      ihave H0 := (owns_to_hold_of c (spec3_0.stage ((cfg3 a).slots t 0)) (hstage3_0 (((cfg3 a).slots t 0).cast nbuf3_0)) (b0 d0)) $$ H0
      ihave H1 := (owns_to_hold_of c (spec3_1.stage ((cfg3 a).slots t 1)) (hstage3_1 (((cfg3 a).slots t 1).cast nbuf3_1)) (b1 d1)) $$ H1
      ihave H2 := (owns_to_hold_of c (spec3_2.stage ((cfg3 a).slots t 2)) (hstage3_2 (((cfg3 a).slots t 2).cast nbuf3_2)) (b2 d2)) $$ H2
      ihave H3 := (owns_to_hold_of c (spec3_3.stage ((cfg3 a).slots t 3)) (hstage3_3 (((cfg3 a).slots t 3).cast nbuf3_3)) (b3 d3)) $$ H3
      ihave H4 := (owns_to_hold_of c (spec3_4.stage ((cfg3 a).slots t 4)) (hstage3_4 (((cfg3 a).slots t 4).cast nbuf3_4)) (b4 d4)) $$ H4
      ihave H5 := (owns_to_hold_of c (spec3_5.stage ((cfg3 a).slots t 5)) (hstage3_5 (((cfg3 a).slots t 5).cast nbuf3_5)) (b5 d5)) $$ H5
      ihave H6 := (owns_to_hold_of c (spec3_6.stage ((cfg3 a).slots t 6)) (hstage3_6 (((cfg3 a).slots t 6).cast nbuf3_6)) (b6 d6)) $$ H6
      ihave H7 := (owns_to_hold_of c (spec3_7.stage ((cfg3 a).slots t 7)) (hstage3_7 (((cfg3 a).slots t 7).cast nbuf3_7)) (b7 d7)) $$ H7
      ihave H8 := (owns_to_hold_of c (spec3_8.stage ((cfg3 a).slots t 8)) (hstage3_8 (((cfg3 a).slots t 8).cast nbuf3_8)) (b8 d8)) $$ H8
      ihave H9 := (owns_to_hold_of c (spec3_9.stage ((cfg3 a).slots t 9)) (hstage3_9 (((cfg3 a).slots t 9).cast nbuf3_9)) (b9 d9)) $$ H9
      ihave H17 := (owns_to_hold_of c (spec3_17.stage ((cfg3 a).slots t 17)) (hstage3_17 (((cfg3 a).slots t 17).cast nbuf3_17)) (before_acc t h0 d17)) $$ H17
      ihave H10 := (owns_of c (spec3_10.stage ((cfg3 a).slots t 10)) (b10 d10)) $$ H10
      ihave H11 := (owns_of c (spec3_11.stage ((cfg3 a).slots t 11)) (b11 d11)) $$ H11
      ihave H12 := (owns_of c (spec3_12.stage ((cfg3 a).slots t 12)) (b12 d12)) $$ H12
      ihave H13 := (owns_of c (spec3_13.stage ((cfg3 a).slots t 13)) (b13 d13)) $$ H13
      ihave H14 := (owns_of c (spec3_14.stage ((cfg3 a).slots t 14)) (b14 d14)) $$ H14
      ihave H15 := (owns_of c (spec3_15.stage ((cfg3 a).slots t 15)) (b15 d15)) $$ H15
      iapply (SB.next c (pt a t) (Memref.whole main_c_2) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7)) (spec3_8.stage ((cfg3 a).slots t 8)) (hstage3_8 (((cfg3 a).slots t 8).cast nbuf3_8)) (spec3_9.stage ((cfg3 a).slots t 9)) (hstage3_9 (((cfg3 a).slots t 9).cast nbuf3_9)) (spec3_10.stage ((cfg3 a).slots t 10)) (hstage3_10 (((cfg3 a).slots t 10).cast nbuf3_10)) (spec3_11.stage ((cfg3 a).slots t 11)) (hstage3_11 (((cfg3 a).slots t 11).cast nbuf3_11)) (spec3_12.stage ((cfg3 a).slots t 12)) (hstage3_12 (((cfg3 a).slots t 12).cast nbuf3_12)) (spec3_13.stage ((cfg3 a).slots t 13)) (hstage3_13 (((cfg3 a).slots t 13).cast nbuf3_13)) (spec3_14.stage ((cfg3 a).slots t 14)) (hstage3_14 (((cfg3 a).slots t 14).cast nbuf3_14)) (spec3_15.stage ((cfg3 a).slots t 15)) (hstage3_15 (((cfg3 a).slots t 15).cast nbuf3_15)) (spec3_16.stage ((cfg3 a).slots t 16)) (hstage3_16 (((cfg3 a).slots t 16).cast nbuf3_16)) (spec3_17.stage ((cfg3 a).slots t 17)) (hstage3_17 (((cfg3 a).slots t 17).cast nbuf3_17)) (fun h => h0 (hi.symm.trans h)) (fun h => h1 (hi.symm.trans h)) (a.1 0) hg (blk c a V 0 t) (blk c a V 1 t) (blk c a V 2 t) (blk c a V 3 t) (blk c a V 4 t) (acc c a V (t.val - 1) (Nat.lt_of_le_of_lt (Nat.sub_le _ _) t.isLt)) (blk c a V 5 t) (blk c a V 6 t) (blk c a V 7 t) (blk c a V 9 t) (blk c a V 8 t))
      isplitl [Ht]; · iexact Ht
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H17]; · iexact H17
      iintro ⟨Ht, H0, H1, H2, H3, H4, H5, H6, H7, H8, H9, H17⟩
      ihave H0 := (hold_to_owns c (spec3_0.stage ((cfg3 a).slots t 0)) (hstage3_0 (((cfg3 a).slots t 0).cast nbuf3_0)) _) $$ H0
      ihave H1 := (hold_to_owns c (spec3_1.stage ((cfg3 a).slots t 1)) (hstage3_1 (((cfg3 a).slots t 1).cast nbuf3_1)) _) $$ H1
      ihave H2 := (hold_to_owns c (spec3_2.stage ((cfg3 a).slots t 2)) (hstage3_2 (((cfg3 a).slots t 2).cast nbuf3_2)) _) $$ H2
      ihave H3 := (hold_to_owns c (spec3_3.stage ((cfg3 a).slots t 3)) (hstage3_3 (((cfg3 a).slots t 3).cast nbuf3_3)) _) $$ H3
      ihave H4 := (hold_to_owns c (spec3_4.stage ((cfg3 a).slots t 4)) (hstage3_4 (((cfg3 a).slots t 4).cast nbuf3_4)) _) $$ H4
      ihave H5 := (hold_to_owns c (spec3_5.stage ((cfg3 a).slots t 5)) (hstage3_5 (((cfg3 a).slots t 5).cast nbuf3_5)) _) $$ H5
      ihave H6 := (hold_to_owns c (spec3_6.stage ((cfg3 a).slots t 6)) (hstage3_6 (((cfg3 a).slots t 6).cast nbuf3_6)) _) $$ H6
      ihave H7 := (hold_to_owns c (spec3_7.stage ((cfg3 a).slots t 7)) (hstage3_7 (((cfg3 a).slots t 7).cast nbuf3_7)) _) $$ H7
      ihave H8 := (hold_to_owns c (spec3_8.stage ((cfg3 a).slots t 8)) (hstage3_8 (((cfg3 a).slots t 8).cast nbuf3_8)) _) $$ H8
      ihave H9 := (hold_to_owns c (spec3_9.stage ((cfg3 a).slots t 9)) (hstage3_9 (((cfg3 a).slots t 9).cast nbuf3_9)) _) $$ H9
      ihave H17 := (hold_to_owns c (spec3_17.stage ((cfg3 a).slots t 17)) (hstage3_17 (((cfg3 a).slots t 17).cast nbuf3_17)) _) $$ H17
      isplitl [Hr Ht]
      · isplitl [Hr]
        · iexact Hr
        · iexact Ht
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · iexists d16
        iexact H16
      iexact H17
end Contents

end Cert.Proof.Run.RB

end
-- ==== Proof.Regions.lean ====
/-
  The two TensorCore calls entered from the core's unscoped buffers at any contents: what each leaves of them.
-/
module

public import proofs.«01_k».proof.Proof.RegionA
public import proofs.«01_k».proof.Proof.RegionB
public import Idealize.ShloMosaic.Lib.Pipeline.RegionArrays
public import Idealize.ShloMosaic.Lib.Pipeline.RegionArraysT
public import Idealize.ShloMosaic.Lib.Pipeline.RegionArraysF

@[expose] public section

noncomputable section

namespace Cert.Proof.Run

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window pin)

variable {F : FTy → Type} [FloatOps F]

local notation "𝕄" => MM F

/-- Contents for a family of distinct buffers, over contents for all. -/
theorem exists_over {n : ℕ} {r : Fin n → DevRef τ sig} (hr : Function.Injective r) (W : Valuation τ sig (Elt F))
    (A : (w : Fin n) → (r w).ty.Contents (Elt F)) :
    ∃ W' : Valuation τ sig (Elt F), (∀ w, W' (r w) = A w) ∧ ∀ b, (∀ w, r w ≠ b) → W' b = W b := by
  classical
  refine ⟨fun b => if h : ∃ w, r w = b then h.choose_spec ▸ A h.choose else W b, fun w => ?_, fun b hb => ?_⟩
  · have h : ∃ w', r w' = r w := ⟨w, rfl⟩
    have key : ∀ (w' : Fin n) (e : r w' = r w), (e ▸ A w' : (r w).ty.Contents (Elt F)) = A w := by
      intro w' e
      obtain rfl := hr e
      rfl
    simp only [dif_pos h]
    exact key _ h.choose_spec
  · exact dif_neg fun ⟨w, hw⟩ => hb w hw

section

variable (a : (p : Fin 2) → (pcfgs (F := F) p).Adm) (W : Valuation τ sig (Elt F))

/-- Both calls' proof data, from one set of contents of the buffers. -/
def pdats : (p : Fin 2) → (c : Dev nD) → Dat τ (Elt F) (HIx 2) ℕ UU ℕ (pin pcfgs a p) c
  | ⟨0, _⟩, c => RA.dat c (a 0) fun b => W (Proc.devRef .tc b)
  | ⟨1, _⟩, c => RB.dat c (a 1) fun b => W (Proc.devRef .tc b)
  | ⟨_ + 2, h⟩, _ => absurd h (by omega)

/-- The windows whose contents a call leaves unsaid. -/
def fg : (p : Fin 2) → Fin (pin pcfgs a p).W → Bool
  | ⟨0, _⟩ => RA.fgt
  | ⟨1, _⟩ => RB.fgt
  | ⟨_ + 2, h⟩ => absurd h (by omega)

/-- The two as relational data. -/
abbrev rdats (p : Fin 2) (c : Dev nD) : RDat τ (Elt F) (HIx 2) ℕ UU ℕ (pin pcfgs a p) c := (pdats a W p c).toRForget (fg a p)

/-- What the core owes between calls: nothing, its past waits at levels up to the last call's. -/
abbrev idle (c : Dev nD) : sProp 𝕄 := iprop(∃ Wd : Waits sig (HIx 2), ⌜(K (F := F)).WBelow (c : Thread nD τ) Wd 16⌝ ∗ owes (c : Thread nD τ) 0 Wd)

/-- What a call leaves of the buffers: all but its windows' arrays as they were, those as its proof data says. -/
def Left (p : Fin 2) (c : Dev nD) (W' : Valuation τ sig (Elt F)) : Prop :=
  (∀ b, (∀ w, Proc.devRef .tc (Pipeline.arrRef (pin pcfgs a p).spec w) ≠ b) → W' b = W b)
    ∧ ∀ w, fg a p w = false → W' (Proc.devRef .tc (Pipeline.arrRef (pin pcfgs a p).spec w)) = (pdats a W p c).arrAt w (pin pcfgs a p).N

/-- The state a call leaves. -/
def leftAt (p : Fin 2) (c : Dev nD) : sProp 𝕄 :=
  iprop(∃ W' : Valuation τ sig (Elt F), ⌜Left a W p c W'⌝ ∗ StableHlo.held (c : Thread nD τ) (Pipeline.ucRefs τ sig) W' ∗ idle (F := F) c)

variable (p : Fin 2) (kit : Pipeline.PLaunchFacts (nD := nD) (τ := τ) (pcfgs (F := F)) p)
  (hbody : ∀ c, Pipeline.BodyObligationLoose (pdats a W p c) (defs₀ (F := F)) 𝒱₀ none Set.univ (fg a p))
  (howed : ∀ c t, (pdats a W p c).owed t = 0)
  (hrec : ∀ c t, (pdats a W p c).recorded t = {q | (K (F := F)).lev ((c : Thread nD τ), q.1) q.2 ≤ 16})
  (hshare : ∀ c w, (pdats a W p c).share w = fullShare)
  (hA : ∀ c w, (pdats a W p c).A w = W (Proc.devRef .tc (Pipeline.arrRef (pin pcfgs a p).spec w)))
  (hT : ∀ k, (a p).1 k = W (Proc.devRef .tc ((pcfgs p).pre.ref k)))
  (hΦ : ∀ c t, (pdats a W p c).Φ t = iprop(Pipeline.scopedRest (pin pcfgs a p).spec c ∗ Pipeline.prefHeld (pcfgs p).pre c (fun _ => fullShare) (a p).1))

set_option backward.isDefEq.respectTransparency.types false in
/-- A call's record. -/
def region : RDat.RegionSeg pcfgs a (rdats a W) none (defs₀ (F := F)) 𝒱₀ (K (F := F)).L (K (F := F)).lev p where
  win := kit.to₀.win
  block_pos := kit.block_pos
  stage_whole := kit.stage_whole
  K := PEmpty
  osem k := k.elim
  ho := Pipeline.OwnSemFacts.none _
  hbody c := (hbody c).toRForget
  hwaits c := RDat.hwaits_of_owed_zero pcfgs a (rdats a W) none (K (F := F)).L (K (F := F)).lev p howed c
  pre c := iprop(StableHlo.held (c : Thread nD τ) (Pipeline.ucRefs τ sig) W ∗ idle (F := F) c)
  post c := leftAt a W p c
  X _ := iprop(emp)
  Y c := Pipeline.prefHeld (pcfgs p).pre c (fun _ => fullShare) (a p).1
  Z c := StableHlo.held (c : Thread nD τ) ((Pipeline.ucRefs τ sig \ Pipeline.arrRefs (pcfgs (F := F) p).spec) \ Pipeline.tblRefs (pcfgs (F := F) p).pre) W
  hentry c := by
    have e1 : (pdats a W p c).arrays (pdats a W p c).A = (StableHlo.held (c : Thread nD τ) (Pipeline.arrRefs (pcfgs p).spec) W : sProp 𝕄) :=
      Pipeline.arrays_held pcfgs a (pdats a W) p kit c (hshare c) _ W (hA c)
    have e2 : (Pipeline.prefHeld (pcfgs p).pre c (fun _ => fullShare) (a p).1 : sProp 𝕄) = _ :=
      Pipeline.prefHeld_held (pcfgs p).pre kit.pre.inj c (a p).1 W hT
    rw [Pipeline.ownSems0_none]
    show _ ⊢ |={Set.univ}=> iprop((pdats a W p c).arrays (pdats a W p c).A ∗ _ ∗ (pdats a W p c).owesAt none 0 ∗ _ ∗ _)
    rw [e1, e2, StableHlo.held_sub_split _ (Pipeline.arrRefs_sub_ucRefs (pcfgs p).spec kit.win.arr_unscoped) W,
      StableHlo.held_sub_split _ (Pipeline.tblRefs_sub_ucRefs_sdiff (pcfgs p).spec (pcfgs p).pre kit.pre.unscoped kit.pre.disj) W]
    iintro ⟨⟨⟨Ha, Ht, Hr⟩, ⟨%Wd, %hW, Ho⟩⟩, -, -⟩
    imodintro
    isplitl [Ha]; · iexact Ha
    isplitl [Ht]; · iexact Ht
    isplitl [Ho]
    · unfold Pipeline.Dat.owesAt Pipeline.owesWithin Pipeline.Dat.bound
      rw [howed c 0, hrec c]
      iexists Wd
      isplitr; swap
      · iexact Ho
      · ipureintro
        exact fun q hq => Or.inl (hW q hq)
    isplitr; · iempintro
    iexact Hr
  hin c := by
    show iprop(emp ∗ _ ∗ _) ⊢ (pdats a W p c).Φ 0
    rw [hΦ]
    iintro ⟨-, H1, H2⟩
    isplitl [H2]; · iexact H2
    iexact H1
  hout c := by
    rw [Pipeline.ownSems0_none]
    show (pdats a W p c).Φ _ ⊢ _
    rw [hΦ]
    iintro ⟨H1, H2⟩
    isplitl [H2]; · iexact H2
    isplitr; · iempintro
    iexact H1
  hexit c := by
    show iprop(((pdats a W p c).toRForget (fg a p)).arraysAt (pin pcfgs a p).N ∗ (pdats a W p c).owesAt none (Fin.last _) ∗ _ ∗ _) ⊢ _
    unfold leftAt
    unfold Pipeline.Dat.owesAt Pipeline.owesWithin Pipeline.Dat.bound
    rw [howed c (Fin.last _), hrec c]
    iintro ⟨Ha, ⟨%Wd, %hW, Ho⟩, Ht, Hr⟩
    ihave Ha := ((pdats a W p c).arraysAt_forget (fg a p) (pin pcfgs a p).N) $$ Ha
    icases Ha with ⟨%A, %hAt, Ha⟩
    obtain ⟨W', h1, h2⟩ := exists_over (r := fun w => Proc.devRef .tc (Pipeline.arrRef (pin pcfgs a p).spec w))
      (fun w w' h => kit.win.arr_inj (Proc.devRef_injective _ h)) W A
    have e1 : (pdats a W p c).arrays A = (StableHlo.held (c : Thread nD τ) (Pipeline.arrRefs (pcfgs p).spec) W' : sProp 𝕄) :=
      Pipeline.arrays_held pcfgs a (pdats a W) p kit c (hshare c) A W' fun w => (h1 w).symm
    have hT' : ∀ k, (a p).1 k = W' (Proc.devRef .tc ((pcfgs p).pre.ref k)) := fun k =>
      (hT k).trans (h2 _ fun w h => kit.pre.disj k w (Proc.devRef_injective _ h).symm).symm
    have e2 : (Pipeline.prefHeld (pcfgs p).pre c (fun _ => fullShare) (a p).1 : sProp 𝕄) = _ :=
      Pipeline.prefHeld_held (pcfgs p).pre kit.pre.inj c (a p).1 W' hT'
    have e3 : (StableHlo.held (c : Thread nD τ) ((Pipeline.ucRefs τ sig \ Pipeline.arrRefs (pcfgs (F := F) p).spec) \ Pipeline.tblRefs (pcfgs (F := F) p).pre) W : sProp 𝕄)
        = StableHlo.held (c : Thread nD τ) ((Pipeline.ucRefs τ sig \ Pipeline.arrRefs (pcfgs (F := F) p).spec) \ Pipeline.tblRefs (pcfgs (F := F) p).pre) W' :=
      StableHlo.held_congr _ fun b hb => (h2 b fun w h => by
        have hb' := (Finset.mem_sdiff.mp (Finset.mem_sdiff.mp hb).1).2
        subst h
        exact hb' (Finset.mem_map_of_mem _ (Finset.mem_image_of_mem (Pipeline.arrRef (pcfgs (F := F) p).spec) (Finset.mem_univ w)))).symm
    have e4 : (StableHlo.held (c : Thread nD τ) (Pipeline.ucRefs τ sig) W' : sProp 𝕄) = _ :=
      (StableHlo.held_sub_split _ (Pipeline.arrRefs_sub_ucRefs (pcfgs (F := F) p).spec kit.win.arr_unscoped) W').trans
        (congrArg (fun R : sProp 𝕄 => iprop(StableHlo.held (c : Thread nD τ) (Pipeline.arrRefs (pcfgs (F := F) p).spec) W' ∗ R))
          (StableHlo.held_sub_split _ (Pipeline.tblRefs_sub_ucRefs_sdiff (pcfgs (F := F) p).spec (pcfgs (F := F) p).pre kit.pre.unscoped kit.pre.disj) W'))
    ihave Ha := (Entails.of_eq e1) $$ Ha
    ihave Ht := (Entails.of_eq e2) $$ Ht
    ihave Hr := (Entails.of_eq e3) $$ Hr
    imodintro
    iexists W'
    isplitr
    · ipureintro
      exact ⟨h2, fun w hw => (h1 w).trans (hAt w hw)⟩
    isplitr [Ho]
    · iapply (Entails.of_eq e4.symm)
      isplitl [Ha]; · iexact Ha
      isplitl [Ht]; · iexact Ht
      iexact Hr
    iexists Wd
    isplitr; swap
    · iexact Ho
    · ipureintro
      intro q hq
      rcases hW hq with h | ⟨w, s, h⟩
      · exact h
      · have : q.2 = none := congrArg Prod.snd h
        rw [this, SparseCore.Cfg.lev_none]
        exact Nat.zero_le _

include kit hbody howed hrec hshare hA hT hΦ in
/-- A call run from the core's buffers at any contents. -/
theorem region_wp (c : Dev nD) {α : Type} (k : PUnit → Prog (TpuEff nD τ sig (Elt F) (ΛP (F := F)) .tc) α) (Q : α → sProp 𝕄) :
    iprop((iprop(boundary (c : Thread nD τ) ∗ leftAt a W p c) -∗ wp frame (wpE (D (F := F)) 𝒱 (c : Thread nD τ) none) Set.univ (k ⟨⟩) Q)
        ∗ boundary (c : Thread nD τ) ∗ (StableHlo.held (c : Thread nD τ) (Pipeline.ucRefs τ sig) W ∗ idle (F := F) c) ∗ levAts (K (F := F)).L (K (F := F)).lev
        ∗ Pipeline.cellsGhost (pin pcfgs a) EP p c ∗ Pipeline.toksInit (pin pcfgs a) EP p c)
      ⊢ wp frame (wpE (D (F := F)) 𝒱 (c : Thread nD τ) none) Set.univ (.op (.customCall (Pipeline.entry p) ()) k) Q :=
  RDat.RegionSeg.wp pcfgs a (rdats a W) none (cellOf_inj a) EP (defs₀ (F := F)) 𝒱₀ (K (F := F)).L (K (F := F)).lev
    (region a W p kit hbody howed hrec hshare hA hT hΦ) c none (fun _ h => absurd h (by simp)) k Q

end

section

variable (a : (p : Fin 2) → (pcfgs (F := F) p).Adm) (W : Valuation τ sig (Elt F)) (c : Dev nD)

/-- The first call. -/
theorem first_wp {α : Type} (k : PUnit → Prog (TpuEff nD τ sig (Elt F) (ΛP (F := F)) .tc) α) (Q : α → sProp 𝕄)
    (hg : ∀ q, k2_chk1 ((a 0).1 0 q)) (hT : (a 0).1 0 = W (Proc.devRef .tc main_c)) :
    iprop((iprop(boundary (c : Thread nD τ) ∗ leftAt a W 0 c) -∗ wp frame (wpE (D (F := F)) 𝒱 (c : Thread nD τ) none) Set.univ (k ⟨⟩) Q)
        ∗ boundary (c : Thread nD τ) ∗ (StableHlo.held (c : Thread nD τ) (Pipeline.ucRefs τ sig) W ∗ idle (F := F) c) ∗ levAts (K (F := F)).L (K (F := F)).lev
        ∗ Pipeline.cellsGhost (pin pcfgs a) EP 0 c ∗ Pipeline.toksInit (pin pcfgs a) EP 0 c)
      ⊢ wp frame (wpE (D (F := F)) 𝒱 (c : Thread nD τ) none) Set.univ (.op (.customCall (Pipeline.entry 0) ()) k) Q :=
  region_wp a W 0 launch2 (fun _ => RA.body_obligation hg) (fun _ _ => rfl) (fun _ _ => rfl) (fun c => (pdats a W 0 c).share_full (fun _ => rfl)) (fun _ _ => rfl)
    (fun | ⟨0, _⟩ => hT) (fun _ _ => rfl) c k Q

theorem second_body (hg : ∀ q, k3_chk1 ((a 1).1 0 q)) :
    ∀ c, Pipeline.BodyObligationLoose (pdats a W 1 c) (defs₀ (F := F)) 𝒱₀ none Set.univ (fg a 1) :=
  fun _ => RB.body_obligation (a := a 1) (V := fun b => W (Proc.devRef .tc b)) hg
theorem second_owed : ∀ c t, (pdats a W 1 c).owed t = 0 := fun _ _ => rfl
theorem second_recorded : ∀ c t, (pdats a W 1 c).recorded t = {q | (K (F := F)).lev ((c : Thread nD τ), q.1) q.2 ≤ 16} := fun _ _ => rfl
theorem second_share : ∀ c w, (pdats a W 1 c).share w = fullShare := fun c => (pdats a W 1 c).share_full (fun _ => rfl)
theorem second_entry : ∀ c w, (pdats a W 1 c).A w = W (Proc.devRef .tc (Pipeline.arrRef (pin pcfgs a 1).spec w)) := fun _ _ => rfl
theorem second_table (hT : (a 1).1 0 = W (Proc.devRef .tc main_c_2)) :
    ∀ k, (a 1).1 k = W (Proc.devRef .tc ((pcfgs (F := F) 1).pre.ref k)) := fun | ⟨0, _⟩ => hT
theorem second_inv : ∀ c t, (pdats a W 1 c).Φ t
    = iprop(Pipeline.scopedRest (pin pcfgs a 1).spec c ∗ Pipeline.prefHeld (pcfgs (F := F) 1).pre c (fun _ => fullShare) (a 1).1) := fun _ _ => rfl

/-- The second call. -/
theorem second_wp {α : Type} (k : PUnit → Prog (TpuEff nD τ sig (Elt F) (ΛP (F := F)) .tc) α) (Q : α → sProp 𝕄)
    (hg : ∀ q, k3_chk1 ((a 1).1 0 q)) (hT : (a 1).1 0 = W (Proc.devRef .tc main_c_2)) :
    iprop((iprop(boundary (c : Thread nD τ) ∗ leftAt a W 1 c) -∗ wp frame (wpE (D (F := F)) 𝒱 (c : Thread nD τ) none) Set.univ (k ⟨⟩) Q)
        ∗ boundary (c : Thread nD τ) ∗ (StableHlo.held (c : Thread nD τ) (Pipeline.ucRefs τ sig) W ∗ idle (F := F) c) ∗ levAts (K (F := F)).L (K (F := F)).lev
        ∗ Pipeline.cellsGhost (pin pcfgs a) EP 1 c ∗ Pipeline.toksInit (pin pcfgs a) EP 1 c)
      ⊢ wp frame (wpE (D (F := F)) 𝒱 (c : Thread nD τ) none) Set.univ (.op (.customCall (Pipeline.entry 1) ()) k) Q :=
  region_wp a W 1 launch3 (second_body a W hg) (second_owed a W) (second_recorded a W) (second_share a W) (second_entry a W)
    (second_table a W hT) (second_inv a W) c k Q

end

end Cert.Proof.Run

end
-- ==== Proof.Main.lean ====
/-
  @main on the TensorCore: its constants and its slices, casts and reshapes of the weights; the two SparseCore calls;
  the zero accumulator; the two TensorCore calls. What memory holds at the end, as the two calls leave it.
-/
module

public import proofs.«01_k».proof.Proof.Tiles
public import proofs.«01_k».proof.Proof.Regions

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin)

variable {F : FTy → Type} [FloatOps F]

local notation "𝕄" => MM F

/-! ## The tables the two TensorCore calls prefetch -/

/-- The first groups of the first call's tiles, and of the second's. -/
def tab0 : S36.Idx → Elt F .i32 := fun i => lit0 (S36.rowMajor i)
def tab1 : S37.Idx → Elt F .i32 := fun i => lit3 (S37.rowMajor i)

/-- The tables' contents, as the two calls read them. -/
def tabs : (p : Fin 2) → (pcfgs (F := F) p).Adm
  | 0 => ⟨fun | ⟨0, _⟩ => tab0, trivial⟩
  | 1 => ⟨fun | ⟨0, _⟩ => tab1, trivial⟩

theorem words0 : ∀ i : Fin 36, k2_chk1 (lit0 i) := by decide +kernel
theorem words1 : ∀ i : Fin 37, k3_chk1 (lit3 i) := by decide +kernel

theorem good0 : ∀ q, k2_chk1 ((tabs (F := F) 0).1 0 q) := fun q => words0 (S36.rowMajor q)
theorem good1 : ∀ q, k3_chk1 ((tabs (F := F) 1).1 0 q) := fun q => words1 (S37.rowMajor q)

/-! ## The host operations -/

/-- Before the SparseCore calls. -/
abbrev opsA : List (HloOp τ sig (Elt F)) :=
  [ StableHlo.nullary main_c (fun i => lit0 (S36.rowMajor i)),
    StableHlo.nullary main_c_0 (fun i => lit1 (S73x1x128.rowMajor i)),
    StableHlo.nullary main_c_1 (fun i => lit2 (S73x1x128.rowMajor i)),
    StableHlo.nullary main_c_2 (fun i => lit3 (S37.rowMajor i)),
    StableHlo.unary main_arg4 main_v0 ((extractStridedSlice S128x256 ![0, 0] · slices_S256x256_S128x256_0_0) : (⟨S256x256, .f32⟩ : BufTy).Contents (Elt F) → (⟨S128x256, .f32⟩ : BufTy).Contents (Elt F)),
    StableHlo.unary main_v0 main_v1 ((truncf .bf16 · bitsLt_bf16_f32) : (⟨S128x256, .f32⟩ : BufTy).Contents (Elt F) → (⟨S128x256, .bf16⟩ : BufTy).Contents (Elt F)),
    StableHlo.unary main_arg4 main_v2 ((extractStridedSlice S128x256 ![128, 0] · slices_S256x256_S128x256_128_0) : (⟨S256x256, .f32⟩ : BufTy).Contents (Elt F) → (⟨S128x256, .f32⟩ : BufTy).Contents (Elt F)),
    StableHlo.unary main_v2 main_v3 ((truncf .bf16 · bitsLt_bf16_f32) : (⟨S128x256, .f32⟩ : BufTy).Contents (Elt F) → (⟨S128x256, .bf16⟩ : BufTy).Contents (Elt F)),
    StableHlo.reshape main_arg5 main_v4 (rfl : (.f32 : EltTy) = .f32) shapeCasts_S256_S1x256,
    StableHlo.unary main_arg6 main_v5 ((truncf .bf16 · bitsLt_bf16_f32) : (⟨S256x256, .f32⟩ : BufTy).Contents (Elt F) → (⟨S256x256, .bf16⟩ : BufTy).Contents (Elt F)),
    StableHlo.reshape main_arg7 main_v6 (rfl : (.f32 : EltTy) = .f32) shapeCasts_S256_S1x256,
    StableHlo.reshape main_arg9 main_v7 (rfl : (.f32 : EltTy) = .f32) shapeCasts_S128_S1x128,
    StableHlo.reshape main_arg11 main_v8 (rfl : (.f32 : EltTy) = .f32) shapeCasts_S256_S1x256,
    StableHlo.reshape main_arg13 main_v9 (rfl : (.f32 : EltTy) = .f32) shapeCasts_S128_S1x128 ]
/-- Between them and the TensorCore calls. -/
abbrev opsB : List (HloOp τ sig (Elt F)) :=
  [ StableHlo.nullary main_cst (constant S_ .f32 0x00000000#32),
    StableHlo.unary main_cst main_v12 (broadcastInDim S640x256 ![] bcast_S_S640x256 : (⟨S_, .f32⟩ : BufTy).Contents (Elt F) → (⟨S640x256, .f32⟩ : BufTy).Contents (Elt F)) ]

/-- The two TensorCore calls, as a program below the SparseCore launches. -/
def calls : Prog (TpuEff nD τ sig (Elt F) (ΛP (F := F)) .tc) PUnit :=
  .op (.customCall (Pipeline.entry 0) ()) fun _ => .op (.customCall (Pipeline.entry 1) ()) fun _ => .ret ⟨⟩

theorem main_eq (d : Dev nD) : main (F := F) d
    = StableHlo.seq opsA >>= fun _ => (K (F := F)).run d 0 >>= fun _ => (K (F := F)).run d 1 >>= fun _ =>
        StableHlo.seq opsB >>= fun _ => SparseCore.liftProg calls := by
  simp only [main, opsA, opsB, StableHlo.seq, bind_assoc, pure_bind]
  rfl

/-! ## Memory along the way -/

variable (m : (ℓ : Loc nD τ sig) → Buf (Elt F) ℓ)

/-- Device `d`'s buffers at the launch, -/
abbrev W0 (d : Dev nD) : Valuation τ sig (Elt F) := fun b => m (d, b)
/-- after the first operations, -/
abbrev W1 (d : Dev nD) : Valuation τ sig (Elt F) := StableHlo.after opsA (W0 m d)
/-- after the two gathers, -/
def W2 (d : Dev nD) : Valuation τ sig (Elt F) :=
  Function.update (Function.update (W1 m d) (Proc.devRef .tc main_v10) (gatherA (m (reprLoc d)) (m (gdLoc d))))
    (Proc.devRef .tc main_v11) (gatherB (m (reprLoc d)) (m (gdLoc d)))
/-- and when the first TensorCore call is entered. -/
abbrev W3 (d : Dev nD) : Valuation τ sig (Elt F) := StableHlo.after opsB (W2 m d)

/-- The references the first operations write, in order. -/
abbrev refsA : List (Ref sig .tc) :=
  [main_c, main_c_0, main_c_1, main_c_2, main_v0, main_v1, main_v2, main_v3, main_v4, main_v5, main_v6, main_v7, main_v8, main_v9]
theorem writesA : (opsA (F := F)).Forall fun op => op.writes ⊆ (refsA.map (Proc.devRef (τ := τ) .tc)).toFinset :=
  StableHlo.forall_writes_sub_of_map rfl
abbrev refsB : List (Ref sig .tc) := [main_cst, main_v12]
theorem writesB : (opsB (F := F)).Forall fun op => op.writes ⊆ (refsB.map (Proc.devRef (τ := τ) .tc)).toFinset :=
  StableHlo.forall_writes_sub_of_map rfl

/-- What the first operations do not write is the launch memory's. -/
theorem keepA (V : Valuation τ sig (Elt F)) {r : Ref sig .tc} (h : r ∉ refsA) : StableHlo.after opsA V (Proc.devRef .tc r) = V (Proc.devRef .tc r) :=
  StableHlo.after_of_writes_sub opsA V writesA h
theorem keepB (V : Valuation τ sig (Elt F)) {r : Ref sig .tc} (h : r ∉ refsB) : StableHlo.after opsB V (Proc.devRef .tc r) = V (Proc.devRef .tc r) :=
  StableHlo.after_of_writes_sub opsB V writesB h

/-- The buffers the SparseCores use. -/
abbrev scRefs : Finset (DevRef τ sig) := ({main_arg0, main_arg1, main_v10, main_v11} : Finset (Ref sig .tc)).map ⟨Proc.devRef (τ := τ) .tc, Proc.devRef_injective _⟩

theorem held_sc (d : Dev nD) (V : Valuation τ sig (Elt F)) :
    (StableHlo.held (d : Thread nD τ) scRefs V : sProp 𝕄)
      = iprop((reprLoc d ↦{fullShare} V (Proc.devRef .tc main_arg0)) ∗ (gdLoc d ↦{fullShare} V (Proc.devRef .tc main_arg1))
          ∗ (aLoc d ↦{fullShare} V (Proc.devRef .tc main_v10)) ∗ bLoc d ↦{fullShare} V (Proc.devRef .tc main_v11)) := by
  unfold StableHlo.held scRefs
  rw [bigSep_map, SparseCore.bigSep_insert' (by decide), SparseCore.bigSep_insert' (by decide), SparseCore.bigSep_insert' (by decide), bigSep_singleton]
  rfl

theorem scRefs_sub : (scRefs : Finset (DevRef τ sig)) ⊆ Pipeline.ucRefs τ sig := by decide

end Cert.Proof.Run

end
-- ==== Proof.Launch.lean ====
/-
  The launch: @main's triple on the TensorCore, the ghost state dealt at the launch, what memory holds at the end, and
  the frame of the program read at the same text.
-/
module

public import proofs.«01_k».proof.Proof.Main

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin)

variable {F : FTy → Type} [FloatOps F]

local notation "𝕄" => MM F

variable (m : (ℓ : Loc nD τ sig) → Buf (Elt F) ℓ) (ρ : Dev nD → PrngReg)

/-- What each core's TensorCore is dealt for its two pipelines. -/
abbrev dealt (d : Dev nD) : sProp 𝕄 :=
  iprop((bigSep Finset.univ fun p : Fin 2 => Pipeline.cellsGhost (pin pcfgs (tabs (F := F))) EP p d)
    ∗ bigSep Finset.univ fun p : Fin 2 => Pipeline.toksInit (pin pcfgs (tabs (F := F))) EP p d)

/-- How memory stands at the end: what the second call leaves of what the first leaves. -/
def Ends (d : Dev nD) (V : Valuation τ sig (Elt F)) : Prop :=
  ∃ V₁, Left tabs (W3 m d) 0 d V₁ ∧ Left tabs V₁ 1 d V

abbrev FIN (d : Dev nD) : sProp 𝕄 := iprop(∃ V, ⌜Ends m d V⌝ ∗ StableHlo.held (d : Thread nD τ) (Pipeline.ucRefs τ sig) V)

theorem W1_keep (d : Dev nD) {r : Ref sig .tc} (h : r ∉ refsA) : W1 m d (Proc.devRef .tc r) = m (d, Proc.devRef .tc r) := keepA (W0 m d) h

theorem W1_sc (d : Dev nD) :
    (StableHlo.held (d : Thread nD τ) scRefs (W1 m d) : sProp 𝕄)
      = iprop((reprLoc d ↦{fullShare} m (reprLoc d)) ∗ (gdLoc d ↦{fullShare} m (gdLoc d)) ∗ (aLoc d ↦{fullShare} m (aLoc d)) ∗ bLoc d ↦{fullShare} m (bLoc d)) := by
  rw [held_sc, W1_keep m d (by decide), W1_keep m d (by decide), W1_keep m d (by decide), W1_keep m d (by decide)]

theorem ne_v11 (r : Ref sig .tc) (h : r ≠ main_v11) : (Proc.devRef .tc r : DevRef τ sig) ≠ Proc.devRef .tc main_v11 := fun e => h (Proc.devRef_injective _ e)
theorem ne_v10 (r : Ref sig .tc) (h : r ≠ main_v10) : (Proc.devRef .tc r : DevRef τ sig) ≠ Proc.devRef .tc main_v10 := fun e => h (Proc.devRef_injective _ e)

theorem W2_v11 (d : Dev nD) : W2 m d (Proc.devRef .tc main_v11) = gatherB (m (reprLoc d)) (m (gdLoc d)) := Function.update_self ..
theorem W2_v10 (d : Dev nD) : W2 m d (Proc.devRef .tc main_v10) = gatherA (m (reprLoc d)) (m (gdLoc d)) :=
  (Function.update_of_ne (ne_v11 _ (by decide)) _ _).trans (Function.update_self ..)
theorem W2_keep (d : Dev nD) {b : DevRef τ sig} (h : b ≠ Proc.devRef .tc main_v10) (h' : b ≠ Proc.devRef .tc main_v11) : W2 m d b = W1 m d b :=
  (Function.update_of_ne h' _ _).trans (Function.update_of_ne h _ _)

theorem W2_sc (d : Dev nD) :
    (StableHlo.held (d : Thread nD τ) scRefs (W2 m d) : sProp 𝕄)
      = iprop((reprLoc d ↦{fullShare} m (reprLoc d)) ∗ (gdLoc d ↦{fullShare} m (gdLoc d))
          ∗ (aLoc d ↦{fullShare} gatherA (m (reprLoc d)) (m (gdLoc d))) ∗ bLoc d ↦{fullShare} gatherB (m (reprLoc d)) (m (gdLoc d))) := by
  rw [held_sc, W2_v11, W2_v10, W2_keep m d (ne_v10 _ (by decide)) (ne_v11 _ (by decide)), W2_keep m d (ne_v10 _ (by decide)) (ne_v11 _ (by decide)),
    W1_keep m d (by decide), W1_keep m d (by decide)]

theorem W1_rest (d : Dev nD) :
    (StableHlo.held (d : Thread nD τ) (Pipeline.ucRefs τ sig \ scRefs) (W1 m d) : sProp 𝕄)
      = StableHlo.held (d : Thread nD τ) (Pipeline.ucRefs τ sig \ scRefs) (W2 m d) :=
  StableHlo.held_congr _ fun b hb => (W2_keep m d
    (fun e => (Finset.mem_sdiff.mp hb).2 (by rw [e]; decide)) (fun e => (Finset.mem_sdiff.mp hb).2 (by rw [e]; decide))).symm

theorem begun (d : Dev nD) : (unscopedBufs d (fun b => m ((SparseCore.T d).loc b)) : sProp 𝕄) = StableHlo.held (d : Thread nD τ) (Pipeline.ucRefs τ sig) (W0 m d) :=
  Pipeline.unscopedBufs_held d (W0 m d)

theorem opsA_in : ∀ op ∈ opsA (F := F), op.bufs ⊆ Pipeline.ucRefs τ sig := fun op h => Pipeline.sub_ucRefs op <| by
  revert op
  simp only [List.forall_mem_cons, List.not_mem_nil, false_implies, implies_true, and_true]
  simp
theorem opsB_in : ∀ op ∈ opsB (F := F), op.bufs ⊆ Pipeline.ucRefs τ sig := fun op h => Pipeline.sub_ucRefs op <| by
  revert op
  simp only [List.forall_mem_cons, List.not_mem_nil, false_implies, implies_true, and_true]
  simp
theorem opsA_fresh : ∀ op ∈ opsA (F := F), op.fresh = ∅ := by
  simp only [List.forall_mem_cons, List.not_mem_nil, false_implies, implies_true, and_true]
  exact ⟨rfl, rfl, rfl, rfl, rfl, rfl, rfl, rfl, rfl, rfl, rfl, rfl, rfl, rfl⟩
theorem opsB_fresh : ∀ op ∈ opsB (F := F), op.fresh = ∅ := by
  simp only [List.forall_mem_cons, List.not_mem_nil, false_implies, implies_true, and_true]
  exact ⟨rfl, rfl⟩

theorem W3_keep (d : Dev nD) {r : Ref sig .tc} (h : r ∉ refsB) (h10 : r ≠ main_v10) (h11 : r ≠ main_v11) :
    W3 m d (Proc.devRef .tc r) = W1 m d (Proc.devRef .tc r) :=
  (keepB _ h).trans (W2_keep m d (ne_v10 _ h10) (ne_v11 _ h11))

/-- What the calls' tables hold when they are entered. -/
theorem W3_c (d : Dev nD) : W3 m d (Proc.devRef .tc main_c) = tab0 := by
  rw [W3_keep m d (by decide) (by decide) (by decide)]
  rfl
theorem W3_c_2 (d : Dev nD) : W3 m d (Proc.devRef .tc main_c_2) = tab1 := by
  rw [W3_keep m d (by decide) (by decide) (by decide)]
  rfl

/-- A pair of resources, as a star over `Fin 2`. -/
theorem two (Φ : Fin 2 → sProp 𝕄) : bigSep Finset.univ Φ = iprop(Φ 0 ∗ Φ 1) := by
  rw [bigSep_univ_eq_bigSepL [(0 : Fin 2), 1] (by decide) (by decide)]
  rfl

/-- The table of the second call is none of the first call's arrays. -/
theorem left_c_2 (d : Dev nD) {V : Valuation τ sig (Elt F)} (h : Left tabs (W3 m d) 0 d V) :
    V (Proc.devRef .tc main_c_2) = W3 m d (Proc.devRef .tc main_c_2) := by
  refine h.1 _ fun w e => ?_
  replace e := Proc.devRef_injective _ e
  revert w
  show ∀ w : Fin 18, Pipeline.arrRef spec2 w = main_c_2 → False
  decide

/-- The two TensorCore calls, below the SparseCore launches. -/
theorem calls_wp (d : Dev nD) :
    iprop(boundary (d : Thread nD τ) ∗ (StableHlo.held (d : Thread nD τ) (Pipeline.ucRefs τ sig) (W3 m d) ∗ idle (F := F) d)
        ∗ levAts (K (F := F)).L (K (F := F)).lev ∗ dealt d)
      ⊢ wp frame (wpE (D (F := F)) 𝒱 (d : Thread nD τ) none) Set.univ (calls (F := F))
          fun _ => iprop(boundary (d : Thread nD τ) ∗ FIN m d ∗ idle (F := F) d) := by
  unfold calls
  iintro ⟨Hb, Hh, #Hlev, Hg, Ht⟩
  ihave Hg := (Entails.of_eq (two _)) $$ Hg
  ihave Ht := (Entails.of_eq (two _)) $$ Ht
  icases Hg with ⟨Hg0, Hg1⟩
  icases Ht with ⟨Ht0, Ht1⟩
  iapply (first_wp tabs (W3 m d) d _ _ good0 (W3_c m d).symm)
  isplitr [Hb Hh Hg0 Ht0]
  · iintro ⟨Hb, H⟩
    unfold leftAt
    icases H with ⟨%V₁, %h₁, Hh, Hi⟩
    iapply (second_wp tabs V₁ d _ _ good1 ((left_c_2 m d h₁).trans (W3_c_2 m d)).symm)
    isplitr [Hb Hh Hi Hg1 Ht1]
    · iintro ⟨Hb, H⟩
      unfold leftAt
      icases H with ⟨%V, %h₂, Hh, Hi⟩
      rw [wp_ret]
      imodintro
      isplitl [Hb]; · iexact Hb
      isplitl [Hh]
      · iexists V
        isplitr
        · ipureintro; exact ⟨V₁, h₁, h₂⟩
        · iexact Hh
      · iexact Hi
    · isplitl [Hb]; · iexact Hb
      isplitl [Hh Hi]
      · isplitl [Hh]; · iexact Hh
        iexact Hi
      isplitr; · iexact Hlev
      isplitl [Hg1]; · iexact Hg1
      iexact Ht1
  · isplitl [Hb]; · iexact Hb
    isplitl [Hh]; · iexact Hh
    isplitr; · iexact Hlev
    isplitl [Hg0]; · iexact Hg0
    iexact Ht0

theorem st0_eq (d : Dev nD) : (bigSep Finset.univ fun c : Fin ((K (F := F)).nCore 0) => (P m).st 0 d c)
    = iprop((reprLoc d ↦{fullShare} m (reprLoc d)) ∗ (gdLoc d ↦{fullShare} m (gdLoc d)) ∗ aLoc d ↦{fullShare} m (aLoc d)) := A.tasks_all d _ _ _
theorem dn0_eq (d : Dev nD) : (bigSep Finset.univ fun c : Fin ((K (F := F)).nCore 0) => (P m).dn 0 d c)
    = iprop((reprLoc d ↦{fullShare} m (reprLoc d)) ∗ (gdLoc d ↦{fullShare} m (gdLoc d)) ∗ aLoc d ↦{fullShare} gatherA (m (reprLoc d)) (m (gdLoc d))) := A.tasks_all d _ _ _
theorem st1_eq (d : Dev nD) : (bigSep Finset.univ fun c : Fin ((K (F := F)).nCore 1) => (P m).st 1 d c)
    = iprop((reprLoc d ↦{fullShare} m (reprLoc d)) ∗ (gdLoc d ↦{fullShare} m (gdLoc d)) ∗ bLoc d ↦{fullShare} m (bLoc d)) := B.tasks_all d _ _ _
theorem dn1_eq (d : Dev nD) : (bigSep Finset.univ fun c : Fin ((K (F := F)).nCore 1) => (P m).dn 1 d c)
    = iprop((reprLoc d ↦{fullShare} m (reprLoc d)) ∗ (gdLoc d ↦{fullShare} m (gdLoc d)) ∗ bLoc d ↦{fullShare} gatherB (m (reprLoc d)) (m (gdLoc d))) := B.tasks_all d _ _ _

/-- After the calls the TensorCore owes nothing, and its waits so far are recorded below the end. -/
theorem tcSt_end (d : Dev nD) : ∃ R : sProp 𝕄, ((K (F := F)).tcSt EH d 2 : sProp 𝕄) = iprop(idle (F := F) d ∗ R) := by
  unfold SparseCore.Cfg.tcSt idle
  rw [SparseCore.Cfg.Otc_end (K (F := F)) d (le_refl 2)]
  exact ⟨_, rfl⟩

theorem hmain (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R, hR⟩ := tcSt_end (F := F) d
  unfold SparseCore.Cfg.tcRes SparseCore.Cfg.tcEnd
  rw [begun, main_eq]
  iintro ⟨#Hctx, Hst, ⟨Hb, Hh, Hts, -⟩, Hd⟩
  iapply (StableHlo.wp_seq 𝒱 none Set.univ d (Pipeline.ucRefs τ sig) _ opsA opsA_in opsA_fresh (W0 m d)) $$ [Hb Hh]
  · isplitl [Hb]; · iexact Hb
    iexact Hh
  iintro ⟨Hb, Hh⟩
  ihave Hh := (Entails.of_eq (StableHlo.held_sub_split (d : Thread nD τ) scRefs_sub (W1 m d))) $$ Hh
  icases Hh with ⟨Hs, Hr⟩
  ihave Hs := (Entails.of_eq (W1_sc m d)) $$ Hs
  icases Hs with ⟨Hx, Hg, Ha, Hbb⟩
  rw [wp_bind]
  iapply ((K (F := F)).wp_run (D (F := F)) 𝒱 (EH := EH) (P := P m) κ d 0) $$ [Hst Hx Hg Ha Hbb Hb Hts Hr Hd]
  isplitr; · iexact Hctx
  isplitl [Hst]; · iexact Hst
  isplitl [Hx Hg Ha]
  · rw [st0_eq]
    isplitl [Hx]; · iexact Hx
    isplitl [Hg]; · iexact Hg
    iexact Ha
  iintro ⟨Hst, Hdn⟩
  ihave Hdn := (Entails.of_eq (dn0_eq m d)) $$ Hdn
  icases Hdn with ⟨Hx, Hg, Ha⟩
  rw [wp_bind]
  iapply ((K (F := F)).wp_run (D (F := F)) 𝒱 (EH := EH) (P := P m) κ d 1) $$ [Hst Hx Hg Ha Hbb Hb Hts Hr Hd]
  isplitr; · iexact Hctx
  isplitl [Hst]; · iexact Hst
  isplitl [Hx Hg Hbb]
  · rw [st1_eq]
    isplitl [Hx]; · iexact Hx
    isplitl [Hg]; · iexact Hg
    iexact Hbb
  iintro ⟨Hst, Hdn⟩
  ihave Hdn := (Entails.of_eq (dn1_eq m d)) $$ Hdn
  icases Hdn with ⟨Hx, Hg, Hbb⟩
  ihave Hr := (Entails.of_eq (W1_rest m d)) $$ Hr
  ihave Hh := (Entails.of_eq ((StableHlo.held_sub_split (d : Thread nD τ) scRefs_sub (W2 m d)).trans
    (congrArg (fun X : sProp 𝕄 => iprop(X ∗ StableHlo.held (d : Thread nD τ) (Pipeline.ucRefs τ sig \ scRefs) (W2 m d))) (W2_sc m d))).symm) $$ [Hx Hg Ha Hbb Hr]
  · isplitr [Hr]
    · isplitl [Hx]; · iexact Hx
      isplitl [Hg]; · iexact Hg
      isplitl [Ha]; · iexact Ha
      iexact Hbb
    · iexact Hr
  iapply (StableHlo.wp_seq 𝒱 none Set.univ d (Pipeline.ucRefs τ sig) _ opsB opsB_in opsB_fresh (W2 m d)) $$ [Hb Hh]
  · isplitl [Hb]; · iexact Hb
    iexact Hh
  iintro ⟨Hb, Hh⟩
  ihave Hst := (show ((K (F := F)).tcSt EH d ((1 : Fin 2).val + 1) : sProp 𝕄) ⊢ iprop(idle (F := F) d ∗ R) from Entails.of_eq hR) $$ Hst
  icases Hst with ⟨Hi, HR⟩
  ihave Hlev := (SparseCore.Cfg.ctx_levAts κ) $$ Hctx
  ihave Hw := ((calls_wp m d).trans ((K (F := F)).wp_liftProg (D (F := F)) 𝒱 (d : Thread nD τ) Set.univ none _ _)) $$ [Hb Hh Hi Hlev Hd]
  · isplitl [Hb]; · iexact Hb
    isplitl [Hh Hi]
    · isplitl [Hh]; · iexact Hh
      iexact Hi
    isplitl [Hlev]; · iexact Hlev
    iexact Hd
  iapply (wp_wand_r frame (wpE ((K (F := F)).defs (D (F := F))) 𝒱 (SparseCore.T d) none))
  isplitl [Hw]; · iexact Hw
  iintro %_ ⟨Hb, HF, Hi⟩
  isplitl [Hi HR]
  · iapply (Entails.of_eq hR.symm)
    isplitl [Hi]; · iexact Hi
    iexact HR
  isplitl [HF]; · iexact HF
  isplitl [Hb]; · iexact Hb
  iexact Hts

/-! ## The ghost state at the launch -/

abbrev pcells := Pipeline.cells (nD := nD) (pin pcfgs (tabs (F := F))) (cellOf_inj tabs)
abbrev ptoks := Pipeline.launchToks (nD := nD) (pin pcfgs (tabs (F := F))) (cellOf_inj tabs)

def u₀ : UU := (initOf (K (F := F)).hsCells (K (F := F)).hsToks, (initOf (pcells (F := F)) (ptoks (F := F)), 1))

theorem hu₀ : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 2 => (P m).x q thr) := by
  unfold u₀
  iintro Hu
  ihave H := (ownU_pair (initOf (K (F := F)).hsCells (K (F := F)).hsToks) ((initOf (pcells (F := F)) (ptoks (F := F)), 1) : UP × Counters)) $$ Hu
  icases H with ⟨HH, HR⟩
  ihave HR := (show BI.own ((embR : Emb (UP × Counters) 𝕄) (initOf (pcells (F := F)) (ptoks (F := F)), 1))
      ⊢ iprop(BI.own ((EP (F := F)) (initOf (pcells (F := F)) (ptoks (F := F)))) ∗ BI.own (((Emb.inr : Emb Counters (UP × Counters)).trans ER) 1)) from own_pair_emb ER _ _) $$ HR
  icases HR with ⟨HR, -⟩
  imod (Pipeline.fund_ghost (pin pcfgs (tabs (F := F))) EP (cellOf_inj tabs)) $$ HR with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 2 => (P (F := F) m).x q thr) = bigSep Finset.univ fun _ => iprop(emp) from
    bigSep_congr fun _ _ => bigSep_emp_const _]
  iapply (Entails.of_eq (bigSep_emp_const (M := 𝕄) (Finset.univ : Finset (Thread nD τ))).symm)
  iempintro

/-! ## The run -/

def fq (d : Dev nD) (s' : Phys nD τ sig (Elt F)) : Prop :=
  ∃ V, Ends m d V ∧ ∀ b ∈ Pipeline.ucRefs τ sig, s'.mem.mem (d, b) = V b

theorem hfin (d : Dev nD) (s' : Phys nD τ sig (Elt F)) : iprop(FIN m d ∗ SI s') ⊢ (⌜fq m d s'⌝ : sProp 𝕄) := by
  iintro ⟨⟨%V, %hV, Hh⟩, HSI⟩
  unfold StableHlo.held
  ihave H := (pointsTo_read_all (Pipeline.ucRefs τ sig) (fun b => (d, b)) V s') $$ [Hh HSI]
  · isplitl [Hh] <;> iassumption
  icases H with ⟨%h, -⟩
  ipureintro; exact ⟨V, hV, h⟩

/-- What a run ends in: every device's buffers as the calls leave them, every semaphore at zero. -/
def Ran : PUnit × MemSt nD τ sig (Elt F) → Prop := fun r =>
  (∀ d : Dev nD, ∃ V, Ends m d V ∧ ∀ b ∈ Pipeline.ucRefs τ sig, r.2.mem (d, b) = V b) ∧ r.2.sem = fun _ => 0

theorem run_main [∀ e, Nonempty (Elt F e)] (hpre : Rows m) :
    θ_run (Cert.KernelIdeal.defs (F := F)) (Cert.KernelIdeal.threads (F := F)) ⟨m, fun _ => 0, ρ⟩ (Ran m) :=
  SparseCore.Cfg.θ_run_sc_quiescent (K := K (F := F)) (D := D (F := F)) (𝒱 := 𝒱) (EH := EH) (P := P m) (A := ∅) scFacts v₀
    (fun q hq => match q with | 0 => nomatch hq | 1 => nomatch hq)
    (fun q _ => match q with | 0 => task0 m hpre | 1 => task1 m hpre)
    (fun q _ => match q with | 0 => SparseCore.Cfg.VecSplit.of_plain (split0 m) | 1 => SparseCore.Cfg.VecSplit.of_plain (split1 m))
    m ρ main dealt (FIN m) (u₀ (F := F)) (sep_elim_left.trans (hu₀ m)) (hmain m ρ) (fq m) (hfin m) (Ran m) (fun _ h hz => ⟨h, hz⟩)

end Cert.Proof.Run

end
-- ==== Proof.Kept.lean ====
/-
  What the two TensorCore calls leave of memory: every buffer but their results as it was, and the results: the first
  call's accumulator after its last tile, the second's output at its last.
-/
module

public import proofs.«01_k».proof.Proof.Regions
public import Idealize.ShloMosaic.Lib.Pipeline.ValueKit

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin)

variable {F : FTy → Type} [FloatOps F]

local notation "𝕄" => MM F

section

variable {a : (p : Fin 2) → (pcfgs (F := F) p).Adm} {W W' : Valuation τ sig (Elt F)} {c : Dev nD}

theorem in0 : ∀ w : Fin 18, w.val ≠ 16 → w.val ≠ 17 → (spec2 w).isOut = false := by decide
theorem in1 : ∀ w : Fin 18, w.val ≠ 16 → w.val ≠ 17 → (spec3 w).isOut = false := by decide
theorem out0 : ∀ w : Fin 18, Pipeline.arrRef spec2 w ≠ main_v13_0 → Pipeline.arrRef spec2 w ≠ main_v13_1 → w.val ≠ 16 ∧ w.val ≠ 17 := by decide
theorem out1 : ∀ w : Fin 18, Pipeline.arrRef spec3 w ≠ main_v14_0 → Pipeline.arrRef spec3 w ≠ main_v14_1 → w.val ≠ 16 ∧ w.val ≠ 17 := by decide

/-- The first call changes its two results alone. -/
theorem kept0 (h : Left a W 0 c W') {r : Ref sig .tc} (h0 : r ≠ main_v13_0) (h1 : r ≠ main_v13_1) :
    W' (Proc.devRef .tc r) = W (Proc.devRef .tc r) := by
  by_cases hw : ∃ w : Fin 18, Pipeline.arrRef spec2 w = r
  · obtain ⟨w, rfl⟩ := hw
    obtain ⟨h16, h17⟩ := out0 w h0 h1
    have hf : fg a 0 w = false := by
      show RA.fgt w = false
      simpa [RA.fgt] using h16
    exact (h.2 w hf).trans ((pdats a W 0 c).arrAt_in w (in0 w h16 h17) _)
  · exact h.1 _ fun w e => hw ⟨w, Proc.devRef_injective _ e⟩

/-- The second call changes its two results alone. -/
theorem kept1 (h : Left a W 1 c W') {r : Ref sig .tc} (h0 : r ≠ main_v14_0) (h1 : r ≠ main_v14_1) :
    W' (Proc.devRef .tc r) = W (Proc.devRef .tc r) := by
  by_cases hw : ∃ w : Fin 18, Pipeline.arrRef spec3 w = r
  · obtain ⟨w, rfl⟩ := hw
    obtain ⟨h16, h17⟩ := out1 w h0 h1
    exact (h.2 w rfl).trans ((pdats a W 1 c).arrAt_in w (in1 w h16 h17) _)
  · exact h.1 _ fun w e => hw ⟨w, Proc.devRef_injective _ e⟩

theorem last0 : 35 < (cfg2 (a 0)).N := lt_of_lt_of_eq (show 35 < 36 by decide) N_2.symm
theorem last1 : 36 < (cfg3 (a 1)).N := lt_of_lt_of_eq (show 36 < 37 by decide) N_3.symm

theorem pos0 : ∀ b, 0 < ((cfg2 (a 0)).win 17).size b := show ∀ b : Fin 2, 0 < S640x256.size b by decide
theorem one0 : ∀ b, ((cfg2 (a 0)).win 17).nblk b = 1 := by
  intro b
  match b with
  | ⟨0, _⟩ => exact (by decide : (640 + 640 - 1) / 640 = 1)
  | ⟨1, _⟩ => exact (by decide : (256 + 256 - 1) / 256 = 1)
theorem zero0 (t : Fin (cfg2 (a 0)).N) : ∀ b, ((cfg2 (a 0)).win 17).index t b = 0 := by
  intro b
  match b with
  | ⟨0, _⟩ => rfl
  | ⟨1, _⟩ => rfl
theorem pos1 : ∀ b, 0 < ((cfg3 (a 1)).win 16).size b := show ∀ b : Fin 2, 0 < S512x128.size b by decide
theorem one1 : ∀ b, ((cfg3 (a 1)).win 16).nblk b = 1 := by
  intro b
  match b with
  | ⟨0, _⟩ => exact (by decide : (512 + 512 - 1) / 512 = 1)
  | ⟨1, _⟩ => exact (by decide : (128 + 128 - 1) / 128 = 1)
theorem zero1 (t : Fin (cfg3 (a 1)).N) : ∀ b, ((cfg3 (a 1)).win 16).index t b = 0 := by
  intro b
  match b with
  | ⟨0, _⟩ => rfl
  | ⟨1, _⟩ => rfl

/-- The first call's accumulator array holds the accumulator after its last tile. -/
theorem left_acc (h : Left a W 0 c W') :
    W' (Proc.devRef .tc main_v13_1) = RA.acc c (a 0) (fun b => W (Proc.devRef .tc b)) 35 last0 := by
  refine (h.2 17 rfl).trans ?_
  refine Pipeline.Dat.arrAt_eq_of_covers (RA.dat c (a 0) fun b => W (Proc.devRef .tc b)) 17 _ ?_ fun t hf y => ?_
  · refine ⟨pos0, fun β => ⟨⟨35, last0⟩, ?_, fun b => ⟨?_, ?_⟩⟩⟩
    · exact ((win2 (a 0) 17).flush_oneBlock rfl (show grid2.oneBlock (spec2 17).reads = true by decide) N_2 (m := 35) rfl _).mpr rfl
    · exact (zero0 _ b).trans (Nat.lt_one_iff.mp (lt_of_lt_of_eq (β b).isLt (one0 b))).symm
    · left; rfl
  · have := ((win2 (a 0) 17).flush_oneBlock rfl (show grid2.oneBlock (spec2 17).reads = true by decide) N_2 (m := 35) rfl t).mp hf
    have ht : t = ⟨35, last0⟩ := Fin.ext (by have : t.val < 36 := lt_of_lt_of_eq t.isLt N_2; simp only; omega)
    subst ht
    blk_simp
    refine congrArg (RA.acc c (a 0) (fun b => W (Proc.devRef .tc b)) 35 last0) (funext fun b => Fin.ext ?_)
    show _ = ((cfg2 (a 0)).win 17).index _ b * ((cfg2 (a 0)).win 17).size b + 1 * (y b).val
    rw [zero0]; omega

/-- The second call's output array holds what its last grid point stores. -/
theorem left_out (h : Left a W 1 c W') :
    W' (Proc.devRef .tc main_v14_0) = RB.out c (a 1) (fun b => W (Proc.devRef .tc b)) ⟨36, last1⟩ := by
  refine (h.2 16 rfl).trans ?_
  refine Pipeline.Dat.arrAt_eq_of_covers (RB.dat c (a 1) fun b => W (Proc.devRef .tc b)) 16 _ ?_ fun t hf y => ?_
  · refine ⟨pos1, fun β => ⟨⟨36, last1⟩, ?_, fun b => ⟨?_, ?_⟩⟩⟩
    · exact ((win3 (a 1) 16).flush_oneBlock rfl (show grid3.oneBlock (spec3 16).reads = true by decide) N_3 (m := 36) rfl _).mpr rfl
    · exact (zero1 _ b).trans (Nat.lt_one_iff.mp (lt_of_lt_of_eq (β b).isLt (one1 b))).symm
    · left; rfl
  · have := ((win3 (a 1) 16).flush_oneBlock rfl (show grid3.oneBlock (spec3 16).reads = true by decide) N_3 (m := 36) rfl t).mp hf
    have ht : t = ⟨36, last1⟩ := Fin.ext (by have : t.val < 37 := lt_of_lt_of_eq t.isLt N_3; simp only; omega)
    subst ht
    blk_simp
    refine congrArg (RB.out c (a 1) (fun b => W (Proc.devRef .tc b)) ⟨36, last1⟩) (funext fun b => Fin.ext ?_)
    show _ = ((cfg3 (a 1)).win 16).index _ b * ((cfg3 (a 1)).win 16).size b + 1 * (y b).val
    rw [zero1]; omega

end

end Cert.Proof.Run
-- ==== Proof.Frames.lean ====
/-
  What the precondition says of the arguments, and the frame of the program: each argument array ends as it began.
-/
module

public import proofs.«01_k».proof.Proof.Launch
public import proofs.«01_k».proof.Proof.Kept
public import proofs.«01_k».proof.Proof.Gen.Pre_inputs
public import proofs.«01_k».proof.Proof.Gen.Kernel
public import proofs.«01_k».proof.Defs
public import Idealize.ShloMosaic.Lib.ReduceAll

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin)

variable {F : FTy → Type} [FloatOps F]

local notation "𝕄" => MM F

/-- The precondition as a statement of one device's argument arrays, at either reading of the floats. -/
def Asked (m : (ℓ : Loc nD τ sig) → Buf (Elt F) ℓ) : Prop :=
  ∀ c : Dev nD, Cert.Pre_inputs.fn (F := F)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) = fun _ => 1#1

theorem and_bits (p q : BitVec 1) (h : IntOp.andi p q = 1#1) : p = 1#1 ∧ q = 1#1 := by
  revert p q; decide

theorem bit_true (b : Bool) (h : BitVec.ofBool b = 1#1) : b = true := by
  revert b; decide

theorem one_point (i j : Cert.Pre_inputs.S_.Idx) : i = j := funext fun a => a.elim0

/-- What the precondition comes to: every index names a row of the table, and the group sizes are 0, 1, …, 511. -/
theorem asked_iff (m : (ℓ : Loc nD τ sig) → Buf (Elt F) ℓ) (h : Asked m) (c : Dev nD) :
    (∀ j, (m ((c.tc : Thread nD τ).loc main_arg1) j : BitVec 32).toNat < 50000) ∧
      ∀ i : S512.Idx, (m ((c.tc : Thread nD τ).loc main_arg2) i : BitVec 32) = BitVec.ofNat 32 (i 0).val := by
  haveI : Subsingleton Cert.Pre_inputs.S_.Idx := ⟨one_point⟩
  have e := congrFun (h c) (fun a => a.elim0)
  simp only [Cert.Pre_inputs.fn, andi] at e
  obtain ⟨e, e3⟩ := and_bits _ _ e
  obtain ⟨e1, e2⟩ := and_bits _ _ e
  refine ⟨fun j => ?_, fun i => ?_⟩
  · have a := Host.reduce_andi_all _ _ _ _ _ e1 j
    have b := Host.reduce_andi_all _ _ _ _ _ e2 j
    simp only [cmpi, broadcastInDim, constantI, IntOp.cmpi] at a b
    have a := bit_true _ a
    have b := bit_true _ b
    simp only [BitVec.sle_eq_decide, BitVec.slt_eq_decide, decide_eq_true_eq, BitVec.toInt_eq_toNat_cond,
      BitVec.toNat_ofNat, Nat.reducePow, Nat.reduceMod] at a b
    omega
  · have a := Host.reduce_andi_all _ _ _ _ _ e3 i
    simp only [cmpi, IntOp.cmpi] at a
    exact eq_of_beq (bit_true _ a)

theorem rows_of (m : (ℓ : Loc nD τ sig) → Buf (Elt F) ℓ) (h : Asked m) : Rows m := fun d j => (asked_iff m h d).1 j

/-- An array no step writes ends as it began. -/
theorem same (m : (ℓ : Loc nD τ sig) → Buf (Elt F) ℓ) (d : Dev nD) (V : Valuation τ sig (Elt F)) (h : Ends m d V) (r : Ref sig .tc)
    (hA : r ∉ refsA) (hB : r ∉ refsB) (h10 : r ≠ main_v10) (h11 : r ≠ main_v11) (h0 : r ≠ main_v13_0) (h1 : r ≠ main_v13_1)
    (h2 : r ≠ main_v14_0) (h3 : r ≠ main_v14_1) : V (Proc.devRef .tc r) = m (d, Proc.devRef .tc r) := by
  obtain ⟨V₁, l, l'⟩ := h
  rw [kept1 l' h2 h3, kept0 l h0 h1, W3_keep m d hB h10 h11, W1_keep m d hA]

theorem ran_arg (m : (ℓ : Loc nD τ sig) → Buf (Elt F) ℓ) {r} (h : Ran m r) (d : Dev nD) (b : Ref sig .tc) (hu : Proc.devRef .tc b ∈ Pipeline.ucRefs τ sig)
    (hA : b ∉ refsA) (hB : b ∉ refsB) (h10 : b ≠ main_v10) (h11 : b ≠ main_v11) (h0 : b ≠ main_v13_0) (h1 : b ≠ main_v13_1)
    (h2 : b ≠ main_v14_0) (h3 : b ≠ main_v14_1) : r.2.mem ((d.tc : Thread nD τ).loc b) = m ((d.tc : Thread nD τ).loc b) := by
  obtain ⟨V, he, hv⟩ := h.1 d
  exact (hv _ hu).trans (same m d V he b hA hB h10 h11 h0 h1 h2 h3)

/-- The memory at the end of a run has every argument as the memory at its start. -/
theorem ran_args (m : (ℓ : Loc nD τ sig) → Buf (Elt F) ℓ) {r} (h : Ran m r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
    := by
  refine ⟨?_, ?_, ?_, ?_, ?_, ?_, ?_, ?_, ?_, ?_, ?_, ?_, ?_, ?_⟩ <;>
    exact ran_arg m h c _ (by decide) (by decide) (by decide) (by decide) (by decide) (by decide) (by decide) (by decide) (by decide)

/-- The frame of the program, its floats read as real numbers. -/
theorem frame_ideal : Cert.quiescent_KernelIdeal := fun m ρ hpre =>
  (θ_run (Cert.KernelIdeal.defs (F := Ideal)) _ _).mono (fun _ h => ⟨fun c => ran_args m h c, h.2⟩)
    (run_main (F := Ideal) m ρ (rows_of m hpre))

end Cert.Proof.Run

end
-- ==== Proof.Reference.lean ====
/-
  The run of the reference program: its arguments end as they began, and it has no semaphore.
-/
module

public import proofs.«01_k».proof.Defs
public import proofs.«01_k».proof.Proof.Gen.ReferenceIdeal.Run
public import proofs.«01_k».proof.Proof.Gen.Pre_inputs
public import Idealize.ShloMosaic.Lib.Quiescent

@[expose] public section

noncomputable section

namespace Cert.Proof.Ref

open Idealize.ShloMosaic Idealize.ShloMosaic.TcCoe Idealize.SL.Sem

theorem frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_inputs : Cert.quiescent_ReferenceIdeal_pre_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.Table.lean ====
/-
  What the printed tables say: tile by tile, where each group's rows begin and end.
-/
module

public import proofs.«01_k».proof.KernelIdeal

@[expose] public section

noncomputable section

namespace Cert.Proof.Table

open Cert.KernelIdeal

/-- The row at which group `g` begins: groups 0, 1, 2, … have 0, 1, 2, … rows. -/
def off (g : ℕ) : ℕ := g * (g - 1) / 2

/-- The first group that tile `t`'s window of 128 groups counts. -/
def first (t : ℕ) : ℕ := if h : t < 36 then (lit0 ⟨t, h⟩).toNat else if h : t - 36 < 37 then (lit3 ⟨t - 36, h⟩).toNat else 0

set_option maxRecDepth 100000 in
theorem lo_words : ∀ t : Fin 73, ∀ c : Fin 128,
    ((lit1 ⟨t.val * 128 + c.val, by omega⟩).toNat + 1792 * t.val) % 4294967296 = off (min (first t.val + c.val) 512) := by
  decide +kernel

set_option maxRecDepth 100000 in
theorem hi_words : ∀ t : Fin 73, ∀ c : Fin 128,
    ((lit2 ⟨t.val * 128 + c.val, by omega⟩).toNat + 1792 * t.val) % 4294967296 = off (min (first t.val + c.val + 1) 512) := by
  decide +kernel

/-- The window of groups that a tile counts lies in the accumulator, and no row of the tile belongs to a group outside it. -/
theorem first_words : ∀ t : Fin 73, first t.val ≤ 504 ∧ off (first t.val) ≤ 1792 * t.val ∧ 1792 * (t.val + 1) ≤ off (first t.val + 128) := by
  decide +kernel

end Cert.Proof.Table

end
-- ==== Proof.Value.Spec.lean ====
/-
  What the program computes, over the extended reals: the hidden layer of a row, the sums of the hidden layers by group,
  and why summing before the third weight matrix or after it is the same.
-/
module

public import proofs.«01_k».proof.Proof.Table
public import Mathlib.Data.EReal.Operations
public import Mathlib.Algebra.Order.BigOperators.Group.Finset
public import Idealize.ShloMosaic.Lib.Pointwise

@[expose] public section

noncomputable section

namespace Cert.Proof.Spec

open Finset

variable {R Q H O : Type*} [Fintype Q] [Fintype H]

/-- The first layer of one row, from its two halves `x` and `e`. -/
def layer (x e : Q → EReal) (wa wb : Q → H → EReal) (b : H → EReal) (p : H) : EReal :=
  max ((∑ q, x q * wa q p) + (∑ q, e q * wb q p) + b p) 0

/-- The second. -/
def hid (x e : Q → EReal) (wa wb : Q → H → EReal) (b : H → EReal) (w : H → H → EReal) (b' : H → EReal) (k : H) : EReal :=
  max ((∑ p, layer x e wa wb b p * w p k) + b' k) 0

theorem hid_nonneg (x e : Q → EReal) (wa wb : Q → H → EReal) (b : H → EReal) (w : H → H → EReal) (b' : H → EReal) (k : H) :
    0 ≤ hid x e wa wb b w b' k := le_max_right _ _

/-- A sum of nonnegative numbers times a number is the sum of the products. -/
theorem sum_mul_nonneg {ι : Type*} (s : Finset ι) (f : ι → EReal) (hf : ∀ i, 0 ≤ f i) (y : EReal) :
    (∑ i ∈ s, f i) * y = ∑ i ∈ s, f i * y := by
  classical
  induction s using Finset.induction_on with
  | empty => simp
  | insert i s hi ih =>
    rw [sum_insert hi, sum_insert hi, EReal.right_distrib_of_nonneg (hf i) (sum_nonneg fun j _ => hf j), ih]

theorem nsmul_one_eq (n : ℕ) : n • (1 : EReal) = ((n : ℝ) : EReal) := by
  induction n with
  | zero => simp
  | succ n ih => rw [succ_nsmul, ih, Nat.cast_succ, EReal.coe_add]; rfl

/-- As many copies of a number as a set has elements. -/
theorem sum_const_mul {ι : Type*} (s : Finset ι) (y : EReal) : ∑ _i ∈ s, y = ((s.card : ℝ) : EReal) * y := by
  have h := sum_mul_nonneg s (fun _ => 1) (fun _ => zero_le_one) y
  simp only [one_mul] at h
  rw [← h]
  congr 1
  rw [sum_const, nsmul_one_eq]

/-- The third layer, of every row and then summed over a set of rows, or of the sum. -/
theorem third (s : Finset R) (h : R → H → EReal) (hh : ∀ j k, 0 ≤ h j k) (w : H → EReal) (b : EReal) :
    ∑ j ∈ s, ((∑ k, h j k * w k) + b) = (∑ k, (∑ j ∈ s, h j k) * w k) + ((s.card : ℝ) : EReal) * b := by
  rw [sum_add_distrib, sum_const_mul, sum_comm]
  exact congrArg (· + _) (sum_congr rfl fun k _ => (sum_mul_nonneg s (fun j => h j k) (fun j => hh j k) _).symm)

/-- The last two layers, of one group's sum. -/
def fin2 (a : O → EReal) (w : O → H → EReal) (b : H → EReal) (w' : H → O → EReal) (b' : O → EReal) [Fintype O] (o : O) : EReal :=
  (∑ p, max ((∑ q, a q * w q p) + b p) 0 * w' p o) + b' o

/-- The rows of group `g`. -/
def grp (g : ℕ) (j : Fin 130816) : Prop := Table.off g ≤ j.val ∧ j.val < Table.off (g + 1)

instance (g : ℕ) : DecidablePred (grp g) := fun _ => inferInstanceAs (Decidable (_ ∧ _))

theorem off_succ (g : ℕ) : Table.off (g + 1) = Table.off g + g := by
  unfold Table.off
  have := Nat.triangle_succ g
  simpa using this

theorem off_mono {a b : ℕ} (h : a ≤ b) : Table.off a ≤ Table.off b := by
  induction h with
  | refl => exact le_rfl
  | step _ ih => exact ih.trans (by rw [Nat.succ_eq_add_one, off_succ]; omega)

/-- Group `g` has `g` rows. -/
theorem card_grp {g : ℕ} (hg : g < 512) : (univ.filter (grp g)).card = g := by
  have hle : Table.off (g + 1) ≤ 130816 := (off_mono (b := 512) (by omega)).trans (by decide)
  have hs := off_succ g
  have : (univ.filter (grp g)).map Fin.valEmbedding = Ico (Table.off g) (Table.off (g + 1)) := by
    ext x
    simp only [mem_map, mem_filter, mem_univ, true_and, mem_Ico, grp, Fin.valEmbedding_apply]
    constructor
    · rintro ⟨j, hj, rfl⟩; exact hj
    · intro hx; exact ⟨⟨x, by omega⟩, hx, rfl⟩
  rw [← card_map Fin.valEmbedding, this, Nat.card_Ico]
  omega

end Cert.Proof.Spec

end
-- ==== Proof.Value.Pay.lean ====
/-
  The payloads of the two TensorCore calls, at an index, over the extended reals.
-/
module

public import proofs.«01_k».proof.Proof.Gen.KernelIdeal.Skeleton
public import proofs.«01_k».proof.Proof.Value.Spec
public import Idealize.ShloMosaic.Lib.Pipeline.ValueKit.Point
public import Idealize.ShloMosaic.Lib.WordCmp

@[expose] public section

noncomputable section

namespace Cert.Proof.Pay

open Cert.KernelIdeal Cert.KernelIdeal.Gen
open Idealize.ShloMosaic

/-- A small number's word, read signed. -/
theorem word_toInt (n : ℕ) (h : n < 2147483648) : (BitVec.ofNat 32 n).toInt = (n : ℤ) := by
  rw [BitVec.toInt_eq_toNat_cond, BitVec.toNat_ofNat]
  omega

/-- The messages of a tile. -/
theorem msg2 (x e : Vec Ideal S1792x128 .f32) (wa wb : Vec Ideal S128x256 .bf16) (b : Vec Ideal S1x256 .f32) (w : Vec Ideal S256x256 .bf16) (b' : Vec Ideal S1x256 .f32)
    (r : Fin 1792) (k : Fin 256) :
    k2_pay3 (F := Ideal) x e wa wb b w b' (ix2 r k)
      = Spec.hid (fun q : Fin 128 => x (ix2 r q)) (fun q => e (ix2 r q)) (fun q p => wa (ix2 q p)) (fun q p => wb (ix2 q p)) (fun p : Fin 256 => b (ix2 0 p))
          (fun p k => w (ix2 p k)) (fun k => b' (ix2 0 k)) k := by
  pointwise [k2_pay3, Spec.hid, Spec.layer]

/-- What a tile's window of groups holds after the tile. -/
theorem add2 (ms : FVec Ideal S1792x256 .bf16) (lo hi : Vec Ideal S1x1x128 .i32) (old : Vec Ideal S128x256 .f32) (g : Fin 128) (k : Fin 256) :
    k2_pay1 (F := Ideal) ms (iota .tc S1792x128 32 [0] iota_S1792x128_d0_w32) lo hi old (ix2 g k)
      = old (ix2 g k) + ∑ r : Fin 1792, (if (lo (ix3 0 0 g)).toInt ≤ r.val ∧ (r.val : ℤ) < (hi (ix3 0 0 g)).toInt then ms (ix2 r k) else 0) := by
  pointwise [k2_pay1]
  refine congrArg _ (Finset.sum_congr rfl fun r _ => ?_)
  rw [show IntOp.cmpi .sge (BitVec.ofNat 32 r.val) (lo (ix3 0 0 g)) = BitVec.ofBool (decide ((lo (ix3 0 0 g)).toInt ≤ (BitVec.ofNat 32 r.val).toInt)) from rfl,
    show IntOp.cmpi .slt (BitVec.ofNat 32 r.val) (hi (ix3 0 0 g)) = BitVec.ofBool (decide ((BitVec.ofNat 32 r.val).toInt < (hi (ix3 0 0 g)).toInt)) from rfl,
    WordCmp.andi_ofBool, WordCmp.select_ofBool, word_toInt r.val (by omega)]
  simp only [Bool.and_eq_true, decide_eq_true_eq]

/-- The result, from the groups' sums. -/
theorem last3 (z : Vec Ideal S512x256 .f32) (w3 : Vec Ideal S256x128 .f32) (b3 : Vec Ideal S1x128 .f32) (p1 : Vec Ideal S128x256 .f32) (c1 : Vec Ideal S1x256 .f32)
    (p2 : Vec Ideal S256x128 .f32) (c2 : Vec Ideal S1x128 .f32) (g : Fin 512) (o : Fin 128) :
    k3_pay2 (F := Ideal) z w3 b3 p1 c1 p2 c2 (ix2 g o)
      = Spec.fin2 (H := Fin 256) (fun q : Fin 128 => (∑ k : Fin 256, z (ix2 g k) * w3 (ix2 k q)) + ((g.val : ℝ) : EReal) * b3 (ix2 0 q)) (fun q p => p1 (ix2 q p))
          (fun p => c1 (ix2 0 p)) (fun p o => p2 (ix2 p o)) (fun o => c2 (ix2 0 o)) o := by
  have hg : (FloatOps.sitofp (F := Ideal) .f32 (BitVec.ofNat 32 g.val) : EReal) = ((g.val : ℝ) : EReal) := by
    show (((BitVec.ofNat 32 g.val).toInt : ℝ) : EReal) = _
    rw [word_toInt g.val (by omega), Int.cast_natCast]
  pointwise [k3_pay2, Spec.fin2]
  rw [hg]

end Cert.Proof.Pay

end
-- ==== Proof.Value.Blocks.lean ====
/-
  What the windows of the two TensorCore calls hold at a grid point, read from the arrays.
-/
module

public import proofs.«01_k».proof.Proof.Kept
public import proofs.«01_k».proof.Proof.Value.Pay

@[expose] public section

noncomputable section

namespace Cert.Proof.Run

open Cert.KernelIdeal Cert.KernelIdeal.Gen
open Idealize.ShloMosaic Idealize.ShloMosaic.TcCoe
open Idealize.ShloMosaic.Pipeline (Dat Cfg Window)

variable {F : FTy → Type} [FloatOps F]

namespace RA

variable {c : Dev nD} {a : (pcfg2 (F := F)).Adm} {V : (b : Ref sig .tc) → Buf (Elt F) ((c : Thread nD τ).loc b)} (t : Fin (cfg2 a).N)

theorem lt_N : t.val < 36 := lt_of_lt_of_eq t.isLt N_2

/-- The number of the tile, as the index maps compute it. -/
theorem num0 : (BitVec.ofNat 32 ((pt a t) 0).val).toNat = t.val := by
  have := lt_N t
  rw [pt_val, BitVec.toNat_ofNat]; omega
theorem num : (BitVec.ofNat 32 ((pt a t) 0).val + 0#32).toNat = t.val + 0 := by
  have := lt_N t
  rw [BitVec.toNat_add, num0]
  show (t.val + 0) % 4294967296 = _
  omega

/-- The gathered rows of tile `t`. -/
theorem at0 (r : Fin 1792) (q : Fin 128) (i : S64512x128.Idx) (h : (i 0).val = 1792 * t.val + r.val) (h' : (i 1).val = q.val) :
    blk c a V 0 t (ix2 r q : S1792x128.Idx) = V main_v10 i := by
  blk_simp [blk]
  refine congrArg (V main_v10) (funext fun b => Fin.ext ?_)
  match b with
  | ⟨0, _⟩ =>
    show (BitVec.ofNat 32 ((pt a t) 0).val).toNat * 1792 + 1 * r.val = (i 0).val
    rw [num0]; omega
  | ⟨1, _⟩ =>
    show 0 * 128 + 1 * q.val = (i 1).val
    omega

/-- The second halves of the rows of tile `t`. -/
theorem at1 (r : Fin 1792) (q : Fin 128) (i : S130816x128.Idx) (h : (i 0).val = 1792 * (t.val + 0) + r.val) (h' : (i 1).val = q.val) :
    blk c a V 1 t (ix2 r q : S1792x128.Idx) = V main_arg3 i := by
  blk_simp [blk]
  refine congrArg (V main_arg3) (funext fun b => Fin.ext ?_)
  match b with
  | ⟨0, _⟩ =>
    show (BitVec.ofNat 32 ((pt a t) 0).val + 0#32).toNat * 1792 + 1 * r.val = (i 0).val
    rw [num]; omega
  | ⟨1, _⟩ =>
    show 0 * 128 + 1 * q.val = (i 1).val
    omega

/-- Where the window’s groups begin. -/
theorem at2 (g : Fin 128) (i : S73x1x128.Idx) (h : (i 0).val = t.val + 0) (h' : (i 2).val = g.val) :
    blk c a V 2 t (ix3 0 0 g : S1x1x128.Idx) = V main_c_0 i := by
  blk_simp [blk]
  refine congrArg (V main_c_0) (funext fun b => Fin.ext ?_)
  match b with
  | ⟨0, _⟩ =>
    show (BitVec.ofNat 32 ((pt a t) 0).val + 0#32).toNat * 1 + 1 * 0 = (i 0).val
    rw [num]; omega
  | ⟨1, _⟩ =>
    show 0 * 1 + 1 * 0 = (i 1).val
    have : (i 1).val < 1 := (i 1).isLt
    omega
  | ⟨2, _⟩ =>
    show 0 * 128 + 1 * g.val = (i 2).val
    omega

/-- Where they end. -/
theorem at3 (g : Fin 128) (i : S73x1x128.Idx) (h : (i 0).val = t.val + 0) (h' : (i 2).val = g.val) :
    blk c a V 3 t (ix3 0 0 g : S1x1x128.Idx) = V main_c_1 i := by
  blk_simp [blk]
  refine congrArg (V main_c_1) (funext fun b => Fin.ext ?_)
  match b with
  | ⟨0, _⟩ =>
    show (BitVec.ofNat 32 ((pt a t) 0).val + 0#32).toNat * 1 + 1 * 0 = (i 0).val
    rw [num]; omega
  | ⟨1, _⟩ =>
    show 0 * 1 + 1 * 0 = (i 1).val
    have : (i 1).val < 1 := (i 1).isLt
    omega
  | ⟨2, _⟩ =>
    show 0 * 128 + 1 * g.val = (i 2).val
    omega

/-! The windows that are whole arrays. -/

theorem at4 : (blk c a V 4 t : S640x256.Idx → Elt F .f32) = V main_v12 := by
  funext i
  blk_simp [blk]
  refine congrArg (V main_v12) (funext fun b => Fin.ext ?_)
  match b with
  | ⟨0, _⟩ => show 0 * 640 + 1 * (i 0).val = (i 0).val; omega
  | ⟨1, _⟩ => show 0 * 256 + 1 * (i 1).val = (i 1).val; omega

theorem at5 : (blk c a V 5 t : S128x256.Idx → Elt F .bf16) = V main_v1 := by
  funext i
  blk_simp [blk]
  refine congrArg (V main_v1) (funext fun b => Fin.ext ?_)
  match b with
  | ⟨0, _⟩ => show 0 * 128 + 1 * (i 0).val = (i 0).val; omega
  | ⟨1, _⟩ => show 0 * 256 + 1 * (i 1).val = (i 1).val; omega

theorem at6 : (blk c a V 6 t : S128x256.Idx → Elt F .bf16) = V main_v3 := by
  funext i
  blk_simp [blk]
  refine congrArg (V main_v3) (funext fun b => Fin.ext ?_)
  match b with
  | ⟨0, _⟩ => show 0 * 128 + 1 * (i 0).val = (i 0).val; omega
  | ⟨1, _⟩ => show 0 * 256 + 1 * (i 1).val = (i 1).val; omega

theorem at7 : (blk c a V 7 t : S1x256.Idx → Elt F .f32) = V main_v4 := by
  funext i
  blk_simp [blk]
  refine congrArg (V main_v4) (funext fun b => Fin.ext ?_)
  match b with
  | ⟨0, _⟩ => show 0 * 1 + 1 * (i 0).val = (i 0).val; omega
  | ⟨1, _⟩ => show 0 * 256 + 1 * (i 1).val = (i 1).val; omega

theorem at8 : (blk c a V 8 t : S256x256.Idx → Elt F .bf16) = V main_v5 := by
  funext i
  blk_simp [blk]
  refine congrArg (V main_v5) (funext fun b => Fin.ext ?_)
  match b with
  | ⟨0, _⟩ => show 0 * 256 + 1 * (i 0).val = (i 0).val; omega
  | ⟨1, _⟩ => show 0 * 256 + 1 * (i 1).val = (i 1).val; omega

theorem at9 : (blk c a V 9 t : S1x256.Idx → Elt F .f32) = V main_v6 := by
  funext i
  blk_simp [blk]
  refine congrArg (V main_v6) (funext fun b => Fin.ext ?_)
  match b with
  | ⟨0, _⟩ => show 0 * 1 + 1 * (i 0).val = (i 0).val; omega
  | ⟨1, _⟩ => show 0 * 256 + 1 * (i 1).val = (i 1).val; omega

end RA

namespace RB

variable {c : Dev nD} {a : (pcfg3 (F := F)).Adm} {V : (b : Ref sig .tc) → Buf (Elt F) ((c : Thread nD τ).loc b)} (t : Fin (cfg3 a).N)

theorem lt_N : t.val < 37 := lt_of_lt_of_eq t.isLt N_3

/-- The number of the tile, as the index maps compute it. -/
theorem num0 : (BitVec.ofNat 32 ((pt a t) 0).val).toNat = t.val := by
  have := lt_N t
  rw [pt_val, BitVec.toNat_ofNat]; omega
theorem num : (BitVec.ofNat 32 ((pt a t) 0).val + 36#32).toNat = t.val + 36 := by
  have := lt_N t
  rw [BitVec.toNat_add, num0]
  show (t.val + 36) % 4294967296 = _
  omega

/-- The gathered rows of tile `t`. -/
theorem at0 (r : Fin 1792) (q : Fin 128) (i : S66304x128.Idx) (h : (i 0).val = 1792 * t.val + r.val) (h' : (i 1).val = q.val) :
    blk c a V 0 t (ix2 r q : S1792x128.Idx) = V main_v11 i := by
  blk_simp [blk]
  refine congrArg (V main_v11) (funext fun b => Fin.ext ?_)
  match b with
  | ⟨0, _⟩ =>
    show (BitVec.ofNat 32 ((pt a t) 0).val).toNat * 1792 + 1 * r.val = (i 0).val
    rw [num0]; omega
  | ⟨1, _⟩ =>
    show 0 * 128 + 1 * q.val = (i 1).val
    omega

/-- The second halves of the rows of tile `t`. -/
theorem at1 (r : Fin 1792) (q : Fin 128) (i : S130816x128.Idx) (h : (i 0).val = 1792 * (t.val + 36) + r.val) (h' : (i 1).val = q.val) :
    blk c a V 1 t (ix2 r q : S1792x128.Idx) = V main_arg3 i := by
  blk_simp [blk]
  refine congrArg (V main_arg3) (funext fun b => Fin.ext ?_)
  match b with
  | ⟨0, _⟩ =>
    show (BitVec.ofNat 32 ((pt a t) 0).val + 36#32).toNat * 1792 + 1 * r.val = (i 0).val
    rw [num]; omega
  | ⟨1, _⟩ =>
    show 0 * 128 + 1 * q.val = (i 1).val
    omega

/-- Where the window’s groups begin. -/
theorem at2 (g : Fin 128) (i : S73x1x128.Idx) (h : (i 0).val = t.val + 36) (h' : (i 2).val = g.val) :
    blk c a V 2 t (ix3 0 0 g : S1x1x128.Idx) = V main_c_0 i := by
  blk_simp [blk]
  refine congrArg (V main_c_0) (funext fun b => Fin.ext ?_)
  match b with
  | ⟨0, _⟩ =>
    show (BitVec.ofNat 32 ((pt a t) 0).val + 36#32).toNat * 1 + 1 * 0 = (i 0).val
    rw [num]; omega
  | ⟨1, _⟩ =>
    show 0 * 1 + 1 * 0 = (i 1).val
    have : (i 1).val < 1 := (i 1).isLt
    omega
  | ⟨2, _⟩ =>
    show 0 * 128 + 1 * g.val = (i 2).val
    omega

/-- Where they end. -/
theorem at3 (g : Fin 128) (i : S73x1x128.Idx) (h : (i 0).val = t.val + 36) (h' : (i 2).val = g.val) :
    blk c a V 3 t (ix3 0 0 g : S1x1x128.Idx) = V main_c_1 i := by
  blk_simp [blk]
  refine congrArg (V main_c_1) (funext fun b => Fin.ext ?_)
  match b with
  | ⟨0, _⟩ =>
    show (BitVec.ofNat 32 ((pt a t) 0).val + 36#32).toNat * 1 + 1 * 0 = (i 0).val
    rw [num]; omega
  | ⟨1, _⟩ =>
    show 0 * 1 + 1 * 0 = (i 1).val
    have : (i 1).val < 1 := (i 1).isLt
    omega
  | ⟨2, _⟩ =>
    show 0 * 128 + 1 * g.val = (i 2).val
    omega

/-! The windows that are whole arrays. -/

theorem at4 : (blk c a V 4 t : S640x256.Idx → Elt F .f32) = V main_v13_1 := by
  funext i
  blk_simp [blk]
  refine congrArg (V main_v13_1) (funext fun b => Fin.ext ?_)
  match b with
  | ⟨0, _⟩ => show 0 * 640 + 1 * (i 0).val = (i 0).val; omega
  | ⟨1, _⟩ => show 0 * 256 + 1 * (i 1).val = (i 1).val; omega

theorem at5 : (blk c a V 5 t : S128x256.Idx → Elt F .bf16) = V main_v1 := by
  funext i
  blk_simp [blk]
  refine congrArg (V main_v1) (funext fun b => Fin.ext ?_)
  match b with
  | ⟨0, _⟩ => show 0 * 128 + 1 * (i 0).val = (i 0).val; omega
  | ⟨1, _⟩ => show 0 * 256 + 1 * (i 1).val = (i 1).val; omega

theorem at6 : (blk c a V 6 t : S128x256.Idx → Elt F .bf16) = V main_v3 := by
  funext i
  blk_simp [blk]
  refine congrArg (V main_v3) (funext fun b => Fin.ext ?_)
  match b with
  | ⟨0, _⟩ => show 0 * 128 + 1 * (i 0).val = (i 0).val; omega
  | ⟨1, _⟩ => show 0 * 256 + 1 * (i 1).val = (i 1).val; omega

theorem at7 : (blk c a V 7 t : S1x256.Idx → Elt F .f32) = V main_v4 := by
  funext i
  blk_simp [blk]
  refine congrArg (V main_v4) (funext fun b => Fin.ext ?_)
  match b with
  | ⟨0, _⟩ => show 0 * 1 + 1 * (i 0).val = (i 0).val; omega
  | ⟨1, _⟩ => show 0 * 256 + 1 * (i 1).val = (i 1).val; omega

theorem at8 : (blk c a V 8 t : S256x256.Idx → Elt F .bf16) = V main_v5 := by
  funext i
  blk_simp [blk]
  refine congrArg (V main_v5) (funext fun b => Fin.ext ?_)
  match b with
  | ⟨0, _⟩ => show 0 * 256 + 1 * (i 0).val = (i 0).val; omega
  | ⟨1, _⟩ => show 0 * 256 + 1 * (i 1).val = (i 1).val; omega

theorem at9 : (blk c a V 9 t : S1x256.Idx → Elt F .f32) = V main_v6 := by
  funext i
  blk_simp [blk]
  refine congrArg (V main_v6) (funext fun b => Fin.ext ?_)
  match b with
  | ⟨0, _⟩ => show 0 * 1 + 1 * (i 0).val = (i 0).val; omega
  | ⟨1, _⟩ => show 0 * 256 + 1 * (i 1).val = (i 1).val; omega

theorem at10 : (blk c a V 10 t : S256x128.Idx → Elt F .f32) = V main_arg8 := by
  funext i
  blk_simp [blk]
  refine congrArg (V main_arg8) (funext fun b => Fin.ext ?_)
  match b with
  | ⟨0, _⟩ => show 0 * 256 + 1 * (i 0).val = (i 0).val; omega
  | ⟨1, _⟩ => show 0 * 128 + 1 * (i 1).val = (i 1).val; omega

theorem at11 : (blk c a V 11 t : S1x128.Idx → Elt F .f32) = V main_v7 := by
  funext i
  blk_simp [blk]
  refine congrArg (V main_v7) (funext fun b => Fin.ext ?_)
  match b with
  | ⟨0, _⟩ => show 0 * 1 + 1 * (i 0).val = (i 0).val; omega
  | ⟨1, _⟩ => show 0 * 128 + 1 * (i 1).val = (i 1).val; omega

theorem at12 : (blk c a V 12 t : S128x256.Idx → Elt F .f32) = V main_arg10 := by
  funext i
  blk_simp [blk]
  refine congrArg (V main_arg10) (funext fun b => Fin.ext ?_)
  match b with
  | ⟨0, _⟩ => show 0 * 128 + 1 * (i 0).val = (i 0).val; omega
  | ⟨1, _⟩ => show 0 * 256 + 1 * (i 1).val = (i 1).val; omega

theorem at13 : (blk c a V 13 t : S1x256.Idx → Elt F .f32) = V main_v8 := by
  funext i
  blk_simp [blk]
  refine congrArg (V main_v8) (funext fun b => Fin.ext ?_)
  match b with
  | ⟨0, _⟩ => show 0 * 1 + 1 * (i 0).val = (i 0).val; omega
  | ⟨1, _⟩ => show 0 * 256 + 1 * (i 1).val = (i 1).val; omega

theorem at14 : (blk c a V 14 t : S256x128.Idx → Elt F .f32) = V main_arg12 := by
  funext i
  blk_simp [blk]
  refine congrArg (V main_arg12) (funext fun b => Fin.ext ?_)
  match b with
  | ⟨0, _⟩ => show 0 * 256 + 1 * (i 0).val = (i 0).val; omega
  | ⟨1, _⟩ => show 0 * 128 + 1 * (i 1).val = (i 1).val; omega

theorem at15 : (blk c a V 15 t : S1x128.Idx → Elt F .f32) = V main_v9 := by
  funext i
  blk_simp [blk]
  refine congrArg (V main_v9) (funext fun b => Fin.ext ?_)
  match b with
  | ⟨0, _⟩ => show 0 * 1 + 1 * (i 0).val = (i 0).val; omega
  | ⟨1, _⟩ => show 0 * 128 + 1 * (i 1).val = (i 1).val; omega

end RB

end Cert.Proof.Run

end
-- ==== Proof.Value.Sums.lean ====
/-
  The accumulators of the two TensorCore calls, after each tile, as sums over the rows of each group so far.
-/
module

public import proofs.«01_k».proof.Proof.Value.Blocks

@[expose] public section

noncomputable section

namespace Cert.Proof.Spec

open Finset

/-- Row number `j` belongs to group `g`. -/
def InGrp (g j : ℕ) : Prop := Table.off g ≤ j ∧ j < Table.off (g + 1)

instance (g j : ℕ) : Decidable (InGrp g j) := inferInstanceAs (Decidable (_ ∧ _))

/-- What tile `t` adds to group `g`'s sum of `H`. -/
def tile (H : ℕ → Fin 256 → EReal) (g t : ℕ) (k : Fin 256) : EReal := ∑ r : Fin 1792, if InGrp g (1792 * t + r.val) then H (1792 * t + r.val) k else 0

/-- Group `g`'s sum after `n` tiles. -/
def part (H : ℕ → Fin 256 → EReal) (g n : ℕ) (k : Fin 256) : EReal := ∑ t ∈ range n, tile H g t k

theorem part_succ (H : ℕ → Fin 256 → EReal) (g n : ℕ) (k : Fin 256) : part H g (n + 1) k = part H g n k + tile H g n k := sum_range_succ _ _

/-- After all tiles: the sum over the group's rows. -/
theorem part_all (H : ℕ → Fin 256 → EReal) (g : ℕ) (k : Fin 256) :
    part H g 73 k = ∑ j ∈ univ.filter (grp g), H j.val k := by
  unfold part tile
  rw [sum_range fun t => ∑ r : Fin 1792, if InGrp g (1792 * t + r.val) then H (1792 * t + r.val) k else 0, ← Fintype.sum_prod_type', sum_filter]
  refine Fintype.sum_equiv (finProdFinEquiv (m := 73) (n := 1792)) _ (fun j : Fin (73 * 1792) => if grp g j then H j.val k else 0) fun p => ?_
  have hv : (finProdFinEquiv p).val = 1792 * p.1.val + p.2.val := by rw [finProdFinEquiv_apply_val]; omega
  have : grp g (finProdFinEquiv p) ↔ InGrp g (1792 * p.1.val + p.2.val) := by unfold grp InGrp; rw [hv]
  simp only [this, hv]

end Cert.Proof.Spec

namespace Cert.Proof.Run

open Cert.KernelIdeal Cert.KernelIdeal.Gen
open Idealize.ShloMosaic Idealize.ShloMosaic.TcCoe
open Idealize.ShloMosaic.Pipeline (Dat Cfg Window)

/-! ## The tables' words -/

theorem off_le {g : ℕ} (h : g ≤ 512) : Table.off g ≤ 130816 := (Spec.off_mono h).trans (by decide)

theorem lo_int (T : Fin 73) (c : Fin 128) (h : Table.first T.val + c.val ≤ 512) :
    (lit1 ⟨T.val * 128 + c.val, by omega⟩).toInt = (Table.off (Table.first T.val + c.val) : ℤ) - 1792 * T.val := by
  have h1 := Table.lo_words T c
  rw [min_eq_left h] at h1
  have h2 := off_le h
  have h3 := (lit1 ⟨T.val * 128 + c.val, by omega⟩).isLt
  rw [BitVec.toInt_eq_toNat_cond]
  omega

theorem hi_int (T : Fin 73) (c : Fin 128) (h : Table.first T.val + c.val + 1 ≤ 512) :
    (lit2 ⟨T.val * 128 + c.val, by omega⟩).toInt = (Table.off (Table.first T.val + c.val + 1) : ℤ) - 1792 * T.val := by
  have h1 := Table.hi_words T c
  rw [min_eq_left h] at h1
  have h2 := off_le h
  have h3 := (lit2 ⟨T.val * 128 + c.val, by omega⟩).isLt
  rw [BitVec.toInt_eq_toNat_cond]
  omega

theorem row73 (i : S73x1x128.Idx) : S73x1x128.rowMajor i = ⟨(i 0).val * 128 + (i 2).val, by
    have h0 : (i 0).val < 73 := (i 0).isLt
    have h2 : (i 2).val < 128 := (i 2).isLt
    show _ < 9344
    omega⟩ := by
  refine Fin.ext ?_
  rw [Shape.rowMajor_val_three]
  show ((i 0).val * 1 + (i 1).val) * 128 + (i 2).val = _
  have : (i 1).val < 1 := (i 1).isLt
  simp only
  omega

/-! ## One tile -/

section

variable {F : FTy → Type} [FloatOps F]

theorem patch_in (o : Fin 2 → ℕ) (h0 : o 0 + 128 ≤ 640) (h1 : o 1 = 0) (u : (S128x256.Idx → F .f32) → S128x256.Idx → F .f32) (z : S640x256.Idx → F .f32)
    (g : Fin 128) (k : Fin 256) (i : S640x256.Idx) (hi0 : (i 0).val = o 0 + g.val) (hi1 : (i 1).val = k.val) :
    ∃ f : S128x256.Idx → F .f32, f (ix2 g k) = z i ∧ patch o u z i = u f (ix2 g k) := by
  have h : ∀ a, o a + S128x256.size a ≤ S640x256.size a := fun a => match a with
    | ⟨0, _⟩ => h0
    | ⟨1, _⟩ => by show o 1 + 256 ≤ 256; omega
  have he : (Rect.unit (s := S640x256) o S128x256.size h).emb (ix2 g k : S128x256.Idx) = i := by
    funext b
    refine Fin.ext ?_
    match b with
    | ⟨0, _⟩ => show o 0 + 1 * g.val = (i 0).val; omega
    | ⟨1, _⟩ => show o 1 + 1 * k.val = (i 1).val; omega
  refine ⟨fun p => z ((Rect.unit (s := S640x256) o S128x256.size h).emb p), congrArg z he, ?_⟩
  unfold patch
  rw [dif_pos h, ← he]
  exact Rect.overlay_emb _ _ _ _

theorem patch_out (o : Fin 2 → ℕ) (u : (S128x256.Idx → F .f32) → S128x256.Idx → F .f32) (z : S640x256.Idx → F .f32)
    (i : S640x256.Idx) (hi : (i 0).val < o 0 ∨ o 0 + 128 ≤ (i 0).val) : patch o u z i = z i := by
  unfold patch
  split
  · refine Rect.overlay_of_not_mem _ _ _ fun hm => ?_
    have := (Rect.mem_set_unit.mp hm) 0
    have h' : o 0 ≤ (i 0).val ∧ (i 0).val < o 0 + 128 := this
    omega
  · rfl

end

/-- A tile adds to each group's sum its rows of that group. -/
theorem patch_tile (T : Fin 73) (o : Fin 2 → ℕ) (h0 : o 0 = Table.first T.val) (h1 : o 1 = 0)
    (ms : FVec Ideal S1792x256 .bf16) (lo hi : Vec Ideal S1x1x128 .i32)
    (hlo : ∀ c : Fin 128, lo (ix3 0 0 c) = lit1 ⟨T.val * 128 + c.val, by omega⟩) (hhi : ∀ c : Fin 128, hi (ix3 0 0 c) = lit2 ⟨T.val * 128 + c.val, by omega⟩)
    (H : ℕ → Fin 256 → EReal) (hms : ∀ r k, ms (ix2 r k) = H (1792 * T.val + r.val) k) (z : S640x256.Idx → Ideal .f32)
    (g : Fin 640) (hg : g.val < 512) (k : Fin 256) :
    patch (F := Ideal) o (k2_pay1 (F := Ideal) ms (iota .tc S1792x128 32 [0] iota_S1792x128_d0_w32) lo hi) z (ix2 g k : S640x256.Idx) = (z (ix2 g k) + Spec.tile H g.val T.val k : EReal) := by
  obtain ⟨f1, f2, f3⟩ := Table.first_words T
  by_cases hw : o 0 ≤ g.val ∧ g.val < o 0 + 128
  · obtain ⟨f, hf, hp⟩ := patch_in (F := Ideal) o (by omega) h1 (k2_pay1 (F := Ideal) ms (iota .tc S1792x128 32 [0] iota_S1792x128_d0_w32) lo hi) z
      ⟨g.val - o 0, by omega⟩ k (ix2 g k) (by show g.val = _; simp only; omega) rfl
    rw [hp, Pay.add2, hf]
    unfold Spec.tile
    refine congrArg (z (ix2 g k) + ·) (Finset.sum_congr rfl fun r _ => ?_)
    have e : Table.first T.val + (g.val - o 0) = g.val := by omega
    have hl := lo_int T ⟨g.val - o 0, by omega⟩ (by simp only; omega)
    have hh := hi_int T ⟨g.val - o 0, by omega⟩ (by simp only; omega)
    simp only [e] at hl hh
    rw [hlo, hhi, hl, hh, hms]
    refine if_congr ?_ rfl rfl
    unfold Spec.InGrp
    omega
  · rw [patch_out (F := Ideal) o _ z (ix2 g k) (by show g.val < _ ∨ _ ≤ g.val; omega)]
    have hz : Spec.tile H g.val T.val k = 0 := by
      refine Finset.sum_eq_zero fun r _ => if_neg fun hin => ?_
      obtain ⟨ha, hb⟩ := hin
      have hr := r.isLt
      by_cases hlt : g.val < o 0
      · have := Spec.off_mono (a := g.val + 1) (b := Table.first T.val) (by omega)
        omega
      · have := Spec.off_mono (a := Table.first T.val + 128) (b := g.val) (by omega)
        omega
    rw [hz, add_zero]

end Cert.Proof.Run

end
-- ==== Proof.Value.Carried.lean ====
/-
  The accumulators of the two TensorCore calls after every tile: each group's sum so far.
-/
module

public import proofs.«01_k».proof.Proof.Value.Sums
public import proofs.«01_k».proof.Proof.Main

@[expose] public section

noncomputable section

namespace Cert.Proof.Run

open Cert.KernelIdeal Cert.KernelIdeal.Gen
open Idealize.ShloMosaic Idealize.ShloMosaic.TcCoe
open Idealize.ShloMosaic.Pipeline (Dat Cfg Window)

namespace RA

variable {c : Dev nD} {V : (b : Ref sig .tc) → Buf (Elt Ideal) ((c : Thread nD τ).loc b)}

/-- The window's first group, from the prefetched table. -/
theorem off_first (t : Fin (cfg2 (tabs (F := Ideal) 0)).N) :
    k2_off2 ((tabs (F := Ideal) 0).1 0 (SA.slot (pt (tabs 0) t))) 0 = Table.first (t.val + 0) := by
  have hrow : S36.rowMajor (SA.slot (pt (tabs (F := Ideal) 0) t)) = ⟨t.val, lt_N t⟩ := by
    refine Fin.ext ?_
    rw [Shape.rowMajor_val_one]
    show ((pt (tabs (F := Ideal) 0) t) 0).val = _
    rw [pt_val]
  show (lit0 (S36.rowMajor (SA.slot (pt (tabs (F := Ideal) 0) t)))).toNat = _
  rw [hrow]
  unfold Table.first; rw [dif_pos (by have := lt_N t; omega)]; rfl

variable (hlo : V main_c_0 = fun i => lit1 (S73x1x128.rowMajor i)) (hhi : V main_c_1 = fun i => lit2 (S73x1x128.rowMajor i))
  (H : ℕ → Fin 256 → EReal) (hms : ∀ t r k, msg c (tabs (F := Ideal) 0) V t (ix2 r k) = H (1792 * (t.val + 0) + r.val) k)

include hlo hhi hms in
/-- One tile. -/
theorem tile_at (t : Fin (cfg2 (tabs (F := Ideal) 0)).N) (z : S640x256.Idx → Ideal .f32) (g : Fin 640) (hg : g.val < 512) (k : Fin 256) :
    patch (F := Ideal) (k2_off2 ((tabs (F := Ideal) 0).1 0 (SA.slot (pt (tabs 0) t)))) (add c (tabs 0) V t) z (ix2 g k : S640x256.Idx)
      = (z (ix2 g k) + Spec.tile H g.val (t.val + 0) k : EReal) := by
  have hN := lt_N t
  refine patch_tile ⟨t.val + 0, by omega⟩ _ (off_first t) rfl (msg c (tabs 0) V t) (blk c (tabs 0) V 2 t) (blk c (tabs 0) V 3 t)
    (fun q => ?_) (fun q => ?_) H (fun r k => hms t r k) z g hg k
  · refine (at2 t q (ix3 ⟨t.val + 0, by omega⟩ 0 q) rfl rfl).trans ?_
    rw [hlo]
    exact congrArg lit1 (row73 _)
  · refine (at3 t q (ix3 ⟨t.val + 0, by omega⟩ 0 q) rfl rfl).trans ?_
    rw [hhi]
    exact congrArg lit2 (row73 _)

include hlo hhi hms in
/-- The accumulator after tile `n`. -/
theorem acc_part (hz : ∀ (g : Fin 640) (k : Fin 256), g.val < 512 → V main_v12 (ix2 g k : S640x256.Idx) = Spec.part H g.val 0 k) :
    ∀ (n : ℕ) (h : n < (cfg2 (tabs (F := Ideal) 0)).N) (g : Fin 640) (_ : g.val < 512) (k : Fin 256),
      acc c (tabs (F := Ideal) 0) V n h (ix2 g k : S640x256.Idx) = Spec.part H g.val (n + 0 + 1) k := by
  intro n
  induction n with
  | zero =>
    intro h g hg k
    refine (tile_at hlo hhi H hms ⟨0, h⟩ _ g hg k).trans ?_
    rw [Spec.part_succ]
    refine congrArg₂ (fun a b : EReal => a + b) ?_ (by simp only [Nat.zero_add])
    refine (congrFun (show k2_pay2 (F := Ideal) (blk c (tabs 0) V 4 ⟨0, h⟩) = V main_v12 from ?_) _).trans ((hz g k hg).trans (by simp only [Nat.zero_add]))
    rw [at4]
    unfold k2_pay2
    exact shapeCast_self _ _
  | succ n ih =>
    intro h g hg k
    refine (tile_at hlo hhi H hms ⟨n + 1, h⟩ _ g hg k).trans ?_
    rw [ih (Nat.lt_of_succ_lt h) g hg k, Spec.part_succ H g.val (n + 1 + 0)]

end RA

namespace RB

variable {c : Dev nD} {V : (b : Ref sig .tc) → Buf (Elt Ideal) ((c : Thread nD τ).loc b)}

/-- The window's first group, from the prefetched table. -/
theorem off_first (t : Fin (cfg3 (tabs (F := Ideal) 1)).N) :
    k3_off2 ((tabs (F := Ideal) 1).1 0 (SB.slot (pt (tabs 1) t))) 0 = Table.first (t.val + 36) := by
  have hrow : S37.rowMajor (SB.slot (pt (tabs (F := Ideal) 1) t)) = ⟨t.val + 36 - 36, by have := lt_N t; show _ < 37; omega⟩ := by
    refine Fin.ext ?_
    rw [Shape.rowMajor_val_one]
    show ((pt (tabs (F := Ideal) 1) t) 0).val = _
    rw [pt_val]
    simp only; omega
  show (lit3 (S37.rowMajor (SB.slot (pt (tabs (F := Ideal) 1) t)))).toNat = _
  rw [hrow]
  unfold Table.first; rw [dif_neg (by omega), dif_pos (by have := lt_N t; omega)]; rfl

variable (hlo : V main_c_0 = fun i => lit1 (S73x1x128.rowMajor i)) (hhi : V main_c_1 = fun i => lit2 (S73x1x128.rowMajor i))
  (H : ℕ → Fin 256 → EReal) (hms : ∀ t r k, msg c (tabs (F := Ideal) 1) V t (ix2 r k) = H (1792 * (t.val + 36) + r.val) k)

include hlo hhi hms in
/-- One tile. -/
theorem tile_at (t : Fin (cfg3 (tabs (F := Ideal) 1)).N) (z : S640x256.Idx → Ideal .f32) (g : Fin 640) (hg : g.val < 512) (k : Fin 256) :
    patch (F := Ideal) (k3_off2 ((tabs (F := Ideal) 1).1 0 (SB.slot (pt (tabs 1) t)))) (add c (tabs 1) V t) z (ix2 g k : S640x256.Idx)
      = (z (ix2 g k) + Spec.tile H g.val (t.val + 36) k : EReal) := by
  have hN := lt_N t
  refine patch_tile ⟨t.val + 36, by omega⟩ _ (off_first t) rfl (msg c (tabs 1) V t) (blk c (tabs 1) V 2 t) (blk c (tabs 1) V 3 t)
    (fun q => ?_) (fun q => ?_) H (fun r k => hms t r k) z g hg k
  · refine (at2 t q (ix3 ⟨t.val + 36, by omega⟩ 0 q) rfl rfl).trans ?_
    rw [hlo]
    exact congrArg lit1 (row73 _)
  · refine (at3 t q (ix3 ⟨t.val + 36, by omega⟩ 0 q) rfl rfl).trans ?_
    rw [hhi]
    exact congrArg lit2 (row73 _)

include hlo hhi hms in
/-- The accumulator after tile `n`. -/
theorem acc_part (hz : ∀ (g : Fin 640) (k : Fin 256), g.val < 512 → V main_v13_1 (ix2 g k : S640x256.Idx) = Spec.part H g.val 36 k) :
    ∀ (n : ℕ) (h : n < (cfg3 (tabs (F := Ideal) 1)).N) (g : Fin 640) (_ : g.val < 512) (k : Fin 256),
      acc c (tabs (F := Ideal) 1) V n h (ix2 g k : S640x256.Idx) = Spec.part H g.val (n + 36 + 1) k := by
  intro n
  induction n with
  | zero =>
    intro h g hg k
    refine (tile_at hlo hhi H hms ⟨0, h⟩ _ g hg k).trans ?_
    rw [Spec.part_succ]
    refine congrArg₂ (fun a b : EReal => a + b) ?_ (by simp only [Nat.zero_add])
    refine (congrFun (show k3_pay3 (F := Ideal) (blk c (tabs 1) V 4 ⟨0, h⟩) = V main_v13_1 from ?_) _).trans ((hz g k hg).trans (by simp only [Nat.zero_add]))
    rw [at4]
    unfold k3_pay3
    exact shapeCast_self _ _
  | succ n ih =>
    intro h g hg k
    refine (tile_at hlo hhi H hms ⟨n + 1, h⟩ _ g hg k).trans ?_
    rw [ih (Nat.lt_of_succ_lt h) g hg k, Spec.part_succ H g.val (n + 1 + 36)]

end RB

end Cert.Proof.Run

end
-- ==== Proof.Value.Result.lean ====
/-
  The result as a function of the arguments, over the extended reals.
-/
module

public import proofs.«01_k».proof.Proof.Value.Spec
public import proofs.«01_k».proof.KernelIdeal

@[expose] public section

noncomputable section

namespace Cert.Proof.Spec

open Cert.KernelIdeal
open Idealize.ShloMosaic

/-- The arguments but the group sizes. -/
structure Args where
  x : S50000x128.Idx → EReal
  g : S130816.Idx → BitVec 32
  e : S130816x128.Idx → EReal
  w1 : S256x256.Idx → EReal
  b1 : S256.Idx → EReal
  w2 : S256x256.Idx → EReal
  b2 : S256.Idx → EReal
  w3 : S256x128.Idx → EReal
  b3 : S128.Idx → EReal
  p1 : S128x256.Idx → EReal
  c1 : S256.Idx → EReal
  p2 : S256x128.Idx → EReal
  c2 : S128.Idx → EReal

variable (A : Args)

/-- The gathered row `j`. -/
def Args.pick (j : Fin 130816) (q : Fin 128) : EReal := A.x (ix2 (Fin.ofNat 50000 (A.g (ix1 j)).toNat) q)

/-- The hidden layer of row `j`. -/
def Args.hidden (j : Fin 130816) (k : Fin 256) : EReal :=
  hid (fun q : Fin 128 => A.pick j q) (fun q => A.e (ix2 j q)) (fun q p => A.w1 (ix2 (q.castLE (by decide) : Fin 256) p))
    (fun q p => A.w1 (ix2 (Fin.natAdd 128 q : Fin 256) p)) (fun p : Fin 256 => A.b1 (ix1 p)) (fun p k => A.w2 (ix2 p k)) (fun k => A.b2 (ix1 k)) k

/-- The same by the row's number. -/
def Args.H (n : ℕ) (k : Fin 256) : EReal := if h : n < 130816 then A.hidden ⟨n, h⟩ k else 0

theorem Args.H_of_lt {n : ℕ} (h : n < 130816) (k : Fin 256) : A.H n k = A.hidden ⟨n, h⟩ k := dif_pos h

/-- The sum of the third layer over the rows of group `g`. -/
def Args.agg (g : ℕ) (o : Fin 128) : EReal :=
  ∑ j ∈ Finset.univ.filter (grp g), ((∑ k : Fin 256, A.hidden j k * A.w3 (ix2 k o)) + A.b3 (ix1 o))

/-- The result. -/
def Args.result (g : Fin 512) (o : Fin 128) : EReal :=
  fin2 (H := Fin 256) (fun q : Fin 128 => A.agg g.val q) (fun q p => A.p1 (ix2 q p)) (fun p => A.c1 (ix1 p)) (fun p o => A.p2 (ix2 p o)) (fun o => A.c2 (ix1 o)) o

/-- The third layer of a group's sum. -/
theorem Args.agg_eq (g : Fin 512) (o : Fin 128) :
    A.agg g.val o = (∑ k : Fin 256, (∑ j ∈ Finset.univ.filter (grp g.val), A.hidden j k) * A.w3 (ix2 k o)) + ((g.val : ℝ) : EReal) * A.b3 (ix1 o) := by
  unfold Args.agg
  rw [third _ (fun j k => A.hidden j k) (fun j k => hid_nonneg _ _ _ _ _ _ _ k) (fun k => A.w3 (ix2 k o)), card_grp g.isLt]

end Cert.Proof.Spec

end
-- ==== Proof.Value.KernelValue.lean ====
/-
  The program's result as a function of its arguments, over the extended reals.
-/
module

public import proofs.«01_k».proof.Proof.Value.Carried
public import proofs.«01_k».proof.Proof.Value.Result
public import proofs.«01_k».proof.Proof.Launch
public import proofs.«01_k».proof.Proof.Kept

@[expose] public section

noncomputable section

namespace Cert.Proof.Run

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (d : Dev nD)

/-- A device's arguments at the start. -/
def args : Spec.Args where
  x := m (d, Proc.devRef .tc main_arg0)
  g := m (d, Proc.devRef .tc main_arg1)
  e := m (d, Proc.devRef .tc main_arg3)
  w1 := m (d, Proc.devRef .tc main_arg4)
  b1 := m (d, Proc.devRef .tc main_arg5)
  w2 := m (d, Proc.devRef .tc main_arg6)
  b2 := m (d, Proc.devRef .tc main_arg7)
  w3 := m (d, Proc.devRef .tc main_arg8)
  b3 := m (d, Proc.devRef .tc main_arg9)
  p1 := m (d, Proc.devRef .tc main_arg10)
  c1 := m (d, Proc.devRef .tc main_arg11)
  p2 := m (d, Proc.devRef .tc main_arg12)
  c2 := m (d, Proc.devRef .tc main_arg13)

/-! ## The arrays when the first TensorCore call is entered -/

theorem w_c0 : W3 m d (Proc.devRef .tc main_c_0) = fun i => lit1 (S73x1x128.rowMajor i) := by
  rw [W3_keep m d (by decide) (by decide) (by decide)]; rfl
theorem w_c1 : W3 m d (Proc.devRef .tc main_c_1) = fun i => lit2 (S73x1x128.rowMajor i) := by
  rw [W3_keep m d (by decide) (by decide) (by decide)]; rfl
theorem w_v1 (q : Fin 128) (p : Fin 256) : W3 m d (Proc.devRef .tc main_v1) (ix2 q p : S128x256.Idx) = (args m d).w1 (ix2 (q.castLE (by decide)) p : S256x256.Idx) := by
  rw [W3_keep m d (by decide) (by decide) (by decide)]
  show truncf (F := Ideal) .bf16 (extractStridedSlice S128x256 ![0, 0] (m (d, Proc.devRef .tc main_arg4)) slices_S256x256_S128x256_0_0) bitsLt_bf16_f32 (ix2 q p) = _
  pointwise [args]
  rfl
theorem w_v3 (q : Fin 128) (p : Fin 256) : W3 m d (Proc.devRef .tc main_v3) (ix2 q p : S128x256.Idx) = (args m d).w1 (ix2 (Fin.natAdd 128 q) p : S256x256.Idx) := by
  rw [W3_keep m d (by decide) (by decide) (by decide)]
  show truncf (F := Ideal) .bf16 (extractStridedSlice S128x256 ![128, 0] (m (d, Proc.devRef .tc main_arg4)) slices_S256x256_S128x256_128_0) bitsLt_bf16_f32 (ix2 q p) = _
  pointwise [args]
  rfl
theorem w_v5 : W3 m d (Proc.devRef .tc main_v5) = (args m d).w2 := by
  rw [W3_keep m d (by decide) (by decide) (by decide)]; rfl
theorem w_v4 (p : Fin 256) : W3 m d (Proc.devRef .tc main_v4) (ix2 0 p : S1x256.Idx) = (args m d).b1 (ix1 p : S256.Idx) := by
  rw [W3_keep m d (by decide) (by decide) (by decide)]
  show shapeCast S1x256 (m (d, Proc.devRef .tc main_arg5)) shapeCasts_S256_S1x256 (ix2 0 p) = _
  pointwise [args]
theorem w_v6 (p : Fin 256) : W3 m d (Proc.devRef .tc main_v6) (ix2 0 p : S1x256.Idx) = (args m d).b2 (ix1 p : S256.Idx) := by
  rw [W3_keep m d (by decide) (by decide) (by decide)]
  show shapeCast S1x256 (m (d, Proc.devRef .tc main_arg7)) shapeCasts_S256_S1x256 (ix2 0 p) = _
  pointwise [args]
theorem w_v7 (p : Fin 128) : W3 m d (Proc.devRef .tc main_v7) (ix2 0 p : S1x128.Idx) = (args m d).b3 (ix1 p : S128.Idx) := by
  rw [W3_keep m d (by decide) (by decide) (by decide)]
  show shapeCast S1x128 (m (d, Proc.devRef .tc main_arg9)) shapeCasts_S128_S1x128 (ix2 0 p) = _
  pointwise [args]
theorem w_v8 (p : Fin 256) : W3 m d (Proc.devRef .tc main_v8) (ix2 0 p : S1x256.Idx) = (args m d).c1 (ix1 p : S256.Idx) := by
  rw [W3_keep m d (by decide) (by decide) (by decide)]
  show shapeCast S1x256 (m (d, Proc.devRef .tc main_arg11)) shapeCasts_S256_S1x256 (ix2 0 p) = _
  pointwise [args]
theorem w_v9 (p : Fin 128) : W3 m d (Proc.devRef .tc main_v9) (ix2 0 p : S1x128.Idx) = (args m d).c2 (ix1 p : S128.Idx) := by
  rw [W3_keep m d (by decide) (by decide) (by decide)]
  show shapeCast S1x128 (m (d, Proc.devRef .tc main_arg13)) shapeCasts_S128_S1x128 (ix2 0 p) = _
  pointwise [args]
theorem w_v12 (g : Fin 640) (k : Fin 256) : W3 m d (Proc.devRef .tc main_v12) (ix2 g k : S640x256.Idx) = (0 : EReal) := by
  show broadcastInDim S640x256 ![] bcast_S_S640x256 (constant (F := Ideal) S_ .f32 0x00000000#32) (ix2 g k) = _
  pointwise

theorem w_arg3 : W3 m d (Proc.devRef .tc main_arg3) = (args m d).e := by
  rw [W3_keep m d (by decide) (by decide) (by decide), W1_keep m d (by decide)]; rfl
theorem w_arg8 : W3 m d (Proc.devRef .tc main_arg8) = (args m d).w3 := by
  rw [W3_keep m d (by decide) (by decide) (by decide), W1_keep m d (by decide)]; rfl
theorem w_arg10 : W3 m d (Proc.devRef .tc main_arg10) = (args m d).p1 := by
  rw [W3_keep m d (by decide) (by decide) (by decide), W1_keep m d (by decide)]; rfl
theorem w_arg12 : W3 m d (Proc.devRef .tc main_arg12) = (args m d).p2 := by
  rw [W3_keep m d (by decide) (by decide) (by decide), W1_keep m d (by decide)]; rfl
theorem picked_eq (j : Fin 130816) (q : Fin 128) : picked (F := Ideal) (m (reprLoc d)) (m (gdLoc d)) j q = (args m d).pick j q := by
  unfold picked Spec.Args.pick
  refine congrArg (args m d).x (funext fun b => ?_)
  match b with
  | ⟨0, _⟩ => exact congrArg (fun i => Fin.ofNat 50000 ((args m d).g i).toNat) (funext fun b => match b with | ⟨0, _⟩ => rfl)
  | ⟨1, _⟩ => rfl
theorem w_v10 (r : Fin 64512) (q : Fin 128) :
    W3 m d (Proc.devRef .tc main_v10) (ix2 r q : S64512x128.Idx) = (args m d).pick (r.castLE (by decide)) q := by
  rw [show W3 m d (Proc.devRef .tc main_v10) = W2 m d (Proc.devRef .tc main_v10) from keepB _ (by decide), W2_v10]
  exact picked_eq m d _ q
theorem w_v11 (r : Fin 66304) (q : Fin 128) :
    W3 m d (Proc.devRef .tc main_v11) (ix2 r q : S66304x128.Idx) = (args m d).pick ((Fin.natAdd 64512 r).cast rfl) q := by
  rw [show W3 m d (Proc.devRef .tc main_v11) = W2 m d (Proc.devRef .tc main_v11) from keepB _ (by decide), W2_v11]
  exact picked_eq m d _ q

/-! ## The messages -/

/-- Equal arguments have equal last layers. -/
theorem fin2_congr {a a' : Fin 128 → EReal} {w w' : Fin 128 → Fin 256 → EReal} {b b' : Fin 256 → EReal} {v v' : Fin 256 → Fin 128 → EReal} {c c' : Fin 128 → EReal}
    (ha : ∀ q, a q = a' q) (hw : ∀ q p, w q p = w' q p) (hb : ∀ p, b p = b' p) (hv : ∀ p o, v p o = v' p o) (hc : ∀ o, c o = c' o) (o : Fin 128) :
    Spec.fin2 a w b v c o = Spec.fin2 a' w' b' v' c' o := by
  obtain rfl : a = a' := funext ha
  obtain rfl : w = w' := funext fun q => funext (hw q)
  obtain rfl : b = b' := funext hb
  obtain rfl : v = v' := funext fun q => funext (hv q)
  obtain rfl : c = c' := funext hc
  rfl

/-- Equal arguments have equal hidden layers. -/
theorem hid_congr {x x' e e' : Fin 128 → EReal} {wa wa' wb wb' : Fin 128 → Fin 256 → EReal} {b b' : Fin 256 → EReal} {w w' : Fin 256 → Fin 256 → EReal} {c c' : Fin 256 → EReal}
    (hx : ∀ q, x q = x' q) (he : ∀ q, e q = e' q) (ha : ∀ q p, wa q p = wa' q p) (hb : ∀ q p, wb q p = wb' q p) (hbb : ∀ p, b p = b' p)
    (hw : ∀ p k, w p k = w' p k) (hc : ∀ k, c k = c' k) (k : Fin 256) : Spec.hid x e wa wb b w c k = Spec.hid x' e' wa' wb' b' w' c' k := by
  obtain rfl : x = x' := funext hx
  obtain rfl : e = e' := funext he
  obtain rfl : wa = wa' := funext fun q => funext (ha q)
  obtain rfl : wb = wb' := funext fun q => funext (hb q)
  obtain rfl : b = b' := funext hbb
  obtain rfl : w = w' := funext fun q => funext (hw q)
  obtain rfl : c = c' := funext hc
  rfl

theorem msg_A (t : Fin (cfg2 (tabs (F := Ideal) 0)).N) (r : Fin 1792) (k : Fin 256) :
    RA.msg d (tabs (F := Ideal) 0) (fun b => W3 m d (Proc.devRef .tc b)) t (ix2 r k) = (args m d).H (1792 * (t.val + 0) + r.val) k := by
  have ht := RA.lt_N t
  have hn : 1792 * (t.val + 0) + r.val < 130816 := by omega
  rw [Spec.Args.H_of_lt _ hn]
  unfold RA.msg
  refine (Pay.msg2 _ _ _ _ _ _ _ r k).trans (hid_congr (fun q => ?_) (fun q => ?_) (fun q p => ?_) (fun q p => ?_) (fun p => ?_) (fun p k => ?_) (fun k => ?_) k)
  · exact (RA.at0 t r q (ix2 ⟨1792 * t.val + r.val, by omega⟩ q) rfl rfl).trans (w_v10 m d _ q)
  · exact (RA.at1 t r q (ix2 ⟨1792 * (t.val + 0) + r.val, hn⟩ q) rfl rfl).trans (congrFun (w_arg3 m d) _)
  · exact (congrFun (RA.at5 t) _).trans (w_v1 m d q p)
  · exact (congrFun (RA.at6 t) _).trans (w_v3 m d q p)
  · exact (congrFun (RA.at7 t) _).trans (w_v4 m d p)
  · exact (congrFun (RA.at8 t) _).trans (congrFun (w_v5 m d) _)
  · exact (congrFun (RA.at9 t) _).trans (w_v6 m d k)

variable {m d}

theorem msg_B {V₁ : Valuation τ sig (Elt Ideal)} (h : Left tabs (W3 m d) 0 d V₁) (t : Fin (cfg3 (tabs (F := Ideal) 1)).N) (r : Fin 1792) (k : Fin 256) :
    RB.msg d (tabs (F := Ideal) 1) (fun b => V₁ (Proc.devRef .tc b)) t (ix2 r k) = (args m d).H (1792 * (t.val + 36) + r.val) k := by
  have ht := RB.lt_N t
  have hn : 1792 * (t.val + 36) + r.val < 130816 := by omega
  rw [Spec.Args.H_of_lt _ hn]
  unfold RB.msg
  refine (Pay.msg2 _ _ _ _ _ _ _ r k).trans (hid_congr (fun q => ?_) (fun q => ?_) (fun q p => ?_) (fun q p => ?_) (fun p => ?_) (fun p k => ?_) (fun k => ?_) k)
  · refine (RB.at0 t r q (ix2 ⟨1792 * t.val + r.val, by omega⟩ q) rfl rfl).trans ((congrFun (kept0 h (by decide) (by decide)) _).trans ((w_v11 m d _ q).trans ?_))
    exact congrArg (fun j => (args m d).pick j q) (Fin.ext (by show 64512 + (1792 * t.val + r.val) = 1792 * (t.val + 36) + r.val; omega))
  · exact (RB.at1 t r q (ix2 ⟨1792 * (t.val + 36) + r.val, hn⟩ q) rfl rfl).trans ((congrFun (kept0 h (by decide) (by decide)) _).trans (congrFun (w_arg3 m d) _))
  · exact (congrFun (RB.at5 t) _).trans ((congrFun (kept0 h (by decide) (by decide)) _).trans (w_v1 m d q p))
  · exact (congrFun (RB.at6 t) _).trans ((congrFun (kept0 h (by decide) (by decide)) _).trans (w_v3 m d q p))
  · exact (congrFun (RB.at7 t) _).trans ((congrFun (kept0 h (by decide) (by decide)) _).trans (w_v4 m d p))
  · exact (congrFun (RB.at8 t) _).trans ((congrFun (kept0 h (by decide) (by decide)) _).trans (congrFun (w_v5 m d) _))
  · exact (congrFun (RB.at9 t) _).trans ((congrFun (kept0 h (by decide) (by decide)) _).trans (w_v6 m d k))

/-! ## The sums, and the result -/

theorem sums_A {V₁ : Valuation τ sig (Elt Ideal)} (h : Left tabs (W3 m d) 0 d V₁) (g : Fin 640) (k : Fin 256) (hg : g.val < 512) :
    V₁ (Proc.devRef .tc main_v13_1) (ix2 g k : S640x256.Idx) = Spec.part (args m d).H g.val 36 k := by
  rw [left_acc h]
  exact RA.acc_part (w_c0 m d) (w_c1 m d) (args m d).H (msg_A m d) (fun g k _ => (w_v12 m d g k).trans rfl) 35 _ g hg k

theorem sums_B {V₁ : Valuation τ sig (Elt Ideal)} (h : Left tabs (W3 m d) 0 d V₁) (n : (36 : ℕ) < (cfg3 (tabs (F := Ideal) 1)).N) (g : Fin 640) (k : Fin 256) (hg : g.val < 512) :
    RB.acc d (tabs (F := Ideal) 1) (fun b => V₁ (Proc.devRef .tc b)) 36 n (ix2 g k : S640x256.Idx) = ∑ j ∈ Finset.univ.filter (Spec.grp g.val), (args m d).hidden j k := by
  rw [RB.acc_part ((kept0 h (by decide) (by decide)).trans (w_c0 m d)) ((kept0 h (by decide) (by decide)).trans (w_c1 m d)) (args m d).H (msg_B h)
    (fun g k hg => sums_A h g k hg) 36 n g hg k]
  exact (Spec.part_all _ _ _).trans (Finset.sum_congr rfl fun j _ => Spec.Args.H_of_lt _ j.isLt k)

theorem ends_value {V : Valuation τ sig (Elt Ideal)} (h : Ends m d V) (g : Fin 512) (o : Fin 128) :
    V (Proc.devRef .tc main_v14_0) (ix2 g o : S512x128.Idx) = (args m d).result g o := by
  obtain ⟨V₁, l, l'⟩ := h
  rw [left_out l']
  unfold RB.out
  refine (Pay.last3 _ _ _ _ _ _ _ g o).trans ?_
  unfold Spec.Args.result
  have e1 : ∀ q, (∑ k : Fin 256, SB.top (RB.acc d (tabs (F := Ideal) 1) (fun b => V₁ (Proc.devRef .tc b)) 36 last1) (ix2 g k : S512x256.Idx) * RB.blk d (tabs 1) (fun b => V₁ (Proc.devRef .tc b)) 10 ⟨36, last1⟩ (ix2 k q : S256x128.Idx) : EReal)
      + ((g.val : ℝ) : EReal) * RB.blk d (tabs 1) (fun b => V₁ (Proc.devRef .tc b)) 11 ⟨36, last1⟩ (ix2 0 q : S1x128.Idx) = (args m d).agg g.val q := fun q => by
    rw [Spec.Args.agg_eq]
    refine congrArg₂ (fun a b : EReal => a + b) (Finset.sum_congr rfl fun k _ => congrArg₂ (fun a b : EReal => a * b) ?_ ?_) (congrArg (fun b : EReal => ((g.val : ℝ) : EReal) * b) ?_)
    · refine Eq.trans ?_ (sums_B l last1 ⟨g.val, by omega⟩ k g.isLt)
      exact congrArg (RB.acc d (tabs (F := Ideal) 1) (fun b => V₁ (Proc.devRef .tc b)) 36 last1) (funext fun b => Fin.ext (match b with | ⟨0, _⟩ => by show 0 + 1 * g.val = g.val; omega | ⟨1, _⟩ => by show 0 + 1 * k.val = k.val; omega))
    · exact (congrFun (RB.at10 _) _).trans (congrFun ((kept0 l (by decide) (by decide)).trans (w_arg8 m d)) _)
    · exact (congrFun (RB.at11 _) _).trans ((congrFun (kept0 l (by decide) (by decide)) _).trans (w_v7 m d q))
  have e2 : ∀ (q : Fin 128) (p : Fin 256), RB.blk d (tabs 1) (fun b => V₁ (Proc.devRef .tc b)) 12 ⟨36, last1⟩ (ix2 q p : S128x256.Idx) = (args m d).p1 (ix2 q p) := fun q p =>
    (congrFun (RB.at12 _) _).trans (congrFun ((kept0 l (by decide) (by decide)).trans (w_arg10 m d)) _)
  have e3 : ∀ p : Fin 256, RB.blk d (tabs 1) (fun b => V₁ (Proc.devRef .tc b)) 13 ⟨36, last1⟩ (ix2 0 p : S1x256.Idx) = (args m d).c1 (ix1 p) := fun p =>
    (congrFun (RB.at13 _) _).trans ((congrFun (kept0 l (by decide) (by decide)) _).trans (w_v8 m d p))
  have e4 : ∀ (p : Fin 256) (o : Fin 128), RB.blk d (tabs 1) (fun b => V₁ (Proc.devRef .tc b)) 14 ⟨36, last1⟩ (ix2 p o : S256x128.Idx) = (args m d).p2 (ix2 p o) := fun p o =>
    (congrFun (RB.at14 _) _).trans (congrFun ((kept0 l (by decide) (by decide)).trans (w_arg12 m d)) _)
  have e5 : ∀ o : Fin 128, RB.blk d (tabs 1) (fun b => V₁ (Proc.devRef .tc b)) 15 ⟨36, last1⟩ (ix2 0 o : S1x128.Idx) = (args m d).c2 (ix1 o) := fun o =>
    (congrFun (RB.at15 _) _).trans ((congrFun (kept0 l (by decide) (by decide)) _).trans (w_v9 m d o))
  exact fin2_congr e1 e2 e3 e4 e5 o

end Cert.Proof.Run

end
-- ==== Proof.Value.Stages.lean ====
/-
  The reference program's result, in named stages.
-/
module

public import proofs.«01_k».proof.Proof.Gen.ReferenceIdeal.Run
public import Idealize.ShloMosaic.PureOps.Ideal

@[expose] public section

noncomputable section

namespace Cert.Proof.Stage

open Cert.ReferenceIdeal Cert.ReferenceIdeal.Gen Cert.ReferenceIdeal.Value
open Idealize.ShloMosaic Idealize.ShloMosaic.TcCoe

/-- The group sizes, moved up by one place and with a zero put first. -/
def moved (z : IVec S512 32) : IVec S512 32 :=
  Host.scatter scatter_S512_S1_S__n_0_0_0 (fun _ b => b)
    (concatenate S512 0 [⟨S1, extractStridedSlice S1 ![511] z slices_S512_S1_511⟩, ⟨S511, extractStridedSlice S511 ![0] z slices_S512_S511_0⟩] concatenates_S1_S511_S512_d0)
    (broadcastInDim S1 ![] bcast_S_S1 (constantI S_ 32 0#32)) (constantI S_ 32 0#32)

/-- Where each group starts. -/
def starts (y : IVec S512 32) : IVec S512 32 :=
  Host.reduceWindow IntOp.addi ![512] ![1] ![511] ![0] y (broadcastInDim S_ ![] bcast_S_S_ (constantI S_ 32 0#32)) reduceWindows_S512_S512_w512s1p511_0 h_S_

/-- The starts as a column of indices. -/
def column (y : IVec S512 32) : IVec S512x1 32 :=
  broadcastInDim S512x1 ![0] bcast_S512_S512x1_0 (select (cmpi .slt y (broadcastInDim S512 ![] bcast_S_S512 (constantI S_ 32 0#32)))
    (addi y (broadcastInDim S512 ![] bcast_S_S512 (constantI S_ 32 130816#32))) y)

/-- How many groups start at each row. -/
def marks (i : IVec S512x1 32) : IVec S130816 32 :=
  Host.scatter scatter_S130816_S512x1_S512_n_0_0_1 IntOp.addi (broadcastInDim S130816 ![] bcast_S_S130816 (constantI S_ 32 0#32)) i
    (broadcastInDim S512 ![] bcast_S_S512 (constantI S_ 32 1#32))

/-- The last group that has started by each row. -/
def group (y : IVec S130816 32) : IVec S130816 32 :=
  subi (Host.reduceWindow IntOp.addi ![130816] ![1] ![130815] ![0] y (broadcastInDim S_ ![] bcast_S_S_ (constantI S_ 32 0#32)) reduceWindows_S130816_S130816_w130816s1p130815_0 h_S_)
    (broadcastInDim S130816 ![] bcast_S_S130816 (constantI S_ 32 1#32))

/-- An index column for a table of so many rows. -/
def wrapped (n : BitVec 32) (y : IVec S130816 32) : IVec S130816x1 32 :=
  broadcastInDim S130816x1 ![0] bcast_S130816_S130816x1_0 (select (cmpi .slt y (broadcastInDim S130816 ![] bcast_S_S130816 (constantI S_ 32 0#32)))
    (addi y (broadcastInDim S130816 ![] bcast_S_S130816 (constantI S_ 32 n))) y)

/-- Which indices are in the table. -/
def inside (n : BitVec 32) (i : IVec S130816x1 32) : IVec S130816 1 :=
  Host.reduce IntOp.andi (andi (cmpi .sge i (broadcastInDim S130816x1 ![] bcast_S_S130816x1 (constantI S_ 32 0#32)))
    (cmpi .sle i (broadcastInDim S130816x1 ![0, 1] bcast_S1x1_S130816x1_0_1 (broadcastInDim S1x1 ![1] bcast_S1_S1x1_1 (constantI S1 32 n)))))
    (constantI S_ 1 1#1) reducesTo_S130816x1_S130816_d1 h_S_

/-- The group of each row. -/
def owner (y : IVec S130816 32) : IVec S130816 32 :=
  select (inside 511#32 (wrapped 512#32 y)) (Host.gather gather_S512_S130816x1_S130816_n_0_n_n_0_1_1 (iotaInDim S512 32 0) (wrapped 512#32 y))
    (broadcastInDim S130816 ![] bcast_S_S130816 (constantI S_ 32 2147483648#32))

/-- The group of each row, from the group sizes. -/
def owners (z : IVec S512 32) : IVec S130816 32 := owner (group (marks (column (starts (moved z)))))

/-- The gathered rows. -/
def rows (x : FVec Ideal S50000x128 .f32) (g : IVec S130816 32) : FVec Ideal S130816x128 .f32 :=
  select (broadcastInDim S130816x128 ![0] bcast_S130816_S130816x128_0 (inside 49999#32 (wrapped 50000#32 g)))
    (Host.gather gather_S50000x128_S130816x1_S130816x128_1_0_n_n_0_1_1128 x (wrapped 50000#32 g))
    (broadcastInDim S130816x128 ![] bcast_S_S130816x128 (constant (F := Ideal) S_ .f32 0x7FC00000#32))

/-- The first layer. -/
def layer1 (x e : FVec Ideal S130816x128 .f32) (w : FVec Ideal S256x256 .f32) (b : FVec Ideal S256 .f32) : FVec Ideal S130816x256 .f32 :=
  maximumf (addf (Host.dotGeneral dot_S130816x256_S256x256_S130816x256_1_0_0_1_n_n none
      (concatenate S130816x256 1 [⟨S130816x128, x⟩, ⟨S130816x128, e⟩] concatenates_S130816x128_S130816x128_S130816x256_d1 : FVec Ideal S130816x256 .f32) w)
    (broadcastInDim S130816x256 ![0, 1] bcast_S1x256_S130816x256_0_1 (broadcastInDim S1x256 ![1] bcast_S256_S1x256_1 b)))
    (broadcastInDim S130816x256 ![] bcast_S_S130816x256 (constant (F := Ideal) S_ .f32 0x00000000#32))

/-- The second. -/
def layer2 (x : FVec Ideal S130816x256 .f32) (w : FVec Ideal S256x256 .f32) (b : FVec Ideal S256 .f32) : FVec Ideal S130816x256 .f32 :=
  maximumf (addf (Host.dotGeneral dot_S130816x256_S256x256_S130816x256_1_0_0_1_n_n none x w)
    (broadcastInDim S130816x256 ![0, 1] bcast_S1x256_S130816x256_0_1 (broadcastInDim S1x256 ![1] bcast_S256_S1x256_1 b)))
    (broadcastInDim S130816x256 ![] bcast_S_S130816x256 (constant (F := Ideal) S_ .f32 0x00000000#32))

/-- The third. -/
def layer3 (x : FVec Ideal S130816x256 .f32) (w : FVec Ideal S256x128 .f32) (b : FVec Ideal S128 .f32) : FVec Ideal S130816x128 .f32 :=
  addf (Host.dotGeneral dot_S130816x256_S256x128_S130816x128_1_0_0_1_n_n none x w)
    (broadcastInDim S130816x128 ![0, 1] bcast_S1x128_S130816x128_0_1 (broadcastInDim S1x128 ![1] bcast_S128_S1x128_1 b))

/-- The sums by group. -/
def sums (i : IVec S130816 32) (y : FVec Ideal S130816x128 .f32) : FVec Ideal S512x128 .f32 :=
  Host.scatterAdd scatter_S512x128_S130816x1_S130816x128_1_0_0_1 (broadcastInDim S512x128 ![] bcast_S_S512x128 (constant (F := Ideal) S_ .f32 0x00000000#32))
    (broadcastInDim S130816x1 ![0] bcast_S130816_S130816x1_0 i) y

/-- The last two layers. -/
def last (a : FVec Ideal S512x128 .f32) (w : FVec Ideal S128x256 .f32) (b : FVec Ideal S256 .f32) (w' : FVec Ideal S256x128 .f32) (b' : FVec Ideal S128 .f32) :
    FVec Ideal S512x128 .f32 :=
  addf (Host.dotGeneral dot_S512x256_S256x128_S512x128_1_0_0_1_n_n none
    (maximumf (addf (Host.dotGeneral dot_S512x128_S128x256_S512x256_1_0_0_1_n_n none a w)
      (broadcastInDim S512x256 ![0, 1] bcast_S1x256_S512x256_0_1 (broadcastInDim S1x256 ![1] bcast_S256_S1x256_1 b)))
      (broadcastInDim S512x256 ![] bcast_S_S512x256 (constant (F := Ideal) S_ .f32 0x00000000#32))) w')
    (broadcastInDim S512x128 ![0, 1] bcast_S1x128_S512x128_0_1 (broadcastInDim S1x128 ![1] bcast_S128_S1x128_1 b'))

/-- The result, of the arguments. -/
def result (x : FVec Ideal S50000x128 .f32) (g : IVec S130816 32) (z : IVec S512 32) (e : FVec Ideal S130816x128 .f32) (w1 : FVec Ideal S256x256 .f32) (b1 : FVec Ideal S256 .f32)
    (w2 : FVec Ideal S256x256 .f32) (b2 : FVec Ideal S256 .f32) (w3 : FVec Ideal S256x128 .f32) (b3 : FVec Ideal S128 .f32)
    (p1 : FVec Ideal S128x256 .f32) (c1 : FVec Ideal S256 .f32) (p2 : FVec Ideal S256x128 .f32) (c2 : FVec Ideal S128 .f32) : FVec Ideal S512x128 .f32 :=
  last (sums (owners z) (layer3 (layer2 (layer1 (rows x g) e w1 b1) w2 b2) w3 b3)) p1 c1 p2 c2

variable (m : (ℓ : Loc nD τ sig) → Buf (Elt Ideal) ℓ) (c : Dev nD)

set_option maxRecDepth 8192 in
theorem res_eq : res_main_v45 (F := Ideal) m c
    = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  unfold res_main_v45 result last sums layer3 layer2 layer1 rows owners owner group marks column starts moved inside wrapped
  rfl

end Cert.Proof.Stage

end
-- ==== Proof.Value.Lands.lean ====
/-
  Where the reference program's two adding scatters put an update.
-/
module

public import proofs.«01_k».proof.Proof.Value.Stages
public import Idealize.ShloMosaic.Lib.Routing.OpsPair

@[expose] public section

namespace Cert.Proof.Stage

open Cert.ReferenceIdeal Cert.ReferenceIdeal.Gen
open Idealize.ShloMosaic Idealize.ShloMosaic.Routing
open Idealize.ShloMosaic.ValueIdx (ix0 ix1 ix2)

/-- A mark lands at the row its index names. -/
theorem mark_at (k : Fin 512) (i : IVec S512x1 32) (j : Fin 130816) :
    scatter_S130816_S512x1_S512_n_0_0_1.resultIdx? (ix1 k : S512.Idx) i = some (ix1 j : S130816.Idx) ↔ (i (ix2 k (0 : Fin 1))).toInt = (j.val : Int) := by
  have hw : scatter_S130816_S512x1_S512_n_0_0_1.window (ix1 k : S512.Idx) 0 = 0 := rfl
  have hs : scatter_S130816_S512x1_S512_n_0_0_1.start (ix1 k : S512.Idx) i 0 = (i (ix2 k (0 : Fin 1))).toInt := by
    unfold ScatterDims.start
    have hm : (0 : Fin 1) ∈ scatter_S130816_S512x1_S512_n_0_0_1.scatterDimsToOperandDims := List.mem_singleton.2 rfl
    rw [dif_pos hm]
    refine congrArg (fun x => (i x).toInt) (funext fun b => ?_)
    match b with
    | ⟨0, _⟩ => rfl
    | ⟨1, _⟩ => rfl
  refine (resultIdx?_ix1 _ _ _ _).trans ?_
  rw [hs, hw]
  omega

/-- A row is added to the group its index names. -/
theorem row_at (j : Fin 130816) (o : Fin 128) (i : IVec S130816x1 32) (g : Fin 512) (q : Fin 128) :
    scatter_S512x128_S130816x1_S130816x128_1_0_0_1.resultIdx? (ix2 j o : S130816x128.Idx) i = some (ix2 g q : S512x128.Idx)
      ↔ (i (ix2 j (0 : Fin 1))).toInt = (g.val : Int) ∧ o = q := by
  have hw0 : scatter_S512x128_S130816x1_S130816x128_1_0_0_1.window (ix2 j o : S130816x128.Idx) 0 = 0 := rfl
  have hw1 : scatter_S512x128_S130816x1_S130816x128_1_0_0_1.window (ix2 j o : S130816x128.Idx) 1 = o.val := rfl
  have hs0 : scatter_S512x128_S130816x1_S130816x128_1_0_0_1.start (ix2 j o : S130816x128.Idx) i 0 = (i (ix2 j (0 : Fin 1))).toInt := by
    unfold ScatterDims.start
    have hm : (0 : Fin 2) ∈ scatter_S512x128_S130816x1_S130816x128_1_0_0_1.scatterDimsToOperandDims := List.mem_singleton.2 rfl
    rw [dif_pos hm]
    refine congrArg (fun x => (i x).toInt) (funext fun b => ?_)
    match b with
    | ⟨0, _⟩ => rfl
    | ⟨1, _⟩ => rfl
  have hs1 : scatter_S512x128_S130816x1_S130816x128_1_0_0_1.start (ix2 j o : S130816x128.Idx) i 1 = 0 := by
    unfold ScatterDims.start
    have hm : ¬ (1 : Fin 2) ∈ scatter_S512x128_S130816x1_S130816x128_1_0_0_1.scatterDimsToOperandDims := fun h => absurd (List.mem_singleton.1 h) (by decide)
    rw [dif_neg hm]
  refine (resultIdx?_ix2 _ _ _ _ _).trans ?_
  rw [hs0, hs1, hw0, hw1, Fin.ext_iff]
  omega

end Cert.Proof.Stage
-- ==== Proof.Value.Numbers.lean ====
/-
  The reference program's group numbers.
-/
module

public import proofs.«01_k».proof.Proof.Value.Lands
public import proofs.«01_k».proof.Proof.Value.Spec
public import Idealize.ShloMosaic.Lib.Routing.OpsOne
public import Idealize.ShloMosaic.Lib.Routing.OpsSearch
public import Idealize.ShloMosaic.Lib.Routing.Count
public import Idealize.ShloMosaic.Lib.ReduceAll
public import Idealize.ShloMosaic.Lib.WordCmp
public import Idealize.ShloMosaic.Lib.Pointwise

@[expose] public section

namespace Cert.Proof.Stage

open Cert.ReferenceIdeal Cert.ReferenceIdeal.Gen
open Idealize.ShloMosaic hiding ix0 ix1 ix2
open Idealize.ShloMosaic.Routing
open Idealize.ShloMosaic.ValueIdx (ix0 ix1 ix2)

theorem toInt_small (n : ℕ) (h : n < 2147483648) : (BitVec.ofNat 32 n).toInt = (n : ℤ) := by
  rw [BitVec.toInt_eq_toNat_cond, BitVec.toNat_ofNat]
  omega

theorem moved_at (z : IVec S512 32) (hz : ∀ i : S512.Idx, z i = BitVec.ofNat 32 (i 0).val) (k : Fin 512) :
    moved z (ix1 k) = BitVec.ofNat 32 (k.val - 1) := by
  unfold moved
  refine (scatter_one_signed _ rfl rfl _ _ _ (0 : Fin 512) rfl k).trans ?_
  by_cases hk : k = 0
  · rw [if_pos hk, hk]; rfl
  · have h0 : k.val ≠ 0 := fun h => hk (Fin.ext h)
    rw [if_neg hk, concatenate_pair_apply, dif_neg (by show ¬ k.val < 1; omega)]
    unfold extractStridedSlice
    rw [hz]
    exact congrArg (BitVec.ofNat 32) (by show 0 + (k.val - 1) = k.val - 1; omega)

theorem sum_before (k : ℕ) : ((List.range (k + 1)).map fun i => i - 1).sum = Table.off k := by
  induction k with
  | zero => rfl
  | succ k ih =>
    rw [List.range_succ, List.map_append, List.sum_append, ih, Spec.off_succ]
    simp

theorem starts_at (z : IVec S512 32) (hz : ∀ i : S512.Idx, z i = BitVec.ofNat 32 (i 0).val) (k : Fin 512) :
    starts (moved z) (ix1 k) = BitVec.ofNat 32 (Table.off k.val) := by
  unfold starts
  refine (cumsum1 (N := 512) (Nm1 := 511) rfl _ (fun i => i - 1) (moved_at z hz) _ rfl _ _ k).trans ?_
  rw [sum_before]

theorem off_le (k : ℕ) (h : k < 512) : Table.off k ≤ 130305 := Spec.off_mono (show k ≤ 511 by omega)

theorem column_at (z : IVec S512 32) (hz : ∀ i : S512.Idx, z i = BitVec.ofNat 32 (i 0).val) (k : Fin 512) :
    column (starts (moved z)) (ix2 k (0 : Fin 1)) = BitVec.ofNat 32 (Table.off k.val) := by
  have h := off_le k.val k.isLt
  unfold column
  refine (bcCol _ _ k).trans ?_
  refine Eq.trans ?_ (starts_at z hz k)
  refine wrap_of_lt (w := 32) (starts (moved z) (ix1 k)) _ ?_
  rw [starts_at z hz k, BitVec.toNat_ofNat]
  omega

theorem foldl_marks {ι : Type} (hit : ι → Prop) [DecidablePred hit] (l : List ι) (n : ℕ) :
    l.foldl (fun a k => if hit k then IntOp.addi a 1#32 else a) (BitVec.ofNat 32 n) = BitVec.ofNat 32 (n + l.countP fun k => decide (hit k)) := by
  induction l generalizing n with
  | nil => rfl
  | cons k l ih =>
    rw [List.foldl_cons, List.countP_cons]
    by_cases h : hit k
    · rw [if_pos h, if_pos (decide_eq_true h), show IntOp.addi (BitVec.ofNat 32 n) 1#32 = BitVec.ofNat 32 (n + 1) from (BitVec.ofNat_add n 1).symm, ih]
      congr 1
      omega
    · rw [if_neg h, if_neg (by simpa using h), ih]
      rfl

theorem marks_at (z : IVec S512 32) (hz : ∀ i : S512.Idx, z i = BitVec.ofNat 32 (i 0).val) (j : Fin 130816) :
    marks (column (starts (moved z))) (ix1 j) = BitVec.ofNat 32 (Nat.count (fun k => Table.off k = j.val) 512) := by
  have hm : ∀ k : Fin 512, scatter_S130816_S512x1_S512_n_0_0_1.resultIdx? (ix1 k : S512.Idx) (column (starts (moved z))) = some (ix1 j : S130816.Idx)
      ↔ Table.off k.val = j.val := fun k => by
    have h := off_le k.val k.isLt
    rw [mark_at, column_at z hz, toInt_small _ (by omega)]
    omega
  unfold marks
  rw [scatter_at]
  refine Eq.trans ?_ (foldl_marks (fun n : Fin S512.numel => Table.off n.val = j.val) (List.finRange S512.numel) 0 |>.trans ?_)
  · refine congrArg (fun f => (List.finRange S512.numel).foldl f 0#32) (funext fun a => funext fun n => ?_)
    refine if_congr ?_ rfl rfl
    rw [symm1]
    exact hm (n.cast (numel1 512))
  · rw [Nat.zero_add, countP_finRange _ (fun n => Table.off n = j.val), numel1]

theorem group_at (z : IVec S512 32) (hz : ∀ i : S512.Idx, z i = BitVec.ofNat 32 (i 0).val) (j : Fin 130816) :
    group (marks (column (starts (moved z)))) (ix1 j) = BitVec.ofNat 32 (Nat.count (fun k => Table.off k ≤ j.val) 512) - 1#32 := by
  unfold group
  refine congrArg (· - 1#32) ?_
  refine (cumsum1 (N := 130816) (Nm1 := 130815) rfl _ (fun x => Nat.count (fun k => Table.off k = x) 512) (marks_at z hz) _ rfl _ _ j).trans ?_
  rw [sum_count_eq]

/-- A row's group. -/
theorem grp_count (j : Fin 130816) : 0 < Nat.count (fun k => Table.off k ≤ j.val) 512 ∧ Nat.count (fun k => Table.off k ≤ j.val) 512 ≤ 512
    ∧ Spec.grp (Nat.count (fun k => Table.off k ≤ j.val) 512 - 1) j := by
  have hd : ∀ a b, a ≤ b → b < 512 → Table.off b ≤ j.val → Table.off a ≤ j.val := fun a b h _ h' => (Spec.off_mono h).trans h'
  have hle : Nat.count (fun k => Table.off k ≤ j.val) 512 ≤ 512 := Nat.count_le _
  have h0 : 0 < Nat.count (fun k => Table.off k ≤ j.val) 512 := (lt_count_iff hd (r := 0) (by decide)).1 (Nat.zero_le _)
  refine ⟨h0, hle, (lt_count_iff hd (r := Nat.count (fun k => Table.off k ≤ j.val) 512 - 1) (by omega)).2 (by omega), ?_⟩
  rw [Nat.sub_add_cancel h0]
  rcases Nat.lt_or_ge (Nat.count (fun k => Table.off k ≤ j.val) 512) 512 with h | h
  · exact Nat.not_le.1 fun h' => Nat.lt_irrefl _ ((lt_count_iff hd h).1 h')
  · rw [Nat.le_antisymm hle h]
    exact j.isLt

theorem grp_unique {g g' : ℕ} {j : Fin 130816} (h : Spec.grp g j) (h' : Spec.grp g' j) : g = g' := by
  rcases Nat.lt_trichotomy g g' with h2 | h2 | h2
  · have := Spec.off_mono (show g + 1 ≤ g' from h2); have := h.2; have := h'.1; omega
  · exact h2
  · have := Spec.off_mono (show g' + 1 ≤ g from h2); have := h'.2; have := h.1; omega

/-- An index below the table's number of rows, in the column of indices. -/
theorem wrapped_at (n : BitVec 32) (y : IVec S130816 32) (j : Fin 130816) (k : ℕ) (hk : k < 2147483648) (hy : y (ix1 j) = BitVec.ofNat 32 k) :
    wrapped n y (ix2 j (0 : Fin 1)) = BitVec.ofNat 32 k := by
  unfold wrapped
  refine (bcCol _ _ j).trans ?_
  refine Eq.trans ?_ hy
  refine wrap_of_lt (w := 32) (y (ix1 j)) _ ?_
  rw [hy, BitVec.toNat_ofNat]
  omega

/-- Every index of the column is in the table. -/
theorem inside_at (n : ℕ) (hn : n < 2147483648) (i : IVec S130816x1 32) (hi : ∀ j : Fin 130816, ∃ k, k ≤ n ∧ i (ix2 j (0 : Fin 1)) = BitVec.ofNat 32 k) (j : S130816.Idx) :
    inside (BitVec.ofNat 32 n) i j = 1#1 := by
  unfold inside
  refine Host.reduce_andi_one _ _ _ _ _ rfl fun a => ?_
  obtain ⟨k, hk, h⟩ := hi (a 0)
  have ha : a = ix2 (a 0) (0 : Fin 1) := funext fun b => match b with
    | ⟨0, _⟩ => rfl
    | ⟨1, _⟩ => Subsingleton.elim (α := Fin 1) _ _
  replace h := (congrArg i ha).trans h
  show IntOp.andi (IntOp.cmpi .sge (i a) 0#32) (IntOp.cmpi .sle (i a) (BitVec.ofNat 32 n)) = 1#1
  rw [h, show IntOp.cmpi .sge (BitVec.ofNat 32 k) 0#32 = BitVec.ofBool (decide ((0#32).toInt ≤ (BitVec.ofNat 32 k).toInt)) from rfl,
    show IntOp.cmpi .sle (BitVec.ofNat 32 k) (BitVec.ofNat 32 n) = BitVec.ofBool (decide ((BitVec.ofNat 32 k).toInt ≤ (BitVec.ofNat 32 n).toInt)) from rfl,
    toInt_small k (by omega), toInt_small n hn, decide_eq_true (by show (0 : ℤ) ≤ _; omega), decide_eq_true (by omega)]
  rfl

theorem select_first {α : Type} {s : Shape} (c : IVec s 1) (a b : s.Idx → α) (i : s.Idx) (h : c i = 1#1) : select c a b i = a i := by
  show Scalar.select (c i) (a i) (b i) = a i
  rw [h]
  rfl

theorem owners_at (z : IVec S512 32) (hz : ∀ i : S512.Idx, z i = BitVec.ofNat 32 (i 0).val) (j : Fin 130816) :
    owners z (ix1 j) = BitVec.ofNat 32 (Nat.count (fun k => Table.off k ≤ j.val) 512 - 1) := by
  have hv : ∀ j : Fin 130816, group (marks (column (starts (moved z)))) (ix1 j) = BitVec.ofNat 32 (Nat.count (fun k => Table.off k ≤ j.val) 512 - 1) := fun j => by
    obtain ⟨h0, h1, -⟩ := grp_count j
    rw [group_at z hz]
    apply BitVec.eq_of_toNat_eq
    simp only [BitVec.toNat_sub, BitVec.toNat_ofNat]
    omega
  have hk : ∀ j : Fin 130816, Nat.count (fun k => Table.off k ≤ j.val) 512 - 1 < 512 := fun j => by
    obtain ⟨h0, h1, -⟩ := grp_count j
    omega
  have hw := fun j : Fin 130816 => wrapped_at 512#32 _ j _ (Nat.lt_trans (hk j) (by decide)) (hv j)
  unfold owners owner
  refine (select_first _ _ _ _ (inside_at 511 (by decide) _ (fun j => ⟨_, Nat.le_pred_of_lt (hk j), hw j⟩) (ix1 j))).trans ?_
  refine (take_ap _ rfl rfl rfl rfl _ _ j (hk j) (Nat.lt_trans (hk j) (by decide)) (hw j)).trans ?_
  rfl

/-- A row is added to group `g` just when it is in the group. -/
theorem owners_iff (z : IVec S512 32) (hz : ∀ i : S512.Idx, z i = BitVec.ofNat 32 (i 0).val) (j : Fin 130816) (g : Fin 512) :
    (owners z (ix1 j)).toInt = (g.val : ℤ) ↔ Spec.grp g.val j := by
  obtain ⟨h0, h1, h2⟩ := grp_count j
  rw [owners_at z hz, toInt_small _ (by omega)]
  constructor
  · intro h
    rw [show g.val = Nat.count (fun k => Table.off k ≤ j.val) 512 - 1 by omega]
    exact h2
  · intro h
    rw [grp_unique h2 h]

end Cert.Proof.Stage
-- ==== Proof.Value.Layers.lean ====
/-
  The reference program's layers at an index, over the extended reals.
-/
module

public import proofs.«01_k».proof.Proof.Value.Numbers
public import Idealize.ShloMosaic.Lib.Pipeline.ValueKit.Point

@[expose] public section

noncomputable section

namespace Cert.Proof.Stage

open Cert.ReferenceIdeal Cert.ReferenceIdeal.Gen
open Idealize.ShloMosaic

theorem ix1_eq {n : ℕ} (i : Fin n) : (ValueIdx.ix1 i : (Routing.shape1 n).Idx) = ix1 i := rfl

theorem ix2_eq {n k : ℕ} (i : Fin n) (j : Fin k) : (ValueIdx.ix2 i j : (Routing.shape2 n k).Idx) = ix2 i j := rfl

/-- A gathered row. -/
theorem rows_at (x : FVec Ideal S50000x128 .f32) (g : IVec S130816 32) (hg : ∀ j : S130816.Idx, (g j).toNat < 50000) (j : Fin 130816) (q : Fin 128) :
    rows x g (ix2 j q) = x (ix2 (Fin.ofNat 50000 (g (ix1 j)).toNat) q) := by
  have hw := fun j : Fin 130816 => wrapped_at 50000#32 g j (g (ix1 j)).toNat (Nat.lt_trans (hg _) (by decide)) (BitVec.eq_of_toNat_eq (by rw [BitVec.toNat_ofNat, Nat.mod_eq_of_lt (BitVec.isLt _)]; rfl))
  have hin := inside_at 49999 (by decide) _ (fun j => ⟨_, Nat.le_pred_of_lt (hg (ix1 j)), hw j⟩)
  unfold rows
  refine (select_first _ _ _ _ (by unfold broadcastInDim; exact hin _)).trans ?_
  refine (Routing.gather_row _ rfl rfl rfl rfl rfl x _ j q (Fin.ofNat 50000 (g (ix1 j)).toNat) ?_ (by decide)).trans rfl
  refine (hw j).trans (congrArg (BitVec.ofNat 32) ?_)
  exact (Nat.mod_eq_of_lt (hg (ix1 j))).symm

theorem layer1_at (x e : FVec Ideal S130816x128 .f32) (w : FVec Ideal S256x256 .f32) (b : FVec Ideal S256 .f32) (j : Fin 130816) (p : Fin 256) :
    layer1 x e w b (ix2 j p) = Spec.layer (fun q : Fin 128 => x (ix2 j q)) (fun q => e (ix2 j q)) (fun q p => w (ix2 (q.castLE (by decide) : Fin 256) p))
      (fun q p => w (ix2 (Fin.natAdd 128 q : Fin 256) p)) (fun p : Fin 256 => b (ix1 p)) p := by
  pointwise [layer1, Spec.layer]
  rfl

theorem layer2_at (x : FVec Ideal S130816x256 .f32) (w : FVec Ideal S256x256 .f32) (b : FVec Ideal S256 .f32) (j : Fin 130816) (k : Fin 256) :
    layer2 x w b (ix2 j k) = max ((∑ p : Fin 256, x (ix2 j p) * w (ix2 p k)) + b (ix1 k)) 0 := by
  pointwise [layer2]

theorem layer3_at (x : FVec Ideal S130816x256 .f32) (w : FVec Ideal S256x128 .f32) (b : FVec Ideal S128 .f32) (j : Fin 130816) (o : Fin 128) :
    layer3 x w b (ix2 j o) = (∑ k : Fin 256, x (ix2 j k) * w (ix2 k o)) + b (ix1 o) := by
  pointwise [layer3]

theorem last_at (a : FVec Ideal S512x128 .f32) (w : FVec Ideal S128x256 .f32) (b : FVec Ideal S256 .f32) (w' : FVec Ideal S256x128 .f32) (b' : FVec Ideal S128 .f32)
    (g : Fin 512) (o : Fin 128) :
    last a w b w' b' (ix2 g o) = Spec.fin2 (H := Fin 256) (fun q : Fin 128 => a (ix2 g q)) (fun q p => w (ix2 q p)) (fun p => b (ix1 p)) (fun p o => w' (ix2 p o))
      (fun o => b' (ix1 o)) o := by
  pointwise [last, Spec.fin2]

/-- The adding scatter, at an index. -/
theorem scatterAdd_at {s si su : Shape} (d : ScatterDims s si su) (x : FVec Ideal s .f32) (i : IVec si 32) (y : FVec Ideal su .f32) (p : s.Idx) :
    (Host.scatterAdd d x i y p : EReal) = x p + ∑ u ∈ Finset.univ.filter (fun u => d.resultIdx? u i = some p), (y u : EReal) := rfl

theorem zero_at (p : S512x128.Idx) :
    (broadcastInDim S512x128 ![] bcast_S_S512x128 (constant (F := Ideal) S_ .f32 0x00000000#32) : FVec Ideal S512x128 .f32) p = (0 : EReal) := by
  pointwise []

theorem idx_eta (u : S130816x128.Idx) : u = ix2 (u 0 : Fin 130816) (u 1 : Fin 128) := funext fun b => match b with
  | ⟨0, _⟩ => rfl
  | ⟨1, _⟩ => rfl

/-- A sum over the elements of column `o` in some rows is a sum over the rows. -/
theorem sum_column (P : S130816x128.Idx → Prop) [DecidablePred P] (Q : Fin 130816 → Prop) [DecidablePred Q] (o : Fin 128)
    (hP : ∀ (j : Fin 130816) (q : Fin 128), P (ix2 j q) ↔ Q j ∧ q = o) (y : S130816x128.Idx → EReal) :
    ∑ u ∈ Finset.univ.filter P, y u = ∑ j ∈ Finset.univ.filter Q, y (ix2 j o) := by
  have hu : ∀ u : S130816x128.Idx, P u → Q (u 0) ∧ u = ix2 (u 0 : Fin 130816) o := fun u h => by
    have h' := (hP (u 0) (u 1)).1 (Eq.mp (congrArg P (idx_eta u)) h)
    exact ⟨h'.1, (idx_eta u).trans (congrArg (fun q => (ix2 (u 0 : Fin 130816) q : S130816x128.Idx)) h'.2)⟩
  symm
  refine Finset.sum_bij (fun j _ => (ix2 j o : S130816x128.Idx)) (fun j h => ?_) (fun j _ k _ h => ?_) (fun u h => ?_) (fun j _ => rfl)
  · exact Finset.mem_filter.2 ⟨Finset.mem_univ _, (hP _ _).2 ⟨(Finset.mem_filter.1 h).2, rfl⟩⟩
  · exact congrFun h (0 : Fin 2)
  · have h' := hu u (Finset.mem_filter.1 h).2
    exact ⟨u 0, Finset.mem_filter.2 ⟨Finset.mem_univ _, h'.1⟩, h'.2.symm⟩

theorem lands_iff (z : IVec S512 32) (hz : ∀ i : S512.Idx, z i = BitVec.ofNat 32 (i 0).val) (g : Fin 512) (o : Fin 128) (j : Fin 130816) (q : Fin 128) :
    scatter_S512x128_S130816x1_S130816x128_1_0_0_1.resultIdx? (ix2 j q : S130816x128.Idx)
      (broadcastInDim S130816x1 ![0] bcast_S130816_S130816x1_0 (owners z)) = some (ix2 g o : S512x128.Idx) ↔ Spec.grp g.val j ∧ q = o := by
  refine (row_at j q _ g o).trans ?_
  rw [← owners_iff z hz j g]
  exact and_congr_left' (Eq.congr_left (congrArg BitVec.toInt (Routing.bcCol _ _ j)))

/-- A group's sum. -/
theorem sums_at (z : IVec S512 32) (hz : ∀ i : S512.Idx, z i = BitVec.ofNat 32 (i 0).val) (y : FVec Ideal S130816x128 .f32) (g : Fin 512) (o : Fin 128) :
    sums (owners z) y (ix2 g o) = ∑ j ∈ Finset.univ.filter (Spec.grp g.val), y (ix2 j o) := by
  unfold sums
  rw [scatterAdd_at, zero_at, zero_add]
  exact sum_column _ _ o (lands_iff z hz g o) y

end Cert.Proof.Stage

end
-- ==== Proof.Value.Answer.lean ====
/-
  The reference program's result as a function of its arguments, over the extended reals.
-/
module

public import proofs.«01_k».proof.Proof.Value.Layers
public import proofs.«01_k».proof.Proof.Value.Result

@[expose] public section

noncomputable section

namespace Cert.Proof.Stage

open Idealize.ShloMosaic

variable (A : Spec.Args)

theorem hidden_at (hg : ∀ j : Cert.KernelIdeal.S130816.Idx, (A.g j).toNat < 50000) (j : Fin 130816) (k : Fin 256) :
    layer2 (layer1 (rows A.x A.g) A.e A.w1 A.b1) A.w2 A.b2 (ix2 j k) = A.hidden j k := by
  refine (layer2_at _ _ _ j k).trans ?_
  unfold Spec.Args.hidden Spec.hid
  refine congrArg (fun v : EReal => max (v + A.b2 (ix1 k)) 0) (Finset.sum_congr rfl fun p _ => ?_)
  refine congrArg (fun v : EReal => v * A.w2 (ix2 p k)) ((layer1_at _ _ _ _ j p).trans ?_)
  refine congrArg (fun f : Fin 128 → EReal => Spec.layer f (fun q => A.e (ix2 j q)) (fun q p => A.w1 (ix2 (q.castLE (by decide) : Fin 256) p))
    (fun q p => A.w1 (ix2 (Fin.natAdd 128 q : Fin 256) p)) (fun p : Fin 256 => A.b1 (ix1 p)) p) (funext fun q => ?_)
  exact rows_at A.x A.g hg j q

theorem agg_at (z : IVec Cert.ReferenceIdeal.S512 32) (hz : ∀ i : Cert.ReferenceIdeal.S512.Idx, z i = BitVec.ofNat 32 (i 0).val)
    (hg : ∀ j : Cert.KernelIdeal.S130816.Idx, (A.g j).toNat < 50000) (g : Fin 512) (o : Fin 128) :
    sums (owners z) (layer3 (layer2 (layer1 (rows A.x A.g) A.e A.w1 A.b1) A.w2 A.b2) A.w3 A.b3) (ix2 g o) = A.agg g.val o := by
  refine (sums_at z hz _ g o).trans ?_
  unfold Spec.Args.agg
  refine Finset.sum_congr rfl fun j _ => (layer3_at _ _ _ j o).trans ?_
  refine congrArg (fun v : EReal => v + A.b3 (ix1 o)) (Finset.sum_congr rfl fun k _ => ?_)
  exact congrArg (fun v : EReal => v * A.w3 (ix2 k o)) (hidden_at A hg j k)

/-- The reference program's result at an index. -/
theorem result_at (z : IVec Cert.ReferenceIdeal.S512 32) (hz : ∀ i : Cert.ReferenceIdeal.S512.Idx, z i = BitVec.ofNat 32 (i 0).val)
    (hg : ∀ j : Cert.KernelIdeal.S130816.Idx, (A.g j).toNat < 50000) (g : Fin 512) (o : Fin 128) :
    result A.x A.g z A.e A.w1 A.b1 A.w2 A.b2 A.w3 A.b3 A.p1 A.c1 A.p2 A.c2 (ix2 g o) = A.result g o := by
  unfold result
  refine (last_at _ _ _ _ _ g o).trans ?_
  unfold Spec.Args.result
  exact congrArg (fun f : Fin 128 → EReal => Spec.fin2 (H := Fin 256) f (fun q p => A.p1 (ix2 q p)) (fun p => A.c1 (ix1 p)) (fun p o => A.p2 (ix2 p o))
    (fun o => A.c2 (ix1 o)) o) (funext fun q => agg_at A z hz hg g q)

end Cert.Proof.Stage

end
-- ==== Proof.Value.Equal.lean ====
/-
  The two programs end with the same result.
-/
module

public import proofs.«01_k».proof.Proof.Value.KernelValue
public import proofs.«01_k».proof.Proof.Value.Answer
public import proofs.«01_k».proof.Proof.Frames

@[expose] public section

noncomputable section

namespace Cert.Proof.Run

open Cert.KernelIdeal
open Idealize.ShloMosaic Idealize.ShloMosaic.TcCoe Idealize.SL.Sem

variable (m : (ℓ : Loc nD τ sig) → Buf (Elt Ideal) ℓ)

/-- The result of device `c`. -/
def answer (c : Dev nD) : Buf (Elt Ideal) ((c.tc : Thread nD τ).loc main_v14_0) :=
  (fun i => (args m c).result (i 0) (i 1) : S512x128.Idx → EReal)

theorem idx_two (i : S512x128.Idx) : i = ix2 (i 0 : Fin 512) (i 1 : Fin 128) := funext fun b => match b with
  | ⟨0, _⟩ => rfl
  | ⟨1, _⟩ => rfl

/-- The program ends with its result. -/
theorem ran_answer {r} (h : Ran m r) (c : Dev nD) : r.2.mem ((c.tc : Thread nD τ).loc main_v14_0) = answer m c := by
  obtain ⟨V, hV, hr⟩ := h.1 c
  refine (hr (Proc.devRef .tc main_v14_0) (by decide)).trans (funext fun i : S512x128.Idx => ?_)
  exact (congrArg (V (Proc.devRef .tc main_v14_0)) (idx_two i)).trans (ends_value hV (i 0) (i 1))

/-- So does the reference program. -/
theorem reference_answer (hpre : Cert.Pre_KernelIdeal m)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10))
    (e11 : m' ((c.tc : Thread Cert.ReferenceIdeal.nD Cert.ReferenceIdeal.τ).loc Cert.ReferenceIdeal.main_arg11) = m ((c.tc : Thread nD τ).loc main_arg11))
    (e12 : m' ((c.tc : Thread Cert.ReferenceIdeal.nD Cert.ReferenceIdeal.τ).loc Cert.ReferenceIdeal.main_arg12) = m ((c.tc : Thread nD τ).loc main_arg12))
    (e13 : m' ((c.tc : Thread Cert.ReferenceIdeal.nD Cert.ReferenceIdeal.τ).loc Cert.ReferenceIdeal.main_arg13) = m ((c.tc : Thread nD τ).loc main_arg13)) :
    Cert.ReferenceIdeal.Value.res_main_v45 (F := Ideal) m' c = answer m c := by
  obtain ⟨hg, hz⟩ := asked_iff m hpre c
  refine (Stage.res_eq m' c).trans ?_
  rw [e0, e1, e2, e3, e4, e5, e6, e7, e8, e9, e10, e11, e12, e13]
  refine funext fun i : S512x128.Idx => ?_
  refine (congrArg (Stage.result _ _ _ _ _ _ _ _ _ _ _ _ _ _) (idx_two i)).trans ?_
  exact Stage.result_at (args m c) (m ((c.tc : Thread nD τ).loc main_arg2)) hz hg (i 0) (i 1)

/-- The value claim. -/
theorem same_result : Cert.algebraic_KernelIdeal_ReferenceIdeal := fun m ρ m' ρ' hpre he =>
  ⟨answer m,
    (θ_run (Cert.KernelIdeal.defs (F := Ideal)) _ _).mono (fun _ h c => ⟨ran_answer m h c, ran_args m h c⟩) (run_main (F := Ideal) m ρ (rows_of m hpre)),
    (θ_run Cert.ReferenceIdeal.defs _ _).mono (fun r h c => ⟨(h c).1.trans (by
        obtain ⟨e0, e1, e2, e3, e4, e5, e6, e7, e8, e9, e10, e11, e12, e13⟩ := he c
        exact reference_answer m hpre m' c e0 e1 e2 e3 e4 e5 e6 e7 e8 e9 e10 e11 e12 e13), (h c).2⟩)
      (Cert.ReferenceIdeal.Value.run (F := Ideal) m' ρ')⟩

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_inputs
public import proofs.«01_k».proof.Proof.Frames
public import proofs.«01_k».proof.Proof.Bits.Frames
public import proofs.«01_k».proof.Proof.Reference
public import proofs.«01_k».proof.Proof.Value.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_inputs.Gen.facts, by
  exact ⟨Cert.Proof.Bits.frame_bits, Cert.Proof.Run.frame_ideal, Cert.Proof.Ref.frame, Cert.Proof.Ref.frame_inputs, trivial, Cert.Proof.Run.same_result⟩⟩

end Cert.Proof

end
